-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e_over_sqrt_d" .f32 0x3E0293EE#32 (((Real.sqrt 128)⁻¹ * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x254x16 : Shape := ⟨3, ![2, 254, 16]⟩
abbrev S2x16 : Shape := ⟨2, ![2, 16]⟩
abbrev S2x32512x2048 : Shape := ⟨3, ![2, 32512, 2048]⟩
abbrev S2x2048x32512 : Shape := ⟨3, ![2, 2048, 32512]⟩
abbrev S2x16x254 : Shape := ⟨3, ![2, 16, 254]⟩
abbrev S32x254 : Shape := ⟨2, ![32, 254]⟩
abbrev S32 : Shape := ⟨1, ![32]⟩
abbrev S2x32400x2048 : Shape := ⟨3, ![2, 32400, 2048]⟩
abbrev S1x256x128 : Shape := ⟨3, ![1, 256, 128]⟩
abbrev S1x32512x128 : Shape := ⟨3, ![1, 32512, 128]⟩
abbrev S1x128x32512 : Shape := ⟨3, ![1, 128, 32512]⟩
abbrev S32512x256 : Shape := ⟨2, ![32512, 256]⟩
abbrev S8x256 : Shape := ⟨2, ![8, 256]⟩
abbrev S256x256 : Shape := ⟨2, ![256, 256]⟩
abbrev S256x128 : Shape := ⟨2, ![256, 128]⟩
abbrev S1x1 : Shape := ⟨2, ![1, 1]⟩
abbrev S32x256 : Shape := ⟨2, ![32, 256]⟩
abbrev S4x8x256 : Shape := ⟨3, ![4, 8, 256]⟩
abbrev S1x8x256 : Shape := ⟨3, ![1, 8, 256]⟩
abbrev S1x128x256 : Shape := ⟨3, ![1, 128, 256]⟩
abbrev S128x256 : Shape := ⟨2, ![128, 256]⟩
abbrev S256 : Shape := ⟨1, ![256]⟩
abbrev S1x256 : Shape := ⟨2, ![1, 256]⟩
abbrev S1 : Shape := ⟨1, ![1]⟩

abbrev nBuf : Space → Nat
  | .hbm => 12
  | .vmem => 10
  | .smem => 3
  | _ => 0

abbrev bufTy : (tb : Table) → Fin (tcTables nBuf tb) → BufTy
  | .hbm, ⟨0, _⟩ => ⟨S2x254x16, .f32⟩
  | .hbm, ⟨1, _⟩ => ⟨S2x254x16, .f32⟩
  | .hbm, ⟨2, _⟩ => ⟨S2x16, .f32⟩
  | .hbm, ⟨3, _⟩ => ⟨S2x32512x2048, .fp8e4m3⟩
  | .hbm, ⟨4, _⟩ => ⟨S2x32512x2048, .fp8e4m3⟩
  | .hbm, ⟨5, _⟩ => ⟨S2x2048x32512, .fp8e4m3⟩
  | .hbm, ⟨6, _⟩ => ⟨S2x16x254, .f32⟩
  | .hbm, ⟨7, _⟩ => ⟨S32x254, .f32⟩
  | .hbm, ⟨8, _⟩ => ⟨S2x16x254, .f32⟩
  | .hbm, ⟨9, _⟩ => ⟨S32x254, .f32⟩
  | .hbm, ⟨10, _⟩ => ⟨S32, .f32⟩
  | .hbm, ⟨11, _⟩ => ⟨S2x32400x2048, .bf16⟩
  | .local _ .vmem, ⟨0, _⟩ => ⟨S1x256x128, .fp8e4m3⟩
  | .local _ .vmem, ⟨1, _⟩ => ⟨S1x256x128, .fp8e4m3⟩
  | .local _ .vmem, ⟨2, _⟩ => ⟨S1x32512x128, .fp8e4m3⟩
  | .local _ .vmem, ⟨3, _⟩ => ⟨S1x32512x128, .fp8e4m3⟩
  | .local _ .vmem, ⟨4, _⟩ => ⟨S1x128x32512, .fp8e4m3⟩
  | .local _ .vmem, ⟨5, _⟩ => ⟨S1x128x32512, .fp8e4m3⟩
  | .local _ .vmem, ⟨6, _⟩ => ⟨S1x256x128, .bf16⟩
  | .local _ .vmem, ⟨7, _⟩ => ⟨S1x256x128, .bf16⟩
  | .local _ .vmem, ⟨8, _⟩ => ⟨S32512x256, .f32⟩
  | .local _ .vmem, ⟨9, _⟩ => ⟨S8x256, .f32⟩
  | .local _ .smem, ⟨0, _⟩ => ⟨S32x254, .f32⟩
  | .local _ .smem, ⟨1, _⟩ => ⟨S32x254, .f32⟩
  | .local _ .smem, ⟨2, _⟩ => ⟨S32, .f32⟩
  | _, _ => ⟨S2x254x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![4065], ![false]⟩

def k0_cond1 (i : grid0.Coords) : BitVec 1 :=
  let arg0 : BitVec 32 := BitVec.ofNat 32 (i 0).val
  let c0_i32_19 : BitVec 32 := 0#32
  let v47 : BitVec 1 := Scalar.cmpi .eq arg0 c0_i32_19
  let v48 : BitVec 32 := Scalar.extui v47
  let c0_i32_20 : BitVec 32 := 0#32
  let v49 : BitVec 1 := Scalar.cmpi .ne v48 c0_i32_20
  v49

@[reducible] def k0_t1_loop : Scf.Loop 32 :=
  let c0_i32_21 : BitVec 32 := 0#32
  let c127_i32_22 : BitVec 32 := 127#32
  let v50 : BitVec 32 := Scalar.addi c0_i32_21 c127_i32_22
  let c1_i32_23 : BitVec 32 := 1#32
  ⟨c0_i32_21, v50, c1_i32_23⟩
def k0_mult1 (k0_t1 : Fin k0_t1_loop.trips) : BitVec 32 :=
  let c0_i32_21 : BitVec 32 := 0#32
  let c1_i32_23 : BitVec 32 := 1#32
  let arg10 : BitVec 32 := Scf.iv c0_i32_21 c1_i32_23 k0_t1
  let c256_i32 : BitVec 32 := 256#32
  let v56 : BitVec 32 := Scalar.muli arg10 c256_i32
  v56
def k0_off1 (k0_t1 : Fin k0_t1_loop.trips) : Fin 2 → Nat :=
  let c0_i32_21 : BitVec 32 := 0#32
  let c1_i32_23 : BitVec 32 := 1#32
  let arg10 : BitVec 32 := Scf.iv c0_i32_21 c1_i32_23 k0_t1
  let c256_i32 : BitVec 32 := 256#32
  let v56 : BitVec 32 := Scalar.muli arg10 c256_i32
  let v57 : BitVec 32 := v56
  let v58 : Index := Scalar.indexCast v57
  let c0_27 : Index := 0#32
  ![v58.toNat, 0]
def k0_off2 (i : grid0.Coords) : Fin 2 → Nat :=
  let arg0 : BitVec 32 := BitVec.ofNat 32 (i 0).val
  let c4063_i32 : BitVec 32 := 4063#32
  let v0 : BitVec 32 := Scalar.minsi arg0 c4063_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c127_i32 : BitVec 32 := 127#32
  let c0_i32_2 : BitVec 32 := 0#32
  let v9 : BitVec 1 := Scalar.cmpi .sgt c127_i32 c0_i32_2
  let v10 : BitVec 32 := Scalar.extui v9
  let c0_i32_3 : BitVec 32 := 0#32
  let v11 : BitVec 1 := Scalar.cmpi .slt c127_i32 c0_i32_3
  let v12 : BitVec 32 := Scalar.extui v11
  let v13 : BitVec 32 := Scalar.subi v10 v12
  let v14 : BitVec 1 := Scalar.cmpi .ne v8 v13
  let v15 : BitVec 32 := Scalar.remsi v0 c127_i32
  let c0_i32_4 : BitVec 32 := 0#32
  let v16 : BitVec 1 := Scalar.cmpi .ne v15 c0_i32_4
  let v17 : BitVec 1 := Scalar.andi v14 v16
  let v3 : BitVec 32 := Scalar.divsi v0 c127_i32
  let c1_i32_5 : BitVec 32 := 1#32
  let v18 : BitVec 32 := Scalar.subi v3 c1_i32_5
  let v19 : BitVec 32 := Scalar.select v17 v18 v3
  let v83_r0 : Index := Scalar.indexCast v19
  let c2_i32_r0 : BitVec 32 := 2#32
  let c127_i32_6 : BitVec 32 := 127#32
  let c0_i32_7 : BitVec 32 := 0#32
  let v20 : BitVec 1 := Scalar.cmpi .eq c127_i32_6 c0_i32_7
  let c1_i32_8 : BitVec 32 := 1#32
  let v21 : BitVec 32 := Scalar.select v20 c1_i32_8 c127_i32_6
  let v22 : BitVec 32 := Scalar.remsi v0 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let v82_r0 : BitVec 32 := Scalar.muli c2_i32_r0 v29
  let v84_r0 : Index := Scalar.indexCast v82_r0
  ![v83_r0.toNat, v84_r0.toNat]
def k0_off3 (i : grid0.Coords) : Fin 2 → Nat :=
  let arg0 : BitVec 32 := BitVec.ofNat 32 (i 0).val
  let c4063_i32 : BitVec 32 := 4063#32
  let v0 : BitVec 32 := Scalar.minsi arg0 c4063_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c127_i32 : BitVec 32 := 127#32
  let c0_i32_2 : BitVec 32 := 0#32
  let v9 : BitVec 1 := Scalar.cmpi .sgt c127_i32 c0_i32_2
  let v10 : BitVec 32 := Scalar.extui v9
  let c0_i32_3 : BitVec 32 := 0#32
  let v11 : BitVec 1 := Scalar.cmpi .slt c127_i32 c0_i32_3
  let v12 : BitVec 32 := Scalar.extui v11
  let v13 : BitVec 32 := Scalar.subi v10 v12
  let v14 : BitVec 1 := Scalar.cmpi .ne v8 v13
  let v15 : BitVec 32 := Scalar.remsi v0 c127_i32
  let c0_i32_4 : BitVec 32 := 0#32
  let v16 : BitVec 1 := Scalar.cmpi .ne v15 c0_i32_4
  let v17 : BitVec 1 := Scalar.andi v14 v16
  let v3 : BitVec 32 := Scalar.divsi v0 c127_i32
  let c1_i32_5 : BitVec 32 := 1#32
  let v18 : BitVec 32 := Scalar.subi v3 c1_i32_5
  let v19 : BitVec 32 := Scalar.select v17 v18 v3
  let v88_r0 : Index := Scalar.indexCast v19
  let c2_i32_30_r0 : BitVec 32 := 2#32
  let c127_i32_6 : BitVec 32 := 127#32
  let c0_i32_7 : BitVec 32 := 0#32
  let v20 : BitVec 1 := Scalar.cmpi .eq c127_i32_6 c0_i32_7
  let c1_i32_8 : BitVec 32 := 1#32
  let v21 : BitVec 32 := Scalar.select v20 c1_i32_8 c127_i32_6
  let v22 : BitVec 32 := Scalar.remsi v0 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let v86_r0 : BitVec 32 := Scalar.muli c2_i32_30_r0 v29
  let c1_i32_31_r0 : BitVec 32 := 1#32
  let v87_r0 : BitVec 32 := Scalar.addi v86_r0 c1_i32_31_r0
  let v89_r0 : Index := Scalar.indexCast v87_r0
  ![v88_r0.toNat, v89_r0.toNat]
def k0_off4 (i : grid0.Coords) : Fin 2 → Nat :=
  let arg0 : BitVec 32 := BitVec.ofNat 32 (i 0).val
  let c4063_i32 : BitVec 32 := 4063#32
  let v0 : BitVec 32 := Scalar.minsi arg0 c4063_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c127_i32 : BitVec 32 := 127#32
  let c0_i32_2 : BitVec 32 := 0#32
  let v9 : BitVec 1 := Scalar.cmpi .sgt c127_i32 c0_i32_2
  let v10 : BitVec 32 := Scalar.extui v9
  let c0_i32_3 : BitVec 32 := 0#32
  let v11 : BitVec 1 := Scalar.cmpi .slt c127_i32 c0_i32_3
  let v12 : BitVec 32 := Scalar.extui v11
  let v13 : BitVec 32 := Scalar.subi v10 v12
  let v14 : BitVec 1 := Scalar.cmpi .ne v8 v13
  let v15 : BitVec 32 := Scalar.remsi v0 c127_i32
  let c0_i32_4 : BitVec 32 := 0#32
  let v16 : BitVec 1 := Scalar.cmpi .ne v15 c0_i32_4
  let v17 : BitVec 1 := Scalar.andi v14 v16
  let v3 : BitVec 32 := Scalar.divsi v0 c127_i32
  let c1_i32_5 : BitVec 32 := 1#32
  let v18 : BitVec 32 := Scalar.subi v3 c1_i32_5
  let v19 : BitVec 32 := Scalar.select v17 v18 v3
  let v288_r0 : Index := Scalar.indexCast v19
  let c252_r0 : Index := 252#32
  ![v288_r0.toNat, 252]
def k0_off5 (i : grid0.Coords) : Fin 2 → Nat :=
  let arg0 : BitVec 32 := BitVec.ofNat 32 (i 0).val
  let c4063_i32 : BitVec 32 := 4063#32
  let v0 : BitVec 32 := Scalar.minsi arg0 c4063_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c127_i32 : BitVec 32 := 127#32
  let c0_i32_2 : BitVec 32 := 0#32
  let v9 : BitVec 1 := Scalar.cmpi .sgt c127_i32 c0_i32_2
  let v10 : BitVec 32 := Scalar.extui v9
  let c0_i32_3 : BitVec 32 := 0#32
  let v11 : BitVec 1 := Scalar.cmpi .slt c127_i32 c0_i32_3
  let v12 : BitVec 32 := Scalar.extui v11
  let v13 : BitVec 32 := Scalar.subi v10 v12
  let v14 : BitVec 1 := Scalar.cmpi .ne v8 v13
  let v15 : BitVec 32 := Scalar.remsi v0 c127_i32
  let c0_i32_4 : BitVec 32 := 0#32
  let v16 : BitVec 1 := Scalar.cmpi .ne v15 c0_i32_4
  let v17 : BitVec 1 := Scalar.andi v14 v16
  let v3 : BitVec 32 := Scalar.divsi v0 c127_i32
  let c1_i32_5 : BitVec 32 := 1#32
  let v18 : BitVec 32 := Scalar.subi v3 c1_i32_5
  let v19 : BitVec 32 := Scalar.select v17 v18 v3
  let v388_r0 : Index := Scalar.indexCast v19
  let c253_r0 : Index := 253#32
  ![v388_r0.toNat, 253]
@[reducible] def k0_t2_loop : Scf.Loop 32 :=
  let c0_i32_84_r0 : BitVec 32 := 0#32
  let c18_i32_r0 : BitVec 32 := 18#32
  let v404_r0 : BitVec 32 := Scalar.addi c0_i32_84_r0 c18_i32_r0
  let c1_i32_85_r0 : BitVec 32 := 1#32
  ⟨c0_i32_84_r0, v404_r0, c1_i32_85_r0⟩
def k0_mult2 (k0_t2 : Fin k0_t2_loop.trips) : BitVec 32 :=
  let c0_i32_84_r0 : BitVec 32 := 0#32
  let c1_i32_85_r0 : BitVec 32 := 1#32
  let arg10_r0 : BitVec 32 := Scf.iv c0_i32_84_r0 c1_i32_85_r0 k0_t2
  let c7_i32_r0 : BitVec 32 := 7#32
  let v433_r0 : BitVec 32 := Scalar.muli arg10_r0 c7_i32_r0
  let c0_i32_94_r0 : BitVec 32 := 0#32
  let v434_r0 : BitVec 32 := Scalar.addi v433_r0 c0_i32_94_r0
  let c256_i32_r0 : BitVec 32 := 256#32
  let v435_r0 : BitVec 32 := Scalar.muli v434_r0 c256_i32_r0
  v435_r0
def k0_off6 (k0_t2 : Fin k0_t2_loop.trips) (c0_i32_94_r0 : BitVec 32) (c0_i32_96_r0 : BitVec 32) : Fin 2 → Nat :=
  let c0_i32_84_r0 : BitVec 32 := 0#32
  let c1_i32_85_r0 : BitVec 32 := 1#32
  let arg10_r0 : BitVec 32 := Scf.iv c0_i32_84_r0 c1_i32_85_r0 k0_t2
  let c7_i32_r0 : BitVec 32 := 7#32
  let v433_r0 : BitVec 32 := Scalar.muli arg10_r0 c7_i32_r0
  let v434_r0 : BitVec 32 := Scalar.addi v433_r0 c0_i32_94_r0
  let c256_i32_r0 : BitVec 32 := 256#32
  let v435_r0 : BitVec 32 := Scalar.muli v434_r0 c256_i32_r0
  let v436_r0 : BitVec 32 := v435_r0
  let v438_r0 : BitVec 32 := Scalar.addi v436_r0 c0_i32_96_r0
  let v439_r0 : Index := Scalar.indexCast v438_r0
  let c0_97_r0 : Index := 0#32
  ![v439_r0.toNat, 0]
def k0_off7 (k0_t2 : Fin k0_t2_loop.trips) (c0_i32_94_r0 : BitVec 32) : Fin 3 → Nat :=
  let c0_114_r0 : Index := 0#32
  let c0_115_r0 : Index := 0#32
  let c0_i32_84_r0 : BitVec 32 := 0#32
  let c1_i32_85_r0 : BitVec 32 := 1#32
  let arg10_r0 : BitVec 32 := Scf.iv c0_i32_84_r0 c1_i32_85_r0 k0_t2
  let c7_i32_r0 : BitVec 32 := 7#32
  let v433_r0 : BitVec 32 := Scalar.muli arg10_r0 c7_i32_r0
  let v434_r0 : BitVec 32 := Scalar.addi v433_r0 c0_i32_94_r0
  let c256_i32_r0 : BitVec 32 := 256#32
  let v435_r0 : BitVec 32 := Scalar.muli v434_r0 c256_i32_r0
  let v436_r0 : BitVec 32 := v435_r0
  let v632_r0 : Index := Scalar.indexCast v436_r0
  ![0, 0, v632_r0.toNat]
def k0_off8 (k0_t2 : Fin k0_t2_loop.trips) (c0_i32_94_r0 : BitVec 32) : Fin 3 → Nat :=
  let c0_116_r0 : Index := 0#32
  let c0_i32_84_r0 : BitVec 32 := 0#32
  let c1_i32_85_r0 : BitVec 32 := 1#32
  let arg10_r0 : BitVec 32 := Scf.iv c0_i32_84_r0 c1_i32_85_r0 k0_t2
  let c7_i32_r0 : BitVec 32 := 7#32
  let v433_r0 : BitVec 32 := Scalar.muli arg10_r0 c7_i32_r0
  let v434_r0 : BitVec 32 := Scalar.addi v433_r0 c0_i32_94_r0
  let c256_i32_r0 : BitVec 32 := 256#32
  let v435_r0 : BitVec 32 := Scalar.muli v434_r0 c256_i32_r0
  let v436_r0 : BitVec 32 := v435_r0
  let v636_r0 : Index := Scalar.indexCast v436_r0
  let c0_117_r0 : Index := 0#32
  ![0, v636_r0.toNat, 0]
def k0_off9 (i : grid0.Coords) (k0_t2 : Fin k0_t2_loop.trips) (c0_i32_94_r0 : BitVec 32) (c0_i32_119_r0 : BitVec 32) : Fin 2 → Nat :=
  let arg0 : BitVec 32 := BitVec.ofNat 32 (i 0).val
  let c4063_i32 : BitVec 32 := 4063#32
  let v0 : BitVec 32 := Scalar.minsi arg0 c4063_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c127_i32 : BitVec 32 := 127#32
  let c0_i32_2 : BitVec 32 := 0#32
  let v9 : BitVec 1 := Scalar.cmpi .sgt c127_i32 c0_i32_2
  let v10 : BitVec 32 := Scalar.extui v9
  let c0_i32_3 : BitVec 32 := 0#32
  let v11 : BitVec 1 := Scalar.cmpi .slt c127_i32 c0_i32_3
  let v12 : BitVec 32 := Scalar.extui v11
  let v13 : BitVec 32 := Scalar.subi v10 v12
  let v14 : BitVec 1 := Scalar.cmpi .ne v8 v13
  let v15 : BitVec 32 := Scalar.remsi v0 c127_i32
  let c0_i32_4 : BitVec 32 := 0#32
  let v16 : BitVec 1 := Scalar.cmpi .ne v15 c0_i32_4
  let v17 : BitVec 1 := Scalar.andi v14 v16
  let v3 : BitVec 32 := Scalar.divsi v0 c127_i32
  let c1_i32_5 : BitVec 32 := 1#32
  let v18 : BitVec 32 := Scalar.subi v3 c1_i32_5
  let v19 : BitVec 32 := Scalar.select v17 v18 v3
  let v644_r0 : Index := Scalar.indexCast v19
  let c0_i32_84_r0 : BitVec 32 := 0#32
  let c1_i32_85_r0 : BitVec 32 := 1#32
  let arg10_r0 : BitVec 32 := Scf.iv c0_i32_84_r0 c1_i32_85_r0 k0_t2
  let c7_i32_r0 : BitVec 32 := 7#32
  let v433_r0 : BitVec 32 := Scalar.muli arg10_r0 c7_i32_r0
  let v434_r0 : BitVec 32 := Scalar.addi v433_r0 c0_i32_94_r0
  let c2_i32_95_r0 : BitVec 32 := 2#32
  let v437_r0 : BitVec 32 := Scalar.muli v434_r0 c2_i32_95_r0
  let v643_r0 : BitVec 32 := Scalar.addi v437_r0 c0_i32_119_r0
  let v645_r0 : Index := Scalar.indexCast v643_r0
  ![v644_r0.toNat, v645_r0.toNat]
def k0_off10 (k0_t2 : Fin k0_t2_loop.trips) (c0_i32_94_r0 : BitVec 32) (c0_i32_120_r0 : BitVec 32) : Fin 2 → Nat :=
  let c0_i32_84_r0 : BitVec 32 := 0#32
  let c1_i32_85_r0 : BitVec 32 := 1#32
  let arg10_r0 : BitVec 32 := Scf.iv c0_i32_84_r0 c1_i32_85_r0 k0_t2
  let c7_i32_r0 : BitVec 32 := 7#32
  let v433_r0 : BitVec 32 := Scalar.muli arg10_r0 c7_i32_r0
  let v434_r0 : BitVec 32 := Scalar.addi v433_r0 c0_i32_94_r0
  let c256_i32_r0 : BitVec 32 := 256#32
  let v435_r0 : BitVec 32 := Scalar.muli v434_r0 c256_i32_r0
  let v436_r0 : BitVec 32 := v435_r0
  let v652_r0 : BitVec 32 := Scalar.addi v436_r0 c0_i32_120_r0
  let v653_r0 : Index := Scalar.indexCast v652_r0
  let c0_121_r0 : Index := 0#32
  ![v653_r0.toNat, 0]
def k0_mult3 (k0_t2 : Fin k0_t2_loop.trips) : BitVec 32 :=
  let c0_i32_84_r0 : BitVec 32 := 0#32
  let c1_i32_85_r0 : BitVec 32 := 1#32
  let arg10_r0 : BitVec 32 := Scf.iv c0_i32_84_r0 c1_i32_85_r0 k0_t2
  let c7_i32_161_r0 : BitVec 32 := 7#32
  let v911_r0 : BitVec 32 := Scalar.muli arg10_r0 c7_i32_161_r0
  let c1_i32_162_r0 : BitVec 32 := 1#32
  let v912_r0 : BitVec 32 := Scalar.addi v911_r0 c1_i32_162_r0
  let c256_i32_163_r0 : BitVec 32 := 256#32
  let v913_r0 : BitVec 32 := Scalar.muli v912_r0 c256_i32_163_r0
  v913_r0
def k0_mult4 (k0_t2 : Fin k0_t2_loop.trips) : BitVec 32 :=
  let c0_i32_84_r0 : BitVec 32 := 0#32
  let c1_i32_85_r0 : BitVec 32 := 1#32
  let arg10_r0 : BitVec 32 := Scf.iv c0_i32_84_r0 c1_i32_85_r0 k0_t2
  let c7_i32_260_r0 : BitVec 32 := 7#32
  let v1389_r0 : BitVec 32 := Scalar.muli arg10_r0 c7_i32_260_r0
  let c2_i32_261_r0 : BitVec 32 := 2#32
  let v1390_r0 : BitVec 32 := Scalar.addi v1389_r0 c2_i32_261_r0
  let c256_i32_262_r0 : BitVec 32 := 256#32
  let v1391_r0 : BitVec 32 := Scalar.muli v1390_r0 c256_i32_262_r0
  v1391_r0
def k0_mult5 (k0_t2 : Fin k0_t2_loop.trips) : BitVec 32 :=
  let c0_i32_84_r0 : BitVec 32 := 0#32
  let c1_i32_85_r0 : BitVec 32 := 1#32
  let arg10_r0 : BitVec 32 := Scf.iv c0_i32_84_r0 c1_i32_85_r0 k0_t2
  let c7_i32_359_r0 : BitVec 32 := 7#32
  let v1867_r0 : BitVec 32 := Scalar.muli arg10_r0 c7_i32_359_r0
  let c3_i32_r0 : BitVec 32 := 3#32
  let v1868_r0 : BitVec 32 := Scalar.addi v1867_r0 c3_i32_r0
  let c256_i32_360_r0 : BitVec 32 := 256#32
  let v1869_r0 : BitVec 32 := Scalar.muli v1868_r0 c256_i32_360_r0
  v1869_r0
def k0_mult6 (k0_t2 : Fin k0_t2_loop.trips) : BitVec 32 :=
  let c0_i32_84_r0 : BitVec 32 := 0#32
  let c1_i32_85_r0 : BitVec 32 := 1#32
  let arg10_r0 : BitVec 32 := Scf.iv c0_i32_84_r0 c1_i32_85_r0 k0_t2
  let c7_i32_457_r0 : BitVec 32 := 7#32
  let v2345_r0 : BitVec 32 := Scalar.muli arg10_r0 c7_i32_457_r0
  let c4_i32_r0 : BitVec 32 := 4#32
  let v2346_r0 : BitVec 32 := Scalar.addi v2345_r0 c4_i32_r0
  let c256_i32_458_r0 : BitVec 32 := 256#32
  let v2347_r0 : BitVec 32 := Scalar.muli v2346_r0 c256_i32_458_r0
  v2347_r0
def k0_mult7 (k0_t2 : Fin k0_t2_loop.trips) : BitVec 32 :=
  let c0_i32_84_r0 : BitVec 32 := 0#32
  let c1_i32_85_r0 : BitVec 32 := 1#32
  let arg10_r0 : BitVec 32 := Scf.iv c0_i32_84_r0 c1_i32_85_r0 k0_t2
  let c7_i32_555_r0 : BitVec 32 := 7#32
  let v2823_r0 : BitVec 32 := Scalar.muli arg10_r0 c7_i32_555_r0
  let c5_i32_r0 : BitVec 32 := 5#32
  let v2824_r0 : BitVec 32 := Scalar.addi v2823_r0 c5_i32_r0
  let c256_i32_556_r0 : BitVec 32 := 256#32
  let v2825_r0 : BitVec 32 := Scalar.muli v2824_r0 c256_i32_556_r0
  v2825_r0
def k0_mult8 (k0_t2 : Fin k0_t2_loop.trips) : BitVec 32 :=
  let c0_i32_84_r0 : BitVec 32 := 0#32
  let c1_i32_85_r0 : BitVec 32 := 1#32
  let arg10_r0 : BitVec 32 := Scf.iv c0_i32_84_r0 c1_i32_85_r0 k0_t2
  let c7_i32_653_r0 : BitVec 32 := 7#32
  let v3301_r0 : BitVec 32 := Scalar.muli arg10_r0 c7_i32_653_r0
  let c6_i32_r0 : BitVec 32 := 6#32
  let v3302_r0 : BitVec 32 := Scalar.addi v3301_r0 c6_i32_r0
  let c256_i32_654_r0 : BitVec 32 := 256#32
  let v3303_r0 : BitVec 32 := Scalar.muli v3302_r0 c256_i32_654_r0
  v3303_r0
def k0_off11 (i : grid0.Coords) : Fin 1 → Nat :=
  let arg0 : BitVec 32 := BitVec.ofNat 32 (i 0).val
  let c1_i32 : BitVec 32 := 1#32
  let v1 : BitVec 32 := Scalar.subi arg0 c1_i32
  let c0_i32 : BitVec 32 := 0#32
  let v2 : BitVec 32 := Scalar.maxsi v1 c0_i32
  let c0_i32_13 : BitVec 32 := 0#32
  let v31 : BitVec 1 := Scalar.cmpi .sgt v2 c0_i32_13
  let v32 : BitVec 32 := Scalar.extui v31
  let c0_i32_14 : BitVec 32 := 0#32
  let v33 : BitVec 1 := Scalar.cmpi .slt v2 c0_i32_14
  let v34 : BitVec 32 := Scalar.extui v33
  let v35 : BitVec 32 := Scalar.subi v32 v34
  let c127_i32_12 : BitVec 32 := 127#32
  let c0_i32_15 : BitVec 32 := 0#32
  let v36 : BitVec 1 := Scalar.cmpi .sgt c127_i32_12 c0_i32_15
  let v37 : BitVec 32 := Scalar.extui v36
  let c0_i32_16 : BitVec 32 := 0#32
  let v38 : BitVec 1 := Scalar.cmpi .slt c127_i32_12 c0_i32_16
  let v39 : BitVec 32 := Scalar.extui v38
  let v40 : BitVec 32 := Scalar.subi v37 v39
  let v41 : BitVec 1 := Scalar.cmpi .ne v35 v40
  let v42 : BitVec 32 := Scalar.remsi v2 c127_i32_12
  let c0_i32_17 : BitVec 32 := 0#32
  let v43 : BitVec 1 := Scalar.cmpi .ne v42 c0_i32_17
  let v44 : BitVec 1 := Scalar.andi v41 v43
  let v30 : BitVec 32 := Scalar.divsi v2 c127_i32_12
  let c1_i32_18 : BitVec 32 := 1#32
  let v45 : BitVec 32 := Scalar.subi v30 c1_i32_18
  let v46 : BitVec 32 := Scalar.select v44 v45 v30
  let v422_r0 : Index := Scalar.indexCast v46
  ![v422_r0.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c4063_i32 : BitVec 32 := 4063#32
  let v0 : BitVec 32 := Scalar.minsi arg0 c4063_i32
  let c127_i32 : BitVec 32 := 127#32
  let v1 : BitVec 32 := Scalar.divsi v0 c127_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c127_i32 c0_i32_1
  let v8 : BitVec 32 := Scalar.extui v7
  let c0_i32_2 : BitVec 32 := 0#32
  let v9 : BitVec 1 := Scalar.cmpi .slt c127_i32 c0_i32_2
  let v10 : BitVec 32 := Scalar.extui v9
  let v11 : BitVec 32 := Scalar.subi v8 v10
  let v12 : BitVec 1 := Scalar.cmpi .ne v6 v11
  let v13 : BitVec 32 := Scalar.remsi v0 c127_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32 : BitVec 32 := 16#32
  let v18 : BitVec 32 := Scalar.divsi v17 c16_i32
  let c0_i32_4 : BitVec 32 := 0#32
  let v19 : BitVec 1 := Scalar.cmpi .sgt v17 c0_i32_4
  let v20 : BitVec 32 := Scalar.extui v19
  let c0_i32_5 : BitVec 32 := 0#32
  let v21 : BitVec 1 := Scalar.cmpi .slt v17 c0_i32_5
  let v22 : BitVec 32 := Scalar.extui v21
  let v23 : BitVec 32 := Scalar.subi v20 v22
  let c0_i32_6 : BitVec 32 := 0#32
  let v24 : BitVec 1 := Scalar.cmpi .sgt c16_i32 c0_i32_6
  let v25 : BitVec 32 := Scalar.extui v24
  let c0_i32_7 : BitVec 32 := 0#32
  let v26 : BitVec 1 := Scalar.cmpi .slt c16_i32 c0_i32_7
  let v27 : BitVec 32 := Scalar.extui v26
  let v28 : BitVec 32 := Scalar.subi v25 v27
  let v29 : BitVec 1 := Scalar.cmpi .ne v23 v28
  let v30 : BitVec 32 := Scalar.remsi v17 c16_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c16_i32_10 : BitVec 32 := 16#32
  let c0_i32_11 : BitVec 32 := 0#32
  let v35 : BitVec 1 := Scalar.cmpi .eq c16_i32_10 c0_i32_11
  let c1_i32_12 : BitVec 32 := 1#32
  let v36 : BitVec 32 := Scalar.select v35 c1_i32_12 c16_i32_10
  let v37 : BitVec 32 := Scalar.remsi v17 v36
  let c0_i32_13 : BitVec 32 := 0#32
  let v38 : BitVec 1 := Scalar.cmpi .ne v37 c0_i32_13
  let c0_i32_14 : BitVec 32 := 0#32
  let v39 : BitVec 1 := Scalar.cmpi .slt v37 c0_i32_14
  let c0_i32_15 : BitVec 32 := 0#32
  let v40 : BitVec 1 := Scalar.cmpi .slt v36 c0_i32_15
  let v41 : BitVec 1 := Scalar.xori v39 v40
  let v42 : BitVec 1 := Scalar.andi v41 v38
  let v43 : BitVec 32 := Scalar.addi v37 v36
  let v44 : BitVec 32 := Scalar.select v42 v43 v37
  let c127_i32_16 : BitVec 32 := 127#32
  let c0_i32_17 : BitVec 32 := 0#32
  let v45 : BitVec 1 := Scalar.cmpi .eq c127_i32_16 c0_i32_17
  let c1_i32_18 : BitVec 32 := 1#32
  let v46 : BitVec 32 := Scalar.select v45 c1_i32_18 c127_i32_16
  let v47 : BitVec 32 := Scalar.remsi v0 v46
  let c0_i32_19 : BitVec 32 := 0#32
  let v48 : BitVec 1 := Scalar.cmpi .ne v47 c0_i32_19
  let c0_i32_20 : BitVec 32 := 0#32
  let v49 : BitVec 1 := Scalar.cmpi .slt v47 c0_i32_20
  let c0_i32_21 : BitVec 32 := 0#32
  let v50 : BitVec 1 := Scalar.cmpi .slt v46 c0_i32_21
  let v51 : BitVec 1 := Scalar.xori v49 v50
  let v52 : BitVec 1 := Scalar.andi v51 v48
  let v53 : BitVec 32 := Scalar.addi v47 v46
  let v54 : BitVec 32 := Scalar.select v52 v53 v47
  let c0_i32_22 : BitVec 32 := 0#32
  ![v34.toNat, v54.toNat, v44.toNat]

def cc0_transform_4 (i : grid0.Coords) : Fin 3 → Nat :=
  let arg0 : BitVec 32 := BitVec.ofNat 32 (i 0).val
  let c4063_i32 : BitVec 32 := 4063#32
  let v0 : BitVec 32 := Scalar.minsi arg0 c4063_i32
  let c127_i32 : BitVec 32 := 127#32
  let v1 : BitVec 32 := Scalar.divsi v0 c127_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c127_i32 c0_i32_1
  let v8 : BitVec 32 := Scalar.extui v7
  let c0_i32_2 : BitVec 32 := 0#32
  let v9 : BitVec 1 := Scalar.cmpi .slt c127_i32 c0_i32_2
  let v10 : BitVec 32 := Scalar.extui v9
  let v11 : BitVec 32 := Scalar.subi v8 v10
  let v12 : BitVec 1 := Scalar.cmpi .ne v6 v11
  let v13 : BitVec 32 := Scalar.remsi v0 c127_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32 : BitVec 32 := 16#32
  let v18 : BitVec 32 := Scalar.divsi v17 c16_i32
  let c0_i32_4 : BitVec 32 := 0#32
  let v19 : BitVec 1 := Scalar.cmpi .sgt v17 c0_i32_4
  let v20 : BitVec 32 := Scalar.extui v19
  let c0_i32_5 : BitVec 32 := 0#32
  let v21 : BitVec 1 := Scalar.cmpi .slt v17 c0_i32_5
  let v22 : BitVec 32 := Scalar.extui v21
  let v23 : BitVec 32 := Scalar.subi v20 v22
  let c0_i32_6 : BitVec 32 := 0#32
  let v24 : BitVec 1 := Scalar.cmpi .sgt c16_i32 c0_i32_6
  let v25 : BitVec 32 := Scalar.extui v24
  let c0_i32_7 : BitVec 32 := 0#32
  let v26 : BitVec 1 := Scalar.cmpi .slt c16_i32 c0_i32_7
  let v27 : BitVec 32 := Scalar.extui v26
  let v28 : BitVec 32 := Scalar.subi v25 v27
  let v29 : BitVec 1 := Scalar.cmpi .ne v23 v28
  let v30 : BitVec 32 := Scalar.remsi v17 c16_i32
  let c0_i32_8 : BitVec 32 := 0#32
  let v31 : BitVec 1 := Scalar.cmpi .ne v30 c0_i32_8
  let v32 : BitVec 1 := Scalar.andi v29 v31
  let c1_i32_9 : BitVec 32 := 1#32
  let v33 : BitVec 32 := Scalar.subi v18 c1_i32_9
  let v34 : BitVec 32 := Scalar.select v32 v33 v18
  let c16_i32_10 : BitVec 32 := 16#32
  let c0_i32_11 : BitVec 32 := 0#32
  let v35 : BitVec 1 := Scalar.cmpi .eq c16_i32_10 c0_i32_11
  let c1_i32_12 : BitVec 32 := 1#32
  let v36 : BitVec 32 := Scalar.select v35 c1_i32_12 c16_i32_10
  let v37 : BitVec 32 := Scalar.remsi v17 v36
  let c0_i32_13 : BitVec 32 := 0#32
  let v38 : BitVec 1 := Scalar.cmpi .ne v37 c0_i32_13
  let c0_i32_14 : BitVec 32 := 0#32
  let v39 : BitVec 1 := Scalar.cmpi .slt v37 c0_i32_14
  let c0_i32_15 : BitVec 32 := 0#32
  let v40 : BitVec 1 := Scalar.cmpi .slt v36 c0_i32_15
  let v41 : BitVec 1 := Scalar.xori v39 v40
  let v42 : BitVec 1 := Scalar.andi v41 v38
  let v43 : BitVec 32 := Scalar.addi v37 v36
  let v44 : BitVec 32 := Scalar.select v42 v43 v37
  let c127_i32_16 : BitVec 32 := 127#32
  let c0_i32_17 : BitVec 32 := 0#32
  let v45 : BitVec 1 := Scalar.cmpi .eq c127_i32_16 c0_i32_17
  let c1_i32_18 : BitVec 32 := 1#32
  let v46 : BitVec 32 := Scalar.select v45 c1_i32_18 c127_i32_16
  let v47 : BitVec 32 := Scalar.remsi v0 v46
  let c0_i32_19 : BitVec 32 := 0#32
  let v48 : BitVec 1 := Scalar.cmpi .ne v47 c0_i32_19
  let c0_i32_20 : BitVec 32 := 0#32
  let v49 : BitVec 1 := Scalar.cmpi .slt v47 c0_i32_20
  let c0_i32_21 : BitVec 32 := 0#32
  let v50 : BitVec 1 := Scalar.cmpi .slt v46 c0_i32_21
  let v51 : BitVec 1 := Scalar.xori v49 v50
  let v52 : BitVec 1 := Scalar.andi v51 v48
  let v53 : BitVec 32 := Scalar.addi v47 v46
  let v54 : BitVec 32 := Scalar.select v52 v53 v47
  let c0_i32_22 : BitVec 32 := 0#32
  let c0_i32_23 : BitVec 32 := 0#32
  ![v34.toNat, c0_i32_22.toNat, v44.toNat]

def cc0_transform_5 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4063_i32 : BitVec 32 := 4063#32
  let v2 : BitVec 32 := Scalar.minsi v1 c4063_i32
  let c127_i32 : BitVec 32 := 127#32
  let v3 : BitVec 32 := Scalar.divsi v2 c127_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c127_i32 c0_i32_2
  let v10 : BitVec 32 := Scalar.extui v9
  let c0_i32_3 : BitVec 32 := 0#32
  let v11 : BitVec 1 := Scalar.cmpi .slt c127_i32 c0_i32_3
  let v12 : BitVec 32 := Scalar.extui v11
  let v13 : BitVec 32 := Scalar.subi v10 v12
  let v14 : BitVec 1 := Scalar.cmpi .ne v8 v13
  let v15 : BitVec 32 := Scalar.remsi v2 c127_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c16_i32 : BitVec 32 := 16#32
  let v20 : BitVec 32 := Scalar.divsi v19 c16_i32
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c0_i32_8 : BitVec 32 := 0#32
  let v26 : BitVec 1 := Scalar.cmpi .sgt c16_i32 c0_i32_8
  let v27 : BitVec 32 := Scalar.extui v26
  let c0_i32_9 : BitVec 32 := 0#32
  let v28 : BitVec 1 := Scalar.cmpi .slt c16_i32 c0_i32_9
  let v29 : BitVec 32 := Scalar.extui v28
  let v30 : BitVec 32 := Scalar.subi v27 v29
  let v31 : BitVec 1 := Scalar.cmpi .ne v25 v30
  let v32 : BitVec 32 := Scalar.remsi v19 c16_i32
  let c0_i32_10 : BitVec 32 := 0#32
  let v33 : BitVec 1 := Scalar.cmpi .ne v32 c0_i32_10
  let v34 : BitVec 1 := Scalar.andi v31 v33
  let c1_i32_11 : BitVec 32 := 1#32
  let v35 : BitVec 32 := Scalar.subi v20 c1_i32_11
  let v36 : BitVec 32 := Scalar.select v34 v35 v20
  let c16_i32_12 : BitVec 32 := 16#32
  let c0_i32_13 : BitVec 32 := 0#32
  let v37 : BitVec 1 := Scalar.cmpi .eq c16_i32_12 c0_i32_13
  let c1_i32_14 : BitVec 32 := 1#32
  let v38 : BitVec 32 := Scalar.select v37 c1_i32_14 c16_i32_12
  let v39 : BitVec 32 := Scalar.remsi v19 v38
  let c0_i32_15 : BitVec 32 := 0#32
  let v40 : BitVec 1 := Scalar.cmpi .ne v39 c0_i32_15
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let v44 : BitVec 1 := Scalar.andi v43 v40
  let v45 : BitVec 32 := Scalar.addi v39 v38
  let v46 : BitVec 32 := Scalar.select v44 v45 v39
  let c127_i32_18 : BitVec 32 := 127#32
  let c0_i32_19 : BitVec 32 := 0#32
  let v47 : BitVec 1 := Scalar.cmpi .eq c127_i32_18 c0_i32_19
  let c1_i32_20 : BitVec 32 := 1#32
  let v48 : BitVec 32 := Scalar.select v47 c1_i32_20 c127_i32_18
  let v49 : BitVec 32 := Scalar.remsi v2 v48
  let c0_i32_21 : BitVec 32 := 0#32
  let v50 : BitVec 1 := Scalar.cmpi .ne v49 c0_i32_21
  let c0_i32_22 : BitVec 32 := 0#32
  let v51 : BitVec 1 := Scalar.cmpi .slt v49 c0_i32_22
  let c0_i32_23 : BitVec 32 := 0#32
  let v52 : BitVec 1 := Scalar.cmpi .slt v48 c0_i32_23
  let v53 : BitVec 1 := Scalar.xori v51 v52
  let v54 : BitVec 1 := Scalar.andi v53 v50
  let v55 : BitVec 32 := Scalar.addi v49 v48
  let v56 : BitVec 32 := Scalar.select v54 v55 v49
  let c0_i32_24 : BitVec 32 := 0#32
  let c0_i32_25 : BitVec 32 := 0#32
  ![v36.toNat, v46.toNat, c0_i32_24.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4063_i32 : BitVec 32 := 4063#32
  let v2 : BitVec 32 := Scalar.minsi v1 c4063_i32
  let c127_i32 : BitVec 32 := 127#32
  let v3 : BitVec 32 := Scalar.divsi v2 c127_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c127_i32 c0_i32_2
  let v10 : BitVec 32 := Scalar.extui v9
  let c0_i32_3 : BitVec 32 := 0#32
  let v11 : BitVec 1 := Scalar.cmpi .slt c127_i32 c0_i32_3
  let v12 : BitVec 32 := Scalar.extui v11
  let v13 : BitVec 32 := Scalar.subi v10 v12
  let v14 : BitVec 1 := Scalar.cmpi .ne v8 v13
  let v15 : BitVec 32 := Scalar.remsi v2 c127_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c16_i32 : BitVec 32 := 16#32
  let v20 : BitVec 32 := Scalar.divsi v19 c16_i32
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c0_i32_8 : BitVec 32 := 0#32
  let v26 : BitVec 1 := Scalar.cmpi .sgt c16_i32 c0_i32_8
  let v27 : BitVec 32 := Scalar.extui v26
  let c0_i32_9 : BitVec 32 := 0#32
  let v28 : BitVec 1 := Scalar.cmpi .slt c16_i32 c0_i32_9
  let v29 : BitVec 32 := Scalar.extui v28
  let v30 : BitVec 32 := Scalar.subi v27 v29
  let v31 : BitVec 1 := Scalar.cmpi .ne v25 v30
  let v32 : BitVec 32 := Scalar.remsi v19 c16_i32
  let c0_i32_10 : BitVec 32 := 0#32
  let v33 : BitVec 1 := Scalar.cmpi .ne v32 c0_i32_10
  let v34 : BitVec 1 := Scalar.andi v31 v33
  let c1_i32_11 : BitVec 32 := 1#32
  let v35 : BitVec 32 := Scalar.subi v20 c1_i32_11
  let v36 : BitVec 32 := Scalar.select v34 v35 v20
  let c16_i32_12 : BitVec 32 := 16#32
  let c0_i32_13 : BitVec 32 := 0#32
  let v37 : BitVec 1 := Scalar.cmpi .eq c16_i32_12 c0_i32_13
  let c1_i32_14 : BitVec 32 := 1#32
  let v38 : BitVec 32 := Scalar.select v37 c1_i32_14 c16_i32_12
  let v39 : BitVec 32 := Scalar.remsi v19 v38
  let c0_i32_15 : BitVec 32 := 0#32
  let v40 : BitVec 1 := Scalar.cmpi .ne v39 c0_i32_15
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let v44 : BitVec 1 := Scalar.andi v43 v40
  let v45 : BitVec 32 := Scalar.addi v39 v38
  let v46 : BitVec 32 := Scalar.select v44 v45 v39
  let c127_i32_18 : BitVec 32 := 127#32
  let c0_i32_19 : BitVec 32 := 0#32
  let v47 : BitVec 1 := Scalar.cmpi .eq c127_i32_18 c0_i32_19
  let c1_i32_20 : BitVec 32 := 1#32
  let v48 : BitVec 32 := Scalar.select v47 c1_i32_20 c127_i32_18
  let v49 : BitVec 32 := Scalar.remsi v2 v48
  let c0_i32_21 : BitVec 32 := 0#32
  let v50 : BitVec 1 := Scalar.cmpi .ne v49 c0_i32_21
  let c0_i32_22 : BitVec 32 := 0#32
  let v51 : BitVec 1 := Scalar.cmpi .slt v49 c0_i32_22
  let c0_i32_23 : BitVec 32 := 0#32
  let v52 : BitVec 1 := Scalar.cmpi .slt v48 c0_i32_23
  let v53 : BitVec 1 := Scalar.xori v51 v52
  let v54 : BitVec 1 := Scalar.andi v53 v50
  let v55 : BitVec 32 := Scalar.addi v49 v48
  let v56 : BitVec 32 := Scalar.select v54 v55 v49
  let c0_i32_24 : BitVec 32 := 0#32
  ![v36.toNat, v56.toNat, v46.toNat]

abbrev stage0_0 : Fin 1 → Memref sig .tc .smem S32x254 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S32x254 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32512x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x32512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "log2e_over_sqrt_d" => some (((Real.sqrt 128)⁻¹ * (Real.log 2)⁻¹ : ℝ) : EReal)
  | "mask" => some ⊥
  | _ => none
-- ==== ReferenceIdeal.lean ====
abbrev S2x254x16 : Shape := ⟨3, ![2, 254, 16]⟩
abbrev S2x16 : Shape := ⟨2, ![2, 16]⟩
abbrev S2x32512x2048 : Shape := ⟨3, ![2, 32512, 2048]⟩
abbrev S2x2048x32512 : Shape := ⟨3, ![2, 2048, 32512]⟩
abbrev S2x32512x16x128 : Shape := ⟨4, ![2, 32512, 16, 128]⟩
abbrev S2x32400x16x128 : Shape := ⟨4, ![2, 32400, 16, 128]⟩
abbrev S2x16x128x32512 : Shape := ⟨4, ![2, 16, 128, 32512]⟩
abbrev S2x16x128x32400 : Shape := ⟨4, ![2, 16, 128, 32400]⟩
abbrev S2x16x32512x32400 : Shape := ⟨4, ![2, 16, 32512, 32400]⟩
abbrev S2x254x1x16 : Shape := ⟨4, ![2, 254, 1, 16]⟩
abbrev S2x254x128x16 : Shape := ⟨4, ![2, 254, 128, 16]⟩
abbrev S2x32512x16 : Shape := ⟨3, ![2, 32512, 16]⟩
abbrev S2x16x32512 : Shape := ⟨3, ![2, 16, 32512]⟩
abbrev S2x16x32512x1 : Shape := ⟨4, ![2, 16, 32512, 1]⟩
abbrev S2x16x32400 : Shape := ⟨3, ![2, 16, 32400]⟩
abbrev S2x16x1x32400 : Shape := ⟨4, ![2, 16, 1, 32400]⟩
abbrev S_ : Shape := ⟨0, ![]⟩
abbrev S2x1x16x1 : Shape := ⟨4, ![2, 1, 16, 1]⟩
abbrev S2x32512x16x1 : Shape := ⟨4, ![2, 32512, 16, 1]⟩
abbrev S2x32400x2048 : Shape := ⟨3, ![2, 32400, 2048]⟩

abbrev nBuf : Space → Nat
  | .hbm => 83
  | .vmem => 6
  | .smem => 0
  | _ => 0

abbrev bufTy : (tb : Table) → Fin (tcTables nBuf tb) → BufTy
  | .hbm, ⟨0, _⟩ => ⟨S2x254x16, .f32⟩
  | .hbm, ⟨1, _⟩ => ⟨S2x254x16, .f32⟩
  | .hbm, ⟨2, _⟩ => ⟨S2x16, .f32⟩
  | .hbm, ⟨3, _⟩ => ⟨S2x32512x2048, .fp8e4m3⟩
  | .hbm, ⟨4, _⟩ => ⟨S2x32512x2048, .fp8e4m3⟩
  | .hbm, ⟨5, _⟩ => ⟨S2x2048x32512, .fp8e4m3⟩
  | .hbm, ⟨6, _⟩ => ⟨S2x32512x2048, .f32⟩
  | .hbm, ⟨7, _⟩ => ⟨S2x32512x2048, .f32⟩
  | .hbm, ⟨8, _⟩ => ⟨S2x2048x32512, .f32⟩
  | .hbm, ⟨9, _⟩ => ⟨S2x32512x16x128, .f32⟩
  | .hbm, ⟨10, _⟩ => ⟨S2x32512x16x128, .f32⟩
  | .hbm, ⟨11, _⟩ => ⟨S2x32400x16x128, .f32⟩
  | .hbm, ⟨12, _⟩ => ⟨S2x16x128x32512, .f32⟩
  | .hbm, ⟨13, _⟩ => ⟨S2x16x128x32400, .f32⟩
  | .hbm, ⟨14, _⟩ => ⟨S2x16x32512x32400, .f32⟩
  | .hbm, ⟨15, _⟩ => ⟨S2x254x1x16, .f32⟩
  | .hbm, ⟨16, _⟩ => ⟨S2x254x128x16, .f32⟩
  | .hbm, ⟨17, _⟩ => ⟨S2x32512x16, .f32⟩
  | .hbm, ⟨18, _⟩ => ⟨S2x16x32512, .f32⟩
  | .hbm, ⟨19, _⟩ => ⟨S2x16x32512x1, .f32⟩
  | .hbm, ⟨20, _⟩ => ⟨S2x16x32512x32400, .f32⟩
  | .hbm, ⟨21, _⟩ => ⟨S2x16x32512x32400, .f32⟩
  | .hbm, ⟨22, _⟩ => ⟨S2x254x1x16, .f32⟩
  | .hbm, ⟨23, _⟩ => ⟨S2x254x128x16, .f32⟩
  | .hbm, ⟨24, _⟩ => ⟨S2x32512x16, .f32⟩
  | .hbm, ⟨25, _⟩ => ⟨S2x16x32512, .f32⟩
  | .hbm, ⟨26, _⟩ => ⟨S2x16x32400, .f32⟩
  | .hbm, ⟨27, _⟩ => ⟨S2x16x1x32400, .f32⟩
  | .hbm, ⟨28, _⟩ => ⟨S2x16x32512x32400, .f32⟩
  | .hbm, ⟨29, _⟩ => ⟨S2x16x32512x32400, .f32⟩
  | .hbm, ⟨30, _⟩ => ⟨S_, .f32⟩
  | .hbm, ⟨31, _⟩ => ⟨S_, .f32⟩
  | .hbm, ⟨32, _⟩ => ⟨S2x16x32512x32400, .f32⟩
  | .hbm, ⟨33, _⟩ => ⟨S2x16x32512x32400, .f32⟩
  | .hbm, ⟨34, _⟩ => ⟨S_, .f32⟩
  | .hbm, ⟨35, _⟩ => ⟨S2x16x32512, .f32⟩
  | .hbm, ⟨36, _⟩ => ⟨S2x16x32512x1, .f32⟩
  | .hbm, ⟨37, _⟩ => ⟨S2x16x32512x32400, .f32⟩
  | .hbm, ⟨38, _⟩ => ⟨S2x16x32512x32400, .f32⟩
  | .hbm, ⟨39, _⟩ => ⟨S2x16x32512x32400, .f32⟩
  | .hbm, ⟨40, _⟩ => ⟨S_, .f32⟩
  | .hbm, ⟨41, _⟩ => ⟨S2x16x32512, .f32⟩
  | .hbm, ⟨42, _⟩ => ⟨S_, .f32⟩
  | .hbm, ⟨43, _⟩ => ⟨S2x16x32512x32400, .f32⟩
  | .hbm, ⟨44, _⟩ => ⟨S2x16x32512x32400, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S2x16x32512x32400, .f32⟩
  | .hbm, ⟨49, _⟩ => ⟨S2x16x32512x32400, .f32⟩
  | .hbm, ⟨50, _⟩ => ⟨S_, .f32⟩
  | .hbm, ⟨51, _⟩ => ⟨S2x16x32512x32400, .f32⟩
  | .hbm, ⟨52, _⟩ => ⟨S2x16x32512x32400, .f32⟩
  | .hbm, ⟨53, _⟩ => ⟨S_, .f32⟩
  | .hbm, ⟨54, _⟩ => ⟨S2x16x32512x32400, .f32⟩
  | .hbm, ⟨55, _⟩ => ⟨S2x16x32512x32400, .f32⟩
  | .hbm, ⟨56, _⟩ => ⟨S_, .f32⟩
  | .hbm, ⟨57, _⟩ => ⟨S2x16x32512x32400, .f32⟩
  | .hbm, ⟨58, _⟩ => ⟨S2x16x32512x32400, .i1⟩
  | .hbm, ⟨59, _⟩ => ⟨S_, .f32⟩
  | .hbm, ⟨60, _⟩ => ⟨S2x16x32512x32400, .f32⟩
  | .hbm, ⟨61, _⟩ => ⟨S2x16x32512x32400, .f32⟩
  | .hbm, ⟨62, _⟩ => ⟨S_, .f32⟩
  | .hbm, ⟨63, _⟩ => ⟨S2x16x32512x32400, .f32⟩
  | .hbm, ⟨64, _⟩ => ⟨S2x16x32512x32400, .f32⟩
  | .hbm, ⟨65, _⟩ => ⟨S2x16x32512x32400, .f32⟩
  | .hbm, ⟨66, _⟩ => ⟨S2x16x32512x32400, .f32⟩
  | .hbm, ⟨67, _⟩ => ⟨S2x16x32512x32400, .f32⟩
  | .hbm, ⟨68, _⟩ => ⟨S2x16x128x32512, .f32⟩
  | .hbm, ⟨69, _⟩ => ⟨S2x32512x16x128, .f32⟩
  | .hbm, ⟨70, _⟩ => ⟨S_, .f32⟩
  | .hbm, ⟨71, _⟩ => ⟨S2x16, .f32⟩
  | .hbm, ⟨72, _⟩ => ⟨S2x16, .f32⟩
  | .hbm, ⟨73, _⟩ => ⟨S2x1x16x1, .f32⟩
  | .hbm, ⟨74, _⟩ => ⟨S2x32512x16x128, .f32⟩
  | .hbm, ⟨75, _⟩ => ⟨S2x32512x16x128, .f32⟩
  | .hbm, ⟨76, _⟩ => ⟨S2x32512x16, .f32⟩
  | .hbm, ⟨77, _⟩ => ⟨S2x32512x16x1, .f32⟩
  | .hbm, ⟨78, _⟩ => ⟨S2x32512x16x128, .f32⟩
  | .hbm, ⟨79, _⟩ => ⟨S2x32512x16x128, .f32⟩
  | .hbm, ⟨80, _⟩ => ⟨S2x32512x16x128, .bf16⟩
  | .hbm, ⟨81, _⟩ => ⟨S2x32512x2048, .bf16⟩
  | .hbm, ⟨82, _⟩ => ⟨S2x32400x2048, .bf16⟩
  | .local _ .vmem, ⟨0, _⟩ => ⟨S2x32512x2048, .fp8e4m3⟩
  | .local _ .vmem, ⟨1, _⟩ => ⟨S2x32512x2048, .fp8e4m3⟩
  | .local _ .vmem, ⟨2, _⟩ => ⟨S2x2048x32512, .fp8e4m3⟩
  | .local _ .vmem, ⟨3, _⟩ => ⟨S2x32512x2048, .f32⟩
  | .local _ .vmem, ⟨4, _⟩ => ⟨S2x32512x2048, .f32⟩
  | .local _ .vmem, ⟨5, _⟩ => ⟨S2x2048x32512, .f32⟩
  | _, _ => ⟨S2x254x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_cst_4 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x32512x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x32512x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x2048x32512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x32512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x32512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x2048x32512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Tile.lean ====
/- The attention kernel's body, written as a composition of small pieces: the reading of a row group of the score buffer, the
   writing of one, one whole tile, the tail tile and the finish. Everything here is generic in the number model, the signature and
   the buffers, so the same pieces serve the kernel as it is and the kernel with its constants named. -/
module

public import Idealize.ShloMosaic.Lib.Pipeline
public import Idealize.ShloMosaic.Lib.Scf
public import Idealize.ShloMosaic.Lib.Sig
public import Idealize.ShloMosaic.Lib.StableHlo
public import Idealize.ShloMosaic.PureOps
public import Idealize.ShloMosaic.PureOps.Ideal
public import Idealize.ShloMosaic.Lib.Mxu

@[expose] public section

set_option synthInstance.maxSize 4096

noncomputable section

namespace Attn

open Idealize.ShloMosaic Idealize.SL.Sem

abbrev S32x254 : Shape := ⟨2, ![32, 254]⟩
abbrev S32 : Shape := ⟨1, ![32]⟩
abbrev S1x256x128 : Shape := ⟨3, ![1, 256, 128]⟩
abbrev S1x32512x128 : Shape := ⟨3, ![1, 32512, 128]⟩
abbrev S1x128x32512 : Shape := ⟨3, ![1, 128, 32512]⟩
abbrev S32512x256 : Shape := ⟨2, ![32512, 256]⟩
abbrev S8x256 : Shape := ⟨2, ![8, 256]⟩
abbrev S256x256 : Shape := ⟨2, ![256, 256]⟩
abbrev S256x128 : Shape := ⟨2, ![256, 128]⟩
abbrev S1x1 : Shape := ⟨2, ![1, 1]⟩
abbrev S32x256 : Shape := ⟨2, ![32, 256]⟩
abbrev S4x8x256 : Shape := ⟨3, ![4, 8, 256]⟩
abbrev S1x8x256 : Shape := ⟨3, ![1, 8, 256]⟩
abbrev S1x128x256 : Shape := ⟨3, ![1, 128, 256]⟩
abbrev S128x256 : Shape := ⟨2, ![128, 256]⟩
abbrev S256 : Shape := ⟨1, ![256]⟩
abbrev S1x256 : Shape := ⟨2, ![1, 256]⟩
abbrev S1 : Shape := ⟨1, ![1]⟩

theorem h_S32x256 : 0 < S32x256.numel := by decide
theorem h_S8x256 : 0 < S8x256.numel := by decide
theorem h_S1x128x256 : 0 < S1x128x256.numel := by decide
theorem h_S1x256x128 : 0 < S1x256x128.numel := by decide
theorem numel1_S1x1 : S1x1.numel = 1 := by decide
theorem numel1_S1 : S1.numel = 1 := by decide
theorem sc_32x256_4x8x256 : S32x256.ShapeCasts S4x8x256 := by decide
theorem sc_4x8x256_32x256 : S4x8x256.ShapeCasts S32x256 := by decide
theorem sc_8x256_1x8x256 : S8x256.ShapeCasts S1x8x256 := by decide
theorem sc_1x8x256_8x256 : S1x8x256.ShapeCasts S8x256 := by decide
theorem sc_8x256_8x256 : S8x256.ShapeCasts S8x256 := by decide
theorem sc_1x128x256_128x256 : S1x128x256.ShapeCasts S128x256 := by decide
theorem sc_1x256x128_256x128 : S1x256x128.ShapeCasts S256x128 := by decide
theorem bc_1x8x256_4x8x256 : S1x8x256.Broadcasts S4x8x256 := by decide
theorem bl_fp8_f32 : FTy.bits .fp8e4m3 < FTy.bits .f32 := by decide
theorem bl_fp8_bf16 : FTy.bits .fp8e4m3 < FTy.bits .bf16 := by decide
theorem sl_4x8x256 (t : Fin 4) : S4x8x256.Slices ![t.val, 0, 0] S1x8x256 := by revert t; decide
theorem sl_256x256 (j : Fin 32) : S256x256.Slices ![8 * j.val, 0] S8x256 := by revert j; decide
theorem cc_rows : Shape.Concatenates [S32x256, S32x256, S32x256, S32x256, S32x256, S32x256, S32x256, S32x256] S256x256 0 := by decide
theorem cc_cols : Shape.Concatenates [S256x128, S256x128] S256x256 1 := by decide
theorem fits_0_128 : Mxu.Fits 0 128 := by decide
theorem h_S256x256 : 0 < S256x256.numel := by decide
theorem sc_256x256 : S256x256.ShapeCasts S256x256 := by decide
theorem sc_256_1x256 : S256.ShapeCasts S1x256 := by decide
theorem sc_1x256 : S1x256.ShapeCasts S1x256 := by decide
theorem sc_256x128_1x256x128 : S256x128.ShapeCasts S1x256x128 := by decide
theorem bc_1x256_8x256 : S1x256.Broadcasts S8x256 := by decide
theorem bc_1x256_128x256 : S1x256.Broadcasts S128x256 := by decide
theorem bl_bf16_f32 : FTy.bits .bf16 < FTy.bits .f32 := by decide
theorem red_8x256 : S8x256.Reduces [0] S256 := by decide
theorem tr_128x256 : S128x256.Transposes [1, 0] S256x128 := by decide
theorem lt_1_32 : 1 < 32 := by decide
theorem iota_8x256 : S8x256.Iotas .tc 32 [1] := by decide
theorem fits_0_256 : Mxu.Fits 0 256 := by decide
theorem inb_8x256 : ∀ a, (![0, 0] : Fin 2 → Nat) a + S8x256.size a ≤ S8x256.size a := by decide
theorem inb_1x256x128 : ∀ a, (![0, 0, 0] : Fin 3 → Nat) a + S1x256x128.size a ≤ S1x256x128.size a := by decide

variable {F : FTy → Type} [FloatOps F]

/-- The weights of a group of 32 rows: two to the power of the scores less the bias of their residue of the rows modulo eight. -/
def pexp (x : Vec F S32x256 .f32) (b : FVec F S8x256 .f32) : FVec F S4x8x256 .f32 :=
  exp2 (subf (shapeCast S4x8x256 x sc_32x256_4x8x256)
    (broadcastTo S4x8x256 (shapeCast S1x8x256 b sc_8x256_1x8x256) bc_1x8x256_4x8x256))

/-- One of the four sums of weights, with eight more rows. -/
def lAdd (l : FVec F S8x256 .f32) (p : FVec F S4x8x256 .f32) (t : Fin 4) : FVec F S8x256 .f32 :=
  addf l (shapeCast S8x256 (extractStridedSlice S1x8x256 ![t.val, 0, 0] p (sl_4x8x256 t)) sc_1x8x256_8x256)

/-- The codes of the weights of a group of 32 rows. -/
def pcode (p : FVec F S4x8x256 .f32) : FVec F S32x256 .fp8e4m3 :=
  truncf .fp8e4m3 (shapeCast S32x256 (minimumf p (broadcast S4x8x256 (Scalar.ofBits .f32 0x43E00000#32 : F .f32)))
    sc_4x8x256_32x256) bl_fp8_f32

/-- The codes of 256 rows as the matrix unit takes them. -/
def codes (p0 p1 p2 p3 p4 p5 p6 p7 : FVec F S4x8x256 .f32) : FVec F S256x256 .bf16 :=
  extf .bf16 (concatenate S256x256 0 [⟨S32x256, pcode p0⟩, ⟨S32x256, pcode p1⟩, ⟨S32x256, pcode p2⟩, ⟨S32x256, pcode p3⟩,
    ⟨S32x256, pcode p4⟩, ⟨S32x256, pcode p5⟩, ⟨S32x256, pcode p6⟩, ⟨S32x256, pcode p7⟩] cc_rows) bl_fp8_bf16

/-- The codes of a value tile as the matrix unit takes them. -/
def vtile (x : Vec F S1x128x256 .fp8e4m3) : FVec F S128x256 .bf16 :=
  extf .bf16 (shapeCast S128x256 x sc_1x128x256_128x256 : FVec F S128x256 .fp8e4m3) bl_fp8_bf16

/-- The codes of a query or key tile as the matrix unit takes them: 128 columns of zeros follow. -/
def ktile (x : Vec F S1x256x128 .fp8e4m3) : FVec F S256x256 .bf16 :=
  extf .bf16 (concatenate S256x256 1 [⟨S256x128, (shapeCast S256x128 x sc_1x256x128_256x128 : FVec F S256x128 .fp8e4m3)⟩,
    ⟨S256x128, (broadcast S256x128 (Scalar.ofBits .fp8e4m3 0x00#8 : F .fp8e4m3) : FVec F S256x128 .fp8e4m3)⟩] cc_cols) bl_fp8_bf16

/-- Eight rows of the products, scaled. -/
def srow (c : FVec F S256x256 .f32) (a : FVec F S8x256 .f32) (j : Fin 32) : FVec F S8x256 .f32 :=
  mulf (extractStridedSlice S8x256 ![8 * j.val, 0] c (sl_256x256 j)) a

/-- A row of scales times one key scale. -/
def scl (a : FVec F S8x256 .f32) (k : Elt F .f32) : FVec F S8x256 .f32 := mulf a (broadcast S8x256 k)

/-- The lanes of the first of the two query groups, as the kernel's integers say it. -/
def half : IVec S8x256 1 :=
  have v55 : IVec S8x256 32 := iota .tc S8x256 32 [1] iota_8x256
  have v57 : IVec S8x256 32 := divsi v55 (broadcast S8x256 128#32)
  have v60 : IVec S8x256 32 := extui 32 (cmpi .sgt v55 (broadcast S8x256 0#32)) lt_1_32
  have v63 : IVec S8x256 32 := extui 32 (cmpi .slt v55 (broadcast S8x256 0#32)) lt_1_32
  have v64 : IVec S8x256 32 := subi v60 v63
  let v66 : BitVec 32 := Scalar.extui (Scalar.cmpi .sgt 128#32 0#32)
  let v68 : BitVec 32 := Scalar.extui (Scalar.cmpi .slt 128#32 0#32)
  let v69 : BitVec 32 := Scalar.subi v66 v68
  have v71 : IVec S8x256 1 := cmpi .ne v64 (broadcast S8x256 v69)
  have v73 : IVec S8x256 32 := remsi v55 (broadcast S8x256 128#32)
  have v75 : IVec S8x256 1 := cmpi .ne v73 (broadcast S8x256 0#32)
  have v76 : IVec S8x256 1 := andi v71 v75
  have v78 : IVec S8x256 32 := subi v57 (broadcast S8x256 1#32)
  have v79 : IVec S8x256 32 := select v76 v78 v57
  cmpi .eq v79 (broadcast S8x256 0#32)

/-- The query scales along the lanes, times the constant. -/
def qsc (κl q0 q1 : F .f32) : FVec F S8x256 .f32 :=
  mulf (select half (broadcast S8x256 q0) (broadcast S8x256 q1)) (broadcast S8x256 κl)

/-- The maxima less eight: what is taken off the scores. -/
def bias (n : FVec F S8x256 .f32) : FVec F S8x256 .f32 :=
  subf n (broadcast S8x256 (Scalar.ofBits .f32 0x41000000#32 : F .f32))

/-- Four vectors of one value. -/
def v4 (x : F .f32) : FVec F S8x256 .f32 × FVec F S8x256 .f32 × FVec F S8x256 .f32 × FVec F S8x256 .f32 :=
  (broadcast S8x256 x, broadcast S8x256 x, broadcast S8x256 x, broadcast S8x256 x)

/-- The maxima of all residues, along the lanes, repeated on eight rows. -/
def mfin (m : FVec F S8x256 .f32 × FVec F S8x256 .f32 × FVec F S8x256 .f32 × FVec F S8x256 .f32) : FVec F S8x256 .f32 :=
  broadcastTo S8x256 (shapeCast S1x256 (shapeCast S1x256 (multiReduction .maximumf [0] S256
    (maximumf (maximumf m.1 m.2.1) (maximumf m.2.2.1 m.2.2.2)) 0xFF800000#32 red_8x256 (.inl rfl) rfl) sc_256_1x256) sc_1x256) bc_1x256_8x256

/-- The sums of all residues, along the lanes. -/
def lfin (l : FVec F S8x256 .f32 × FVec F S8x256 .f32 × FVec F S8x256 .f32 × FVec F S8x256 .f32) : FVec F S1x256 .f32 :=
  shapeCast S1x256 (multiReduction .add [0] S256 (addf (addf l.1 l.2.1) (addf l.2.2.1 l.2.2.2)) 0x00000000#32 red_8x256 (.inl rfl) rfl)
    sc_256_1x256

/-- The block of the result: the products scaled and divided by the sums, with queries along the rows. -/
def outv (o : FVec F S128x256 .f32) (s : Elt F .f32) (l : FVec F S1x256 .f32) : FVec F S1x256x128 .bf16 :=
  shapeCast S1x256x128 (truncf .bf16 (transpose S256x128 [1, 0]
    (divf (mulf o (broadcast S128x256 s)) (broadcastTo S128x256 l bc_1x256_128x256)) tr_128x256) bl_bf16_f32) sc_256x128_1x256x128

section Prog

variable {nD : Nat} {τ : Topo} {sig : RefSig} {Λ : Labels}

/-- Four running vectors: the sums, or the maxima, by residue. -/
abbrev V4 (F : FTy → Type) : Type := FVec F S8x256 .f32 × FVec F S8x256 .f32 × FVec F S8x256 .f32 × FVec F S8x256 .f32

/-- Read 32 rows of the score buffer. -/
def ld (M : Memref sig .tc .vmem S32512x256 .f32) (o : Fin 2 → Nat) (h : ∀ a, o a + S32x256.size a ≤ S32512x256.size a) :
    Prog (TpuEff nD τ sig (Elt F) Λ .tc) (Vec F S32x256 .f32) :=
  Prog.lift (.load M (Rect.unit (s := S32512x256) o S32x256.size h).toLoadRect (View.loadsAt_vmem h_S32x256))

/-- Write eight rows of the score buffer (what stood there is read first and dropped). -/
def st (M : Memref sig .tc .vmem S32512x256 .f32) (o : Fin 2 → Nat) (h : ∀ a, o a + S8x256.size a ≤ S32512x256.size a)
    (v : FVec F S8x256 .f32) : Prog (TpuEff nD τ sig (Elt F) Λ .tc) PUnit := do
  let _x : Vec F S8x256 .f32 ← Prog.lift (.load M (Rect.unit (s := S32512x256) o S8x256.size h).toLoadRect (View.loadsAt_vmem h_S8x256))
  Prog.lift (.store M (Rect.unit (s := S32512x256) o S8x256.size h) (shapeCast S8x256 v sc_8x256_8x256) Finset.univ
    (View.stores_vmem_bits_univ h_S8x256 rfl) (.inl rfl))

/-- Four groups of eight rows of the products of a tile: scaled, written to the score buffer, and taken into the maxima. -/
def st4 (M : Memref sig .tc .vmem S32512x256 .f32) (o : Fin 32 → Fin 2 → Nat)
    (h : ∀ j a, o j a + S8x256.size a ≤ S32512x256.size a) (c : FVec F S256x256 .f32) (a : FVec F S8x256 .f32) (j0 j1 j2 j3 : Fin 32)
    (m : V4 F) : Prog (TpuEff nD τ sig (Elt F) Λ .tc) (V4 F) := do
  st M (o j0) (h j0) (srow c a j0)
  st M (o j1) (h j1) (srow c a j1)
  st M (o j2) (h j2) (srow c a j2)
  st M (o j3) (h j3) (srow c a j3)
  pure (maximumf m.1 (srow c a j0), maximumf m.2.1 (srow c a j1), maximumf m.2.2.1 (srow c a j2), maximumf m.2.2.2 (srow c a j3))

/-- The first half of a tile: read the old scores of 256 rows, add their weights to the sums, give their codes. -/
def lds (M : Memref sig .tc .vmem S32512x256 .f32) (o : Fin 8 → Fin 2 → Nat)
    (h : ∀ j a, o j a + S32x256.size a ≤ S32512x256.size a) (b : FVec F S8x256 .f32) (l : V4 F) :
    Prog (TpuEff nD τ sig (Elt F) Λ .tc) (V4 F × FVec F S256x256 .bf16) := do
  let x0 ← ld M (o 0) (h 0)
  let x1 ← ld M (o 1) (h 1)
  let x2 ← ld M (o 2) (h 2)
  let x3 ← ld M (o 3) (h 3)
  let x4 ← ld M (o 4) (h 4)
  let x5 ← ld M (o 5) (h 5)
  let x6 ← ld M (o 6) (h 6)
  let x7 ← ld M (o 7) (h 7)
  pure (((lAdd (lAdd (lAdd (lAdd (lAdd (lAdd (lAdd (lAdd l.1 (pexp x0 b) 0) (pexp x1 b) 0) (pexp x2 b) 0) (pexp x3 b) 0) (pexp x4 b) 0) (pexp x5 b) 0) (pexp x6 b) 0) (pexp x7 b) 0),
    (lAdd (lAdd (lAdd (lAdd (lAdd (lAdd (lAdd (lAdd l.2.1 (pexp x0 b) 1) (pexp x1 b) 1) (pexp x2 b) 1) (pexp x3 b) 1) (pexp x4 b) 1) (pexp x5 b) 1) (pexp x6 b) 1) (pexp x7 b) 1),
    (lAdd (lAdd (lAdd (lAdd (lAdd (lAdd (lAdd (lAdd l.2.2.1 (pexp x0 b) 2) (pexp x1 b) 2) (pexp x2 b) 2) (pexp x3 b) 2) (pexp x4 b) 2) (pexp x5 b) 2) (pexp x6 b) 2) (pexp x7 b) 2),
    (lAdd (lAdd (lAdd (lAdd (lAdd (lAdd (lAdd (lAdd l.2.2.2 (pexp x0 b) 3) (pexp x1 b) 3) (pexp x2 b) 3) (pexp x3 b) 3) (pexp x4 b) 3) (pexp x5 b) 3) (pexp x6 b) 3) (pexp x7 b) 3)),
    codes (pexp x0 b) (pexp x1 b) (pexp x2 b) (pexp x3 b) (pexp x4 b) (pexp x5 b) (pexp x6 b) (pexp x7 b))

/-- Read a value tile. -/
def ldV (M : Memref sig .tc .vmem S1x128x32512 .fp8e4m3) (o : Fin 3 → Nat) (h : ∀ a, o a + S1x128x256.size a ≤ S1x128x32512.size a) :
    Prog (TpuEff nD τ sig (Elt F) Λ .tc) (Vec F S1x128x256 .fp8e4m3) :=
  Prog.lift (.load M (Rect.unit (s := S1x128x32512) o S1x128x256.size h).toLoadRect (View.loadsAt_vmem h_S1x128x256))

/-- Read a key tile. -/
def ldK (M : Memref sig .tc .vmem S1x32512x128 .fp8e4m3) (o : Fin 3 → Nat) (h : ∀ a, o a + S1x256x128.size a ≤ S1x32512x128.size a) :
    Prog (TpuEff nD τ sig (Elt F) Λ .tc) (Vec F S1x256x128 .fp8e4m3) :=
  Prog.lift (.load M (Rect.unit (s := S1x32512x128) o S1x256x128.size h).toLoadRect (View.loadsAt_vmem h_S1x256x128))

/-- Read one scale. -/
def ldS (M : Memref sig .tc .smem S32x254 .f32) (o : Fin 2 → Nat) (h : ∀ a, o a + S1x1.size a ≤ S32x254.size a) :
    Prog (TpuEff nD τ sig (Elt F) Λ .tc) (Elt F .f32) :=
  smemLoad M (Rect.unit (s := S32x254) o S1x1.size h) numel1_S1x1 rfl

/-- One tile of 256 keys: the old scores' weights times the values into the second unit, then the new scores. -/
def tile (K : Memref sig .tc .smem S32x254 .f32) (A5 : Memref sig .tc .vmem S1x32512x128 .fp8e4m3)
    (A6 : Memref sig .tc .vmem S1x128x32512 .fp8e4m3) (M : Memref sig .tc .vmem S32512x256 .f32)
    (o6 : Fin 8 → Fin 2 → Nat) (h6 : ∀ j a, o6 j a + S32x256.size a ≤ S32512x256.size a)
    (o7 : Fin 3 → Nat) (h7 : ∀ a, o7 a + S1x128x256.size a ≤ S1x128x32512.size a)
    (o8 : Fin 3 → Nat) (h8 : ∀ a, o8 a + S1x256x128.size a ≤ S1x32512x128.size a)
    (o9 : Fin 2 → Fin 2 → Nat) (h9 : ∀ r a, o9 r a + S1x1.size a ≤ S32x254.size a)
    (o10 : Fin 32 → Fin 2 → Nat) (h10 : ∀ j a, o10 j a + S8x256.size a ≤ S32512x256.size a)
    (rg : Fin 2) (A : Nat) (hA : Mxu.Fits A 256) (qa b : FVec F S8x256 .f32) (lm : V4 F × V4 F × Mxu F) :
    Prog (TpuEff nD τ sig (Elt F) Λ .tc) (V4 F × V4 F × Mxu F) := do
  let lp ← lds M o6 h6 b lm.1
  let U1 ← lm.2.2.pushRhs 1 rg false lp.2
  let v ← ldV A6 o7 h7
  let k ← ldK A5 o8 h8
  let U3 ← (U1.accLhs 1 rg 0 (vtile v) fits_0_128).accLhsLoaded 0 A (ktile k) hA
  let k0 ← ldS K (o9 0) (h9 0)
  let m0 ← st4 M o10 h10 (U3.read 0 A hA) (scl qa k0) 0 1 2 3 lm.2.1
  let m1 ← st4 M o10 h10 (U3.read 0 A hA) (scl qa k0) 4 5 6 7 m0
  let m2 ← st4 M o10 h10 (U3.read 0 A hA) (scl qa k0) 8 9 10 11 m1
  let m3 ← st4 M o10 h10 (U3.read 0 A hA) (scl qa k0) 12 13 14 15 m2
  let k1 ← ldS K (o9 1) (h9 1)
  let m4 ← st4 M o10 h10 (U3.read 0 A hA) (scl qa k1) 16 17 18 19 m3
  let m5 ← st4 M o10 h10 (U3.read 0 A hA) (scl qa k1) 20 21 22 23 m4
  let m6 ← st4 M o10 h10 (U3.read 0 A hA) (scl qa k1) 24 25 26 27 m5
  let m7 ← st4 M o10 h10 (U3.read 0 A hA) (scl qa k1) 28 29 30 31 m6
  pure (lp.1, m7, U3.pop 0 A 256 hA)

/-- Write the row of maxima (what stood there is read first and dropped). -/
def stN (N : Memref sig .tc .vmem S8x256 .f32) (v : FVec F S8x256 .f32) : Prog (TpuEff nD τ sig (Elt F) Λ .tc) PUnit := do
  let _x : Vec F S8x256 .f32 ← Prog.lift (.load N (Rect.unit (s := S8x256) ![0, 0] S8x256.size inb_8x256).toLoadRect (View.loadsAt_vmem h_S8x256))
  Prog.lift (.store N (Rect.unit (s := S8x256) ![0, 0] S8x256.size inb_8x256) (shapeCast S8x256 v sc_8x256_8x256) Finset.univ
    (View.stores_vmem_bits_univ h_S8x256 rfl) (.inl rfl))

/-- Write 256 rows of the score buffer (what stood there is read first and dropped). -/
def stF (M : Memref sig .tc .vmem S32512x256 .f32) (o : Fin 2 → Nat) (h : ∀ a, o a + S256x256.size a ≤ S32512x256.size a)
    (v : FVec F S256x256 .f32) : Prog (TpuEff nD τ sig (Elt F) Λ .tc) PUnit := do
  let _x : Vec F S256x256 .f32 ← Prog.lift (.load M (Rect.unit (s := S32512x256) o S256x256.size h).toLoadRect (View.loadsAt_vmem h_S256x256))
  Prog.lift (.store M (Rect.unit (s := S32512x256) o S256x256.size h) (shapeCast S256x256 v sc_256x256) Finset.univ
    (View.stores_vmem_bits_univ h_S256x256 rfl) (.inl rfl))

/-- The start: the query tile goes to the first unit; the query scales and the maxima are read. -/
def start (Q : Memref sig .tc .smem S32x254 .f32) (A4 : Memref sig .tc .vmem S1x256x128 .fp8e4m3) (N : Memref sig .tc .vmem S8x256 .f32)
    (o2 : Fin 2 → Nat) (h2 : ∀ a, o2 a + S1x1.size a ≤ S32x254.size a) (o3 : Fin 2 → Nat) (h3 : ∀ a, o3 a + S1x1.size a ≤ S32x254.size a)
    (κl : F .f32) : Prog (TpuEff nD τ sig (Elt F) Λ .tc) (FVec F S8x256 .f32 × FVec F S8x256 .f32 × Mxu F) := do
  let x : Vec F S1x256x128 .fp8e4m3 ← Prog.lift (.load A4 (Rect.unit (s := S1x256x128) ![0, 0, 0] S1x256x128.size inb_1x256x128).toLoadRect
    (View.loadsAt_vmem h_S1x256x128))
  let U ← (Mxu.init : Mxu F).pushRhs 0 0 true (ktile x)
  let q0 ← ldS Q o2 h2
  let q1 ← ldS Q o3 h3
  let n : Vec F S8x256 .f32 ← Prog.lift (.load N (Rect.unit (s := S8x256) ![0, 0] S8x256.size inb_8x256).toLoadRect (View.loadsAt_vmem h_S8x256))
  pure (qsc κl q0 q1, bias n, U)

/-- The last tile, taken first: only its first 144 rows are written and taken into the maxima. -/
def tail (K : Memref sig .tc .smem S32x254 .f32) (A5 : Memref sig .tc .vmem S1x32512x128 .fp8e4m3)
    (A6 : Memref sig .tc .vmem S1x128x32512 .fp8e4m3) (M : Memref sig .tc .vmem S32512x256 .f32)
    (o6 : Fin 8 → Fin 2 → Nat) (h6 : ∀ j a, o6 j a + S32x256.size a ≤ S32512x256.size a)
    (o7 : Fin 3 → Nat) (h7 : ∀ a, o7 a + S1x128x256.size a ≤ S1x128x32512.size a)
    (o8 : Fin 3 → Nat) (h8 : ∀ a, o8 a + S1x256x128.size a ≤ S1x32512x128.size a)
    (o4 : Fin 2 → Nat) (h4 : ∀ a, o4 a + S1x1.size a ≤ S32x254.size a)
    (o5 : Fin 2 → Nat) (h5 : ∀ a, o5 a + S1x1.size a ≤ S32x254.size a)
    (o10 : Fin 32 → Fin 2 → Nat) (h10 : ∀ j a, o10 j a + S8x256.size a ≤ S32512x256.size a)
    (κm : F .f32) (qa b : FVec F S8x256 .f32) (U : Mxu F) :
    Prog (TpuEff nD τ sig (Elt F) Λ .tc) (V4 F × V4 F × Mxu F) := do
  let lp ← lds M o6 h6 b (v4 (Scalar.ofBits .f32 0x00000000#32 : F .f32))
  let U1 ← U.pushRhs 1 0 false lp.2
  let v ← ldV A6 o7 h7
  let k ← ldK A5 o8 h8
  let U3 : Mxu F := (U1.accLhs 1 0 0 (vtile v) fits_0_128).accLhs 0 0 0 (ktile k) fits_0_256
  let k0 ← ldS K o4 h4
  let m0 ← st4 M o10 h10 (U3.read 0 0 fits_0_256) (scl qa k0) 0 1 2 3 (v4 κm)
  let m1 ← st4 M o10 h10 (U3.read 0 0 fits_0_256) (scl qa k0) 4 5 6 7 m0
  let m2 ← st4 M o10 h10 (U3.read 0 0 fits_0_256) (scl qa k0) 8 9 10 11 m1
  let m3 ← st4 M o10 h10 (U3.read 0 0 fits_0_256) (scl qa k0) 12 13 14 15 m2
  let k1 ← ldS K o5 h5
  st M (o10 16) (h10 16) (srow (U3.read 0 0 fits_0_256) (scl qa k1) 16)
  st M (o10 17) (h10 17) (srow (U3.read 0 0 fits_0_256) (scl qa k1) 17)
  pure (lp.1, (maximumf m3.1 (srow (U3.read 0 0 fits_0_256) (scl qa k1) 16), maximumf m3.2.1 (srow (U3.read 0 0 fits_0_256) (scl qa k1) 17),
    m3.2.2.1, m3.2.2.2), U3.pop 0 0 256 fits_0_256)

/-- The finish: the maxima are kept for the next point, and the block of the result is written. -/
def fin (S : Memref sig .tc .smem S32 .f32) (A7 : Memref sig .tc .vmem S1x256x128 .bf16) (N : Memref sig .tc .vmem S8x256 .f32)
    (o11 : Fin 1 → Nat) (h11 : ∀ a, o11 a + S1.size a ≤ S32.size a)
    (hx : (A7.access (Rect.unit (s := S1x256x128) ![0, 0, 0] S1x256x128.size inb_1x256x128)).Stores Finset.univ)
    (lm : V4 F × V4 F × Mxu F) : Prog (TpuEff nD τ sig (Elt F) Λ .tc) PUnit := do
  stN N (mfin lm.2.1)
  let s ← smemLoad S (Rect.unit (s := S32) o11 S1.size h11) numel1_S1 rfl
  let _x : Vec F S1x256x128 .bf16 ← Prog.lift (.load A7 (Rect.unit (s := S1x256x128) ![0, 0, 0] S1x256x128.size inb_1x256x128).toLoadRect
    (View.loadsAt_vmem h_S1x256x128))
  Prog.lift (.store A7 (Rect.unit (s := S1x256x128) ![0, 0, 0] S1x256x128.size inb_1x256x128)
    (outv (lm.2.2.read 1 0 fits_0_128) s (lfin lm.1)) Finset.univ hx (.inl rfl))
  (lm.2.2.pop 1 0 128 fits_0_128).exit

/-- The carried values in the order the printed loop carries them. -/
abbrev V9 (F : FTy → Type) [FloatOps F] : Type := FVec F S8x256 .f32 × FVec F S8x256 .f32 × FVec F S8x256 .f32 × FVec F S8x256 .f32 ×
  FVec F S8x256 .f32 × FVec F S8x256 .f32 × FVec F S8x256 .f32 × FVec F S8x256 .f32 × Mxu F

/-- The loop's carried values from the sums, the maxima and the matrix unit, -/
def to9 (s : V4 F × V4 F × Mxu F) : V9 F :=
  (s.1.1, s.1.2.1, s.1.2.2.1, s.1.2.2.2, s.2.1.1, s.2.1.2.1, s.2.1.2.2.1, s.2.1.2.2.2, s.2.2)

/-- and back. -/
def of9 (s : V9 F) : V4 F × V4 F × Mxu F :=
  ((s.1, s.2.1, s.2.2.1, s.2.2.2.1), (s.2.2.2.2.1, s.2.2.2.2.2.1, s.2.2.2.2.2.2.1, s.2.2.2.2.2.2.2.1), s.2.2.2.2.2.2.2.2)

end Prog

end Attn

end
-- ==== Proof.EqKernel.lean ====
/- The printed body of the attention kernel is the composition of pieces of Tile.lean. -/
module

public import proofs.«01_k».proof.Kernel
public import proofs.«01_k».proof.Proof.Gen.Kernel.Skeleton
public import proofs.«01_k».proof.Proof.Tile

@[expose] public section

set_option synthInstance.maxSize 4096

noncomputable section

namespace Cert.Kernel

open Idealize.ShloMosaic Idealize.SL.Sem Attn

variable {F : FTy → Type} [FloatOps F] [Facts₀] [Facts]
open Facts₀ Facts

/-- Tile `7 k + g` of the loop, at the printed offsets. -/
abbrev til (i : grid0.Coords) (arg2 : Memref sig .tc .smem S32x254 .f32) (arg5 : Memref sig .tc .vmem S1x32512x128 .fp8e4m3)
    (arg6 : Memref sig .tc .vmem S1x128x32512 .fp8e4m3) (arg8 : Memref sig .tc .vmem S32512x256 .f32) (k : Fin k0_t2_loop.trips) (g : Fin 7)
    (rg : Fin 2) (A : Nat) (hA : Mxu.Fits A 256) (qa b : FVec F S8x256 .f32) (lm : V4 F × V4 F × Mxu F) :
    Prog (TpuEff nD τ sig (Elt F) Λ₀ .tc) (V4 F × V4 F × Mxu F) :=
  Attn.tile arg2 arg5 arg6 arg8 (fun q => k0_off6 k (BitVec.ofNat 32 g.val) (BitVec.ofNat 32 (32 * q.val))) (fun q => k0_off6_inb k g q)
    (k0_off7 k (BitVec.ofNat 32 g.val)) (k0_off7_inb k g) (k0_off8 k (BitVec.ofNat 32 g.val)) (k0_off8_inb k g)
    (fun r => k0_off9 i k (BitVec.ofNat 32 g.val) (BitVec.ofNat 32 r.val)) (fun r => k0_off9_inb i k g r)
    (fun j => k0_off10 k (BitVec.ofNat 32 g.val) (BitVec.ofNat 32 (8 * j.val))) (fun j => k0_off10_inb k g j) rg A hA qa b lm

/-- One trip of the loop: seven tiles. -/
def trip (i : grid0.Coords) (arg2 : Memref sig .tc .smem S32x254 .f32) (arg5 : Memref sig .tc .vmem S1x32512x128 .fp8e4m3)
    (arg6 : Memref sig .tc .vmem S1x128x32512 .fp8e4m3) (arg8 : Memref sig .tc .vmem S32512x256 .f32) (qa b : FVec F S8x256 .f32)
    (k : Fin k0_t2_loop.trips) (s : V4 F × V4 F × Mxu F) : Prog (TpuEff nD τ sig (Elt F) Λ₀ .tc) (V9 F) := do
  let s0 ← til i arg2 arg5 arg6 arg8 k 0 0 0 Attn.fits_0_256 qa b s
  let s1 ← til i arg2 arg5 arg6 arg8 k 1 1 64 fits_64_256 qa b s0
  let s2 ← til i arg2 arg5 arg6 arg8 k 2 0 128 fits_128_256 qa b s1
  let s3 ← til i arg2 arg5 arg6 arg8 k 3 1 0 Attn.fits_0_256 qa b s2
  let s4 ← til i arg2 arg5 arg6 arg8 k 4 0 64 fits_64_256 qa b s3
  let s5 ← til i arg2 arg5 arg6 arg8 k 5 1 128 fits_128_256 qa b s4
  let s6 ← til i arg2 arg5 arg6 arg8 k 6 0 0 Attn.fits_0_256 qa b s5
  pure (to9 s6)

theorem inb_t6 (q : Fin 8) (a : Fin 2) : (![32256 + 32 * q.val, 0] : Fin 2 → Nat) a + S32x256.size a ≤ S32512x256.size a := by
  revert q a; decide
theorem inb_t7 (a : Fin 3) : (![0, 0, 32256] : Fin 3 → Nat) a + S1x128x256.size a ≤ S1x128x32512.size a := by revert a; decide
theorem inb_t8 (a : Fin 3) : (![0, 32256, 0] : Fin 3 → Nat) a + S1x256x128.size a ≤ S1x32512x128.size a := by revert a; decide
theorem inb_t10 (j : Fin 32) (a : Fin 2) : (![32256 + 8 * j.val, 0] : Fin 2 → Nat) a + S8x256.size a ≤ S32512x256.size a := by
  revert j a; decide

set_option maxHeartbeats 4000000 in
/-- The printed trip is seven tiles. -/
theorem trip_eq (i : grid0.Coords) (arg1 : Memref sig .tc .smem S32x254 .f32) (harg1 : arg1.IsWhole) (arg2 : Memref sig .tc .smem S32x254 .f32) (harg2 : arg2.IsWhole) (arg3 : Memref sig .tc .smem S32 .f32) (harg3 : arg3.IsWhole) (arg4 : Memref sig .tc .vmem S1x256x128 .fp8e4m3) (harg4 : arg4.IsWhole) (arg5 : Memref sig .tc .vmem S1x32512x128 .fp8e4m3) (harg5 : arg5.IsWhole) (arg6 : Memref sig .tc .vmem S1x128x32512 .fp8e4m3) (harg6 : arg6.IsWhole) (arg7 : Memref sig .tc .vmem S1x256x128 .bf16) (harg7 : arg7.IsWhole) (arg8 : Memref sig .tc .vmem S32512x256 .f32) (harg8 : arg8.IsWhole) (arg9 : Memref sig .tc .vmem S8x256 .f32) (harg9 : arg9.IsWhole) (v19 : BitVec 32) (qa b : FVec F S8x256 .f32) (k : Fin k0_t2_loop.trips) (s : V9 F) :
    Gen.k0_t2_body (F := F) i arg1 harg1 arg2 harg2 arg3 harg3 arg4 harg4 arg5 harg5 arg6 harg6 arg7 harg7 arg8 harg8 arg9 harg9 v19 qa b k s = trip i arg2 arg5 arg6 arg8 qa b k (of9 s) := by
  obtain ⟨l0, l1, l2, l3, m0, m1, m2, m3, U⟩ := s
  rfl

/-- Two programs in sequence agree when their parts do. -/
theorem bindc.{v} {E : Type → Type v} {α β : Type} {p q : Prog E α} {f g : α → Prog E β} (h : p = q) (h' : ∀ a, f a = g a) :
    p >>= f = q >>= g := by rw [h, funext h']

set_option maxHeartbeats 4000000 in
/-- The printed body: at the first point the score buffer and the maxima are filled; then the start, the last tile, the loop
    over the others, the finish. -/
theorem body_eq (i : grid0.Coords) (arg1 : Memref sig .tc .smem S32x254 .f32) (harg1 : arg1.IsWhole) (arg2 : Memref sig .tc .smem S32x254 .f32) (harg2 : arg2.IsWhole) (arg3 : Memref sig .tc .smem S32 .f32) (harg3 : arg3.IsWhole) (arg4 : Memref sig .tc .vmem S1x256x128 .fp8e4m3) (harg4 : arg4.IsWhole) (arg5 : Memref sig .tc .vmem S1x32512x128 .fp8e4m3) (harg5 : arg5.IsWhole) (arg6 : Memref sig .tc .vmem S1x128x32512 .fp8e4m3) (harg6 : arg6.IsWhole) (arg7 : Memref sig .tc .vmem S1x256x128 .bf16) (harg7 : arg7.IsWhole) (arg8 : Memref sig .tc .vmem S32512x256 .f32) (harg8 : arg8.IsWhole) (arg9 : Memref sig .tc .vmem S8x256 .f32) (harg9 : arg9.IsWhole) :
    cc0_attention (F := F) i arg1 harg1 arg2 harg2 arg3 harg3 arg4 harg4 arg5 harg5 arg6 harg6 arg7 harg7 arg8 harg8 arg9 harg9 = (do
      (if k0_h1 : k0_cond1 i = 1#1 then (do
        Scf.Loop.for k0_t1_loop (k0_t1_ok i k0_h1) ⟨⟩ fun k0_t1 _ =>
          stF arg8 (k0_off1 k0_t1) (k0_off1_inb i k0_t1 k0_h1) (broadcast S256x256 (Scalar.ofBits .f32 0xF149F2CA#32 : F .f32))
        stN arg9 (broadcast S8x256 (Scalar.ofBits .f32 0x00000000#32 : F .f32))) else pure ⟨⟩)
      let s ← start arg1 arg4 arg9 (k0_off2 i) (k0_off2_inb i) (k0_off3 i) (k0_off3_inb i) (Scalar.ofBits .f32 0x3E0293EE#32 : F .f32)
      let t ← tail arg2 arg5 arg6 arg8 (fun q => ![32256 + 32 * q.val, 0]) inb_t6 ![0, 0, 32256] inb_t7 ![0, 32256, 0] inb_t8
        (k0_off4 i) (k0_off4_inb i) (k0_off5 i) (k0_off5_inb i) (fun j => ![32256 + 8 * j.val, 0]) inb_t10 (Scalar.ofBits .f32 0xF149F2CA#32 : F .f32) s.1 s.2.1 s.2.2
      let r ← Scf.Loop.for k0_t2_loop k0_t2_ok (to9 t) (fun k r => trip i arg2 arg5 arg6 arg8 s.1 s.2.1 k (of9 r))
      fin arg3 arg7 arg9 (k0_off11 i) (k0_off11_inb i) (View.stores_vmem Attn.h_S1x256x128
        (harg7.storeExact_slice rfl _ packedbf16_S1x256x128_S1x256x128_0_0_0) (fun _ => rfl)) (of9 r)) := by
  unfold cc0_attention k0_part73 k0_part74
  by_cases h : k0_cond1 i = 1#1
  · simp only [dif_pos h, bind_assoc, pure_bind]
    refine bindc ?_ fun _ => ?_
    · rfl
    · rfl
  · simp only [dif_neg h, bind_assoc, pure_bind]
    rfl

end Cert.Kernel

end
-- ==== Proof.OffKernel.lean ====
/- The printed offsets in closed form: tile `7 k + g` of the loop, and the head and query block of a grid point. -/
module

public import proofs.«01_k».proof.Proof.EqKernel

@[expose] public section

set_option synthInstance.maxSize 4096

noncomputable section

namespace Cert.Kernel

open Idealize.ShloMosaic Idealize.SL.Sem

/-- The grid point of a number. -/
def mkc (n : Fin 4065) : grid0.Coords := Fin.cons n finZeroElim

theorem mkc_eta (i : grid0.Coords) : mkc (i 0) = i := by
  funext a; fin_cases a; rfl

theorem off1_eq (k : Fin k0_t1_loop.trips) : k0_off1 k = ![256 * k.val, 0] := by revert k; decide +kernel

theorem off2_0 (n : Fin 4065) : k0_off2 (mkc n) 0 = min n.val 4063 / 127 := by revert n; decide +kernel
theorem off2_1 (n : Fin 4065) : k0_off2 (mkc n) 1 = 2 * (min n.val 4063 % 127) := by revert n; decide +kernel
theorem off3_1 (n : Fin 4065) : k0_off3 (mkc n) 1 = 2 * (min n.val 4063 % 127) + 1 := by revert n; decide +kernel
theorem off11_0 (n : Fin 4065) : k0_off11 (mkc n) 0 = (n.val - 1) / 127 := by revert n; decide +kernel

theorem off9_1 (k : Fin k0_t2_loop.trips) (g : Fin 7) (r : Fin 2) :
    k0_off9 (mkc 0) k (BitVec.ofNat 32 g.val) (BitVec.ofNat 32 r.val) 1 = 2 * (7 * k.val + g.val) + r.val := by
  revert k g r; decide +kernel

theorem off2_eq (i : grid0.Coords) : k0_off2 i = ![min (i 0).val 4063 / 127, 2 * (min (i 0).val 4063 % 127)] := by
  have h0 := off2_0 (i 0)
  have h1 := off2_1 (i 0)
  rw [mkc_eta] at h0 h1
  funext a; fin_cases a
  · exact h0
  · exact h1

theorem off3_eq (i : grid0.Coords) : k0_off3 i = ![min (i 0).val 4063 / 127, 2 * (min (i 0).val 4063 % 127) + 1] := by
  have h0 := off2_0 (i 0)
  have h1 := off3_1 (i 0)
  rw [mkc_eta] at h0 h1
  funext a; fin_cases a
  · exact h0
  · exact h1

theorem off4_eq (i : grid0.Coords) : k0_off4 i = ![min (i 0).val 4063 / 127, 252] := by
  have h0 := off2_0 (i 0)
  rw [mkc_eta] at h0
  funext a; fin_cases a
  · exact h0
  · rfl

theorem off5_eq (i : grid0.Coords) : k0_off5 i = ![min (i 0).val 4063 / 127, 253] := by
  have h0 := off2_0 (i 0)
  rw [mkc_eta] at h0
  funext a; fin_cases a
  · exact h0
  · rfl

theorem off9_eq (i : grid0.Coords) (k : Fin k0_t2_loop.trips) (g : Fin 7) (r : Fin 2) :
    k0_off9 i k (BitVec.ofNat 32 g.val) (BitVec.ofNat 32 r.val) = ![min (i 0).val 4063 / 127, 2 * (7 * k.val + g.val) + r.val] := by
  have h0 := off2_0 (i 0)
  have h1 := off9_1 k g r
  rw [mkc_eta] at h0
  funext a; fin_cases a
  · exact h0
  · exact h1

theorem off11_eq (i : grid0.Coords) : k0_off11 i = ![((i 0).val - 1) / 127] := by
  have h0 := off11_0 (i 0)
  rw [mkc_eta] at h0
  funext a; fin_cases a
  exact h0

theorem off6_eq (k : Fin k0_t2_loop.trips) (g : Fin 7) (q : Fin 8) :
    k0_off6 k (BitVec.ofNat 32 g.val) (BitVec.ofNat 32 (32 * q.val)) = ![256 * (7 * k.val + g.val) + 32 * q.val, 0] := by
  revert k g q; decide +kernel
theorem off7_eq (k : Fin k0_t2_loop.trips) (g : Fin 7) : k0_off7 k (BitVec.ofNat 32 g.val) = ![0, 0, 256 * (7 * k.val + g.val)] := by
  revert k g; decide +kernel
theorem off8_eq (k : Fin k0_t2_loop.trips) (g : Fin 7) : k0_off8 k (BitVec.ofNat 32 g.val) = ![0, 256 * (7 * k.val + g.val), 0] := by
  revert k g; decide +kernel
theorem off10_eq (k : Fin k0_t2_loop.trips) (g : Fin 7) (j : Fin 32) :
    k0_off10 k (BitVec.ofNat 32 g.val) (BitVec.ofNat 32 (8 * j.val)) = ![256 * (7 * k.val + g.val) + 8 * j.val, 0] := by
  revert k g j; decide +kernel

end Cert.Kernel

end
-- ==== Proof.Wp.lean ====
/- What the pieces of the attention kernel's body do to the buffers: each piece's rule, and from them the rule of a whole tile. A
   buffer is held as the tensor its view reads. -/
module

public import proofs.«01_k».proof.Proof.Tile
public import Idealize.ShloMosaic.Lib.Pointwise
public import Idealize.ShloMosaic.Lib.Tactic
public import Idealize.ShloMosaic.Lib.Pipeline.Kit

@[expose] public section

set_option synthInstance.maxSize 4096

noncomputable section

namespace Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : Nat} {τ : Topo} {sig : RefSig} {Λ : Labels}

local notation "𝕄" => MT nD τ sig Unit (Elt F) ℕ (UR sig nD τ) ℕ

/-- Memref `M`'s buffer on core `c`, held whole, its view reading `T`. -/
def own (c : Dev nD) {sp : Space} {S : Shape} {e : EltTy} (M : Memref sig .tc sp S e) (T : S.Idx → Elt F e) : sProp 𝕄 :=
  iprop(∃ f, (M.view.loc (c : Thread nD τ) ↦{fullShare} f) ∗ ⌜M.view.read (Elt F) f = T⌝)

/-- The elements of a tensor under a rectangle. -/
def rdR {S : Shape} {e : EltTy} (r : Rect S) (T : S.Idx → Elt F e) : r.shape.Idx → Elt F e := fun i => T (r.emb i)

open Classical in
/-- A tensor with the elements under a rectangle replaced. -/
def wrR {S : Shape} {e : EltTy} (r : Rect S) (T : S.Idx → Elt F e) (w : r.shape.Idx → Elt F e) : S.Idx → Elt F e :=
  fun y => if h : ∃ i, r.emb i = y then w h.choose else T y

theorem wrR_emb {S : Shape} {e : EltTy} (r : Rect S) (T : S.Idx → Elt F e) (w : r.shape.Idx → Elt F e) (i : r.shape.Idx) :
    wrR r T w (r.emb i) = w i := by
  have h : ∃ j, r.emb j = r.emb i := ⟨i, rfl⟩
  unfold wrR
  rw [dif_pos h]
  exact congrArg w (r.emb.injective h.choose_spec)

theorem wrR_of_not {S : Shape} {e : EltTy} (r : Rect S) (T : S.Idx → Elt F e) (w : r.shape.Idx → Elt F e) (y : S.Idx)
    (h : ∀ i, r.emb i ≠ y) : wrR r T w y = T y := by
  unfold wrR
  rw [dif_neg (fun ⟨i, hi⟩ => h i hi)]

variable (defs : Defs nD τ sig (Elt F) Λ) (𝒱 : Variants) (c : Dev nD) (bd : Option 𝒱.V)

section Rules
variable {sp : CoreSpace} {S : Shape} {e : EltTy} {α : Type}

/-- A load under a rectangle reads the tensor's elements there. -/
theorem wp_loadR {M : Memref sig .tc sp S e} {r : Rect S} {hl : M.view.LoadsAt r} {T : S.Idx → Elt F e}
    {k : (r.shape.Idx → Elt F e) → Prog (TpuEff nD τ sig (Elt F) Λ .tc) α} {Φ : α → sProp 𝕄} :
    iprop(own c M T ∗ (own c M T -∗ wp frame (wpE defs 𝒱 (c : Thread nD τ) bd) Set.univ (k (rdR r T)) Φ))
      ⊢ wp frame (wpE defs 𝒱 (c : Thread nD τ) bd) Set.univ (.op (.load M r hl) k) Φ := by
  unfold own
  iintro ⟨⟨%f, Hf, %hf⟩, Hk⟩
  iapply (wp_load_rect 𝒱 (c : Thread nD τ) bd Set.univ (m := M) (r := r) (S := Finset.univ) (f := f) (q := fullShare) (Finset.subset_univ _)) $$ [Hf]
  · iexact Hf
  · iintro Hf
    have : (M.access r).read (Elt F) f = rdR r T := by
      rw [← hf]; rfl
    rw [this]
    iapply Hk
    iexists f
    isplitl [Hf]; · iexact Hf
    ipureintro; exact hf

/-- A store under a rectangle replaces the tensor's elements there. -/
theorem wp_storeR {M : Memref sig .tc sp S e} {r : Rect S} {w : r.shape.Idx → Elt F e} {hx : (M.access r).Stores Finset.univ}
    {hm : (Finset.univ : Finset r.shape.Idx) = Finset.univ ∨ ∀ a, r.stride a = 1} {T : S.Idx → Elt F e}
    {k : PUnit → Prog (TpuEff nD τ sig (Elt F) Λ .tc) α} {Φ : α → sProp 𝕄} :
    iprop(own c M T ∗ (own c M (wrR r T w) -∗ wp frame (wpE defs 𝒱 (c : Thread nD τ) bd) Set.univ (k ⟨⟩) Φ))
      ⊢ wp frame (wpE defs 𝒱 (c : Thread nD τ) bd) Set.univ (.op (.store M r w Finset.univ hx hm) k) Φ := by
  unfold own
  iintro ⟨⟨%f, Hf, %hf⟩, Hk⟩
  iapply (wp_store 𝒱 (c : Thread nD τ) bd Set.univ (m := M) (r := r) (w := w) (S := Finset.univ) (f := f) (Finset.subset_univ _)) $$ [Hf]
  · iexact Hf
  · iintro Hf
    iapply Hk
    iexists _
    isplitl [Hf]; · iexact Hf
    ipureintro
    funext y
    by_cases hy : ∃ i, r.emb i = y
    · obtain ⟨i, rfl⟩ := hy
      rw [wrR_emb]
      exact View.read_slice_write_emb (v := M.view) r f w (Finset.mem_univ i)
    · rw [wrR_of_not r T w y (fun i hi => hy ⟨i, hi⟩), ← hf]
      exact View.read_slice_write_of_not_mem (v := M.view) r f w Finset.univ (fun hm => by
        obtain ⟨i, -, hi⟩ := Finset.mem_map.mp hm
        exact hy ⟨i, hi⟩)

/-- A finished program meets its post. -/
theorem wp_pureR {a : α} {Φ : α → sProp 𝕄} : Φ a ⊢ wp frame (wpE defs 𝒱 (c : Thread nD τ) bd) Set.univ (pure a) Φ :=
  le_wp_ret _ _ _ _ _

end Rules

/-- Rows of the score buffer's tensor. -/
abbrev r32 (o : Fin 2 → Nat) (h : ∀ a, o a + S32x256.size a ≤ S32512x256.size a) : Rect S32512x256 := Rect.unit (s := S32512x256) o S32x256.size h
abbrev r8 (o : Fin 2 → Nat) (h : ∀ a, o a + S8x256.size a ≤ S32512x256.size a) : Rect S32512x256 := Rect.unit (s := S32512x256) o S8x256.size h
abbrev r256 (o : Fin 2 → Nat) (h : ∀ a, o a + S256x256.size a ≤ S32512x256.size a) : Rect S32512x256 := Rect.unit (s := S32512x256) o S256x256.size h
abbrev rv (o : Fin 3 → Nat) (h : ∀ a, o a + S1x128x256.size a ≤ S1x128x32512.size a) : Rect S1x128x32512 := Rect.unit (s := S1x128x32512) o S1x128x256.size h
abbrev rk (o : Fin 3 → Nat) (h : ∀ a, o a + S1x256x128.size a ≤ S1x32512x128.size a) : Rect S1x32512x128 := Rect.unit (s := S1x32512x128) o S1x256x128.size h
abbrev rs (o : Fin 2 → Nat) (h : ∀ a, o a + S1x1.size a ≤ S32x254.size a) : Rect S32x254 := Rect.unit (s := S32x254) o S1x1.size h
abbrev rN : Rect S8x256 := Rect.unit (s := S8x256) ![0, 0] S8x256.size inb_8x256
abbrev rq : Rect S1x256x128 := Rect.unit (s := S1x256x128) ![0, 0, 0] S1x256x128.size inb_1x256x128

/-- The scale a table holds at an offset. -/
def scaleAt (T : S32x254.Idx → Elt F .f32) (o : Fin 2 → Nat) (h : ∀ a, o a + S1x1.size a ≤ S32x254.size a) : Elt F .f32 :=
  rdR (rs o h) T (Shape.Idx.first (numel1_S1x1.symm ▸ Nat.one_pos))

/-- The scale a row of scales holds at an offset. -/
def scaleAt1 (T : S32.Idx → Elt F .f32) (o : Fin 1 → Nat) (h : ∀ a, o a + S1.size a ≤ S32.size a) : Elt F .f32 :=
  rdR (Rect.unit (s := S32) o S1.size h) T (Shape.Idx.first (numel1_S1.symm ▸ Nat.one_pos))

section Pieces

local notation "WP" p:max Φ:max => wp frame (wpE defs 𝒱 (c : Thread nD τ) bd) Set.univ p Φ

theorem wp_ld {M : Memref sig .tc .vmem S32512x256 .f32} {o h} {T : S32512x256.Idx → Elt F .f32} {Φ : _ → sProp 𝕄} :
    iprop(own c M T ∗ (own c M T -∗ Φ (rdR (r32 o h) T))) ⊢ WP (ld M o h) Φ := by
  iintro ⟨H, Hk⟩
  iapply (wp_loadR defs 𝒱 c bd (k := .ret)); isplitl [H]; · iexact H
  iintro H
  iapply (le_wp_ret _ _ _ _ _); iapply Hk; iexact H

theorem wp_ldV {M : Memref sig .tc .vmem S1x128x32512 .fp8e4m3} {o h} {T : S1x128x32512.Idx → Elt F .fp8e4m3} {Φ : _ → sProp 𝕄} :
    iprop(own c M T ∗ (own c M T -∗ Φ (rdR (rv o h) T))) ⊢ WP (ldV M o h) Φ := by
  iintro ⟨H, Hk⟩
  iapply (wp_loadR defs 𝒱 c bd (k := .ret)); isplitl [H]; · iexact H
  iintro H
  iapply (le_wp_ret _ _ _ _ _); iapply Hk; iexact H

theorem wp_ldK {M : Memref sig .tc .vmem S1x32512x128 .fp8e4m3} {o h} {T : S1x32512x128.Idx → Elt F .fp8e4m3} {Φ : _ → sProp 𝕄} :
    iprop(own c M T ∗ (own c M T -∗ Φ (rdR (rk o h) T))) ⊢ WP (ldK M o h) Φ := by
  iintro ⟨H, Hk⟩
  iapply (wp_loadR defs 𝒱 c bd (k := .ret)); isplitl [H]; · iexact H
  iintro H
  iapply (le_wp_ret _ _ _ _ _); iapply Hk; iexact H

theorem wp_ldS {M : Memref sig .tc .smem S32x254 .f32} {o h} {T : S32x254.Idx → Elt F .f32} {Φ : _ → sProp 𝕄} :
    iprop(own c M T ∗ (own c M T -∗ Φ (scaleAt T o h))) ⊢ WP (ldS M o h) Φ := by
  unfold scaleAt
  iintro ⟨H, Hk⟩
  iapply (wp_loadR defs 𝒱 c bd (k := fun f => .ret (f _))); isplitl [H]; · iexact H
  iintro H
  iapply (le_wp_ret _ _ _ _ _)
  ispecialize Hk $$ H
  iexact Hk

theorem wp_ldS1 {M : Memref sig .tc .smem S32 .f32} {o : Fin 1 → Nat} {h} {T : S32.Idx → Elt F .f32} {Φ : _ → sProp 𝕄} :
    iprop(own c M T ∗ (own c M T -∗ Φ (scaleAt1 T o h))) ⊢ WP (smemLoad M (Rect.unit (s := S32) o S1.size h) numel1_S1 rfl) Φ := by
  unfold scaleAt1
  iintro ⟨H, Hk⟩
  iapply (wp_loadR defs 𝒱 c bd (k := fun f => .ret (f _))); isplitl [H]; · iexact H
  iintro H
  iapply (le_wp_ret _ _ _ _ _)
  ispecialize Hk $$ H
  iexact Hk

theorem wp_st {M : Memref sig .tc .vmem S32512x256 .f32} {o h} {v} {T : S32512x256.Idx → Elt F .f32} {Φ : _ → sProp 𝕄} :
    iprop(own c M T ∗ (own c M (wrR (r8 o h) T v) -∗ Φ ⟨⟩)) ⊢ WP (st M o h v) Φ := by
  unfold st
  rw [shapeCast_id]
  iintro ⟨H, Hk⟩
  iapply (wp_loadR defs 𝒱 c bd (k := fun _ => .op (.store M (r8 o h) v Finset.univ _ _) .ret)); isplitl [H]; · iexact H
  iintro H
  iapply (wp_storeR defs 𝒱 c bd (k := .ret)); isplitl [H]; · iexact H
  iintro H
  iapply (le_wp_ret _ _ _ _ _); iapply Hk; iexact H

theorem wp_stF {M : Memref sig .tc .vmem S32512x256 .f32} {o h} {v} {T : S32512x256.Idx → Elt F .f32} {Φ : _ → sProp 𝕄} :
    iprop(own c M T ∗ (own c M (wrR (r256 o h) T v) -∗ Φ ⟨⟩)) ⊢ WP (stF M o h v) Φ := by
  unfold stF
  rw [shapeCast_id]
  iintro ⟨H, Hk⟩
  iapply (wp_loadR defs 𝒱 c bd (k := fun _ => .op (.store M (r256 o h) v Finset.univ _ _) .ret)); isplitl [H]; · iexact H
  iintro H
  iapply (wp_storeR defs 𝒱 c bd (k := .ret)); isplitl [H]; · iexact H
  iintro H
  iapply (le_wp_ret _ _ _ _ _); iapply Hk; iexact H

theorem rN_emb (i : S8x256.Idx) : rN.emb i = i := by
  funext a; apply Fin.ext
  show (![0, 0] : Fin 2 → Nat) a + 1 * (i a).val = (i a).val
  fin_cases a <;> simp

theorem rq_emb (i : S1x256x128.Idx) : rq.emb i = i := by
  funext a; apply Fin.ext
  show (![0, 0, 0] : Fin 3 → Nat) a + 1 * (i a).val = (i a).val
  fin_cases a <;> simp

theorem rdN (T : S8x256.Idx → Elt F .f32) : rdR rN T = T := funext fun i => congrArg T (rN_emb i)
theorem rdq {e : EltTy} (T : S1x256x128.Idx → Elt F e) : rdR rq T = T := funext fun i => congrArg T (rq_emb i)
theorem wrN (T v : S8x256.Idx → Elt F .f32) : wrR rN T v = v := funext fun i => by
  have := wrR_emb rN T v i
  rwa [rN_emb] at this
theorem wrq {e : EltTy} (T v : S1x256x128.Idx → Elt F e) : wrR rq T v = v := funext fun i => by
  have := wrR_emb rq T v i
  rwa [rq_emb] at this

theorem wp_stN {N : Memref sig .tc .vmem S8x256 .f32} {v} {T : S8x256.Idx → Elt F .f32} {Φ : _ → sProp 𝕄} :
    iprop(own c N T ∗ (own c N v -∗ Φ ⟨⟩)) ⊢ WP (stN N v) Φ := by
  unfold stN
  rw [shapeCast_id]
  iintro ⟨H, Hk⟩
  iapply (wp_loadR defs 𝒱 c bd (k := fun _ => .op (.store N rN v Finset.univ _ _) .ret)); isplitl [H]; · iexact H
  iintro H
  iapply (wp_storeR defs 𝒱 c bd (k := .ret)); isplitl [H]; · iexact H
  rw [wrN]
  iintro H
  iapply (le_wp_ret _ _ _ _ _); iapply Hk; iexact H

/-- The maxima after four groups. -/
def mx4 (cc : FVec F S256x256 .f32) (a : FVec F S8x256 .f32) (j0 j1 j2 j3 : Fin 32) (m : V4 F) : V4 F :=
  (maximumf m.1 (srow cc a j0), maximumf m.2.1 (srow cc a j1), maximumf m.2.2.1 (srow cc a j2), maximumf m.2.2.2 (srow cc a j3))

/-- The score buffer's tensor after some groups. -/
def wrs (o : Fin 32 → Fin 2 → Nat) (h : ∀ j a, o j a + S8x256.size a ≤ S32512x256.size a) (cc : FVec F S256x256 .f32)
    (a : FVec F S8x256 .f32) (js : List (Fin 32)) (T : S32512x256.Idx → Elt F .f32) : S32512x256.Idx → Elt F .f32 :=
  js.foldl (fun T j => wrR (r8 (o j) (h j)) T (srow cc a j)) T

theorem wp_st4 {M : Memref sig .tc .vmem S32512x256 .f32} {o h cc a j0 j1 j2 j3 m} {T : S32512x256.Idx → Elt F .f32} {Φ : _ → sProp 𝕄} :
    iprop(own c M T ∗ (own c M (wrs o h cc a [j0, j1, j2, j3] T) -∗ Φ (mx4 cc a j0 j1 j2 j3 m)))
      ⊢ WP (st4 M o h cc a j0 j1 j2 j3 m) Φ := by
  unfold st4 mx4
  simp only [wp_bind]
  iintro ⟨H, Hk⟩
  iapply (wp_st defs 𝒱 c bd); isplitl [H]; · iexact H
  iintro H
  iapply (wp_st defs 𝒱 c bd); isplitl [H]; · iexact H
  iintro H
  iapply (wp_st defs 𝒱 c bd); isplitl [H]; · iexact H
  iintro H
  iapply (wp_st defs 𝒱 c bd); isplitl [H]; · iexact H
  iintro H
  iapply (le_wp_ret _ _ _ _ _); iapply Hk; iexact H

/-- The sums after the eight groups a tile reads. -/
def lAdd8 (T : S32512x256.Idx → Elt F .f32) (o : Fin 8 → Fin 2 → Nat) (h : ∀ j a, o j a + S32x256.size a ≤ S32512x256.size a)
    (b : FVec F S8x256 .f32) (t : Fin 4) (l : FVec F S8x256 .f32) : FVec F S8x256 .f32 :=
  lAdd (lAdd (lAdd (lAdd (lAdd (lAdd (lAdd (lAdd l (pexp (rdR (r32 (o 0) (h 0)) T) b) t) (pexp (rdR (r32 (o 1) (h 1)) T) b) t) (pexp (rdR (r32 (o 2) (h 2)) T) b) t) (pexp (rdR (r32 (o 3) (h 3)) T) b) t) (pexp (rdR (r32 (o 4) (h 4)) T) b) t) (pexp (rdR (r32 (o 5) (h 5)) T) b) t) (pexp (rdR (r32 (o 6) (h 6)) T) b) t) (pexp (rdR (r32 (o 7) (h 7)) T) b) t

def lSums (T : S32512x256.Idx → Elt F .f32) (o : Fin 8 → Fin 2 → Nat) (h : ∀ j a, o j a + S32x256.size a ≤ S32512x256.size a)
    (b : FVec F S8x256 .f32) (l : V4 F) : V4 F :=
  (lAdd8 T o h b 0 l.1, lAdd8 T o h b 1 l.2.1, lAdd8 T o h b 2 l.2.2.1, lAdd8 T o h b 3 l.2.2.2)

/-- The codes of the weights of the 256 rows a tile reads. -/
def pCodes (T : S32512x256.Idx → Elt F .f32) (o : Fin 8 → Fin 2 → Nat) (h : ∀ j a, o j a + S32x256.size a ≤ S32512x256.size a)
    (b : FVec F S8x256 .f32) : FVec F S256x256 .bf16 :=
  codes (pexp (rdR (r32 (o 0) (h 0)) T) b) (pexp (rdR (r32 (o 1) (h 1)) T) b) (pexp (rdR (r32 (o 2) (h 2)) T) b)
    (pexp (rdR (r32 (o 3) (h 3)) T) b) (pexp (rdR (r32 (o 4) (h 4)) T) b) (pexp (rdR (r32 (o 5) (h 5)) T) b)
    (pexp (rdR (r32 (o 6) (h 6)) T) b) (pexp (rdR (r32 (o 7) (h 7)) T) b)

theorem wp_lds {M : Memref sig .tc .vmem S32512x256 .f32} {o h b l} {T : S32512x256.Idx → Elt F .f32} {Φ : _ → sProp 𝕄} :
    iprop(own c M T ∗ (own c M T -∗ Φ (lSums T o h b l, pCodes T o h b))) ⊢ WP (lds M o h b l) Φ := by
  unfold lds lSums lAdd8 pCodes
  simp only [wp_bind]
  iintro ⟨H, Hk⟩
  iapply (wp_ld defs 𝒱 c bd); isplitl [H]; · iexact H
  iintro H
  iapply (wp_ld defs 𝒱 c bd); isplitl [H]; · iexact H
  iintro H
  iapply (wp_ld defs 𝒱 c bd); isplitl [H]; · iexact H
  iintro H
  iapply (wp_ld defs 𝒱 c bd); isplitl [H]; · iexact H
  iintro H
  iapply (wp_ld defs 𝒱 c bd); isplitl [H]; · iexact H
  iintro H
  iapply (wp_ld defs 𝒱 c bd); isplitl [H]; · iexact H
  iintro H
  iapply (wp_ld defs 𝒱 c bd); isplitl [H]; · iexact H
  iintro H
  iapply (wp_ld defs 𝒱 c bd); isplitl [H]; · iexact H
  iintro H
  iapply (le_wp_ret _ _ _ _ _); iapply Hk; iexact H

end Pieces

end Attn

end
-- ==== Proof.Steps.lean ====
/- What a tile, the last tile, the start, the finish and the filling do, as functions of the tensors the buffers hold and of the
   matrix units' state, and the rule of each. -/
module

public import proofs.«01_k».proof.Proof.Wp

@[expose] public section

set_option synthInstance.maxSize 4096

noncomputable section

namespace Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The matrix units between two tiles: no tile is staged, the first unit multiplies by the query tile `qt` and holds nothing,
    the second holds `O` in its first 128 rows and nothing else. -/
structure Ready (U : Mxu F) (qt : FVec F S256x256 .bf16) (O : FVec F S128x256 .f32) : Prop where
  reg : ∀ q r, U.reg q r = none
  gmr : U.gmr 0 = some ⟨.bf16, true, qt⟩
  live0 : ∀ R, U.live 0 R = false
  live1 : ∀ R, U.live 1 R = decide (R.val < 128)
  out : ∀ (r : Fin 128) (C : Fin 256), U.acc 1 (Mxu.row fits_0_128 r) C = O (Mxu.ix r C)

/-- The matrix units after the start: the query tile is staged on the first, nothing else. -/
structure Started (U : Mxu F) (qt : FVec F S256x256 .bf16) : Prop where
  reg0 : U.reg 0 0 = some ⟨.bf16, true, qt⟩
  reg : ∀ q r, (q ≠ 0 ∨ r ≠ 0) → U.reg q r = none
  live : ∀ q R, U.live q R = false

/-- The scores' products: keys times queries. -/
def kq (k : Vec F S1x256x128 .fp8e4m3) (qt : FVec F S256x256 .bf16) : FVec F S256x256 .f32 :=
  FloatOps.mxuPass (DotDims.transposedRhs 256 256 256) (ktile k) qt

/-- The products of values and weights. -/
def pv (v : Vec F S1x128x256 .fp8e4m3) (p : FVec F S256x256 .bf16) : FVec F S128x256 .f32 :=
  FloatOps.mxuPass (DotDims.plain 128 256 256) (vtile v) p

theorem ix_eta {m n : Nat} (i : (⟨2, ![m, n]⟩ : Shape).Idx) : Mxu.ix (i 0) (i 1) = i := by
  funext a; fin_cases a <;> rfl

theorem started_init (qt : FVec F S256x256 .bf16) : Started ((Mxu.init : Mxu F).pushed 0 0 true qt) qt := by
  refine ⟨?_, ?_, ?_⟩
  · simp [Mxu.pushed, Mxu.init]
  · intro q r h; simp only [Mxu.pushed, Mxu.init]
    have : ¬(q = 0 ∧ r = 0) := by tauto
    simp [this]
  · intro q R; simp [Mxu.pushed, Mxu.init]

/-- The units after a tile's pushes and passes. -/
def mid (U : Mxu F) (qt : FVec F S256x256 .bf16) (rg : Fin 2) (A : Nat) (hA : Mxu.Fits A 256) (p : FVec F S256x256 .bf16)
    (v : Vec F S1x128x256 .fp8e4m3) (k : Vec F S1x256x128 .fp8e4m3) : Mxu F :=
  ((U.pushed 1 rg false p).accLhs 1 rg 0 (vtile v) fits_0_128).accBy 0 ⟨.bf16, true, qt⟩ A (ktile k) hA

theorem mid_read {U : Mxu F} {qt O} (h : Ready U qt O) (rg A hA p v k) :
    (mid U qt rg A hA p v k).read 0 A hA = kq k qt := by
  have e (r : Fin 256) (C : Fin 256) : (mid U qt rg A hA p v k).acc 0 (Mxu.row hA r) C = kq k qt (Mxu.ix r C) := by
    have hlt := r.isLt
    simp only [mid, Mxu.accBy, Mxu.accLhs, Mxu.pushed, h.reg, h.live0, Mxu.row]
    simp [Mxu.deposit, Mxu.Staged.pass, kq]
  funext i
  exact (e (i 0) (i 1)).trans (congrArg (kq k qt) (ix_eta (m := 256) (n := 256) i))

theorem mid_pop {U : Mxu F} {qt O} (h : Ready U qt O) (rg A hA p v k) :
    Ready ((mid U qt rg A hA p v k).pop 0 A 256 hA) qt (addf O (pv v p)) := by
  refine ⟨?_, ?_, ?_, ?_, ?_⟩
  · intro q r
    simp only [mid, Mxu.pop, Mxu.accBy, Mxu.accLhs, Mxu.pushed, h.reg]
    split_ifs <;> rfl
  · simp [mid, Mxu.pop, Mxu.accBy, Mxu.accLhs, Mxu.pushed, h.reg, h.gmr]
  · intro R
    simp only [mid, Mxu.pop, Mxu.accBy, Mxu.accLhs, Mxu.pushed, h.reg, h.live0]
    split_ifs <;> simp_all
  · intro R
    simp only [mid, Mxu.pop, Mxu.accBy, Mxu.accLhs, Mxu.pushed, h.reg, h.live1]
    by_cases hR : R.val < 128 <;> simp [hR]
  · intro r C
    have hr : r.val < 128 := r.isLt
    simp only [mid, Mxu.pop, Mxu.accBy, Mxu.accLhs, Mxu.pushed, h.reg]
    have hl : U.live 1 (Mxu.row fits_0_128 r) = true := by rw [h.live1]; simp [Mxu.row, hr]
    have ho := h.out r C
    simp [Mxu.row, hr] at hl ho ⊢
    rw [hl, ho]
    rfl

/-- The units after the last tile's pushes and passes. -/
def midT (U : Mxu F) (p : FVec F S256x256 .bf16) (v : Vec F S1x128x256 .fp8e4m3) (k : Vec F S1x256x128 .fp8e4m3) : Mxu F :=
  ((U.pushed 1 0 false p).accLhs 1 0 0 (vtile v) fits_0_128).accLhs 0 0 0 (ktile k) fits_0_256

theorem midT_read {U : Mxu F} {qt} (h : Started U qt) (p v k) : (midT U p v k).read 0 0 fits_0_256 = kq k qt := by
  have e (r : Fin 256) (C : Fin 256) : (midT U p v k).acc 0 (Mxu.row fits_0_256 r) C = kq k qt (Mxu.ix r C) := by
    have hlt := r.isLt
    have h10 := h.reg 1 0 (by simp)
    simp only [midT, Mxu.accBy, Mxu.accLhs, Mxu.pushed, h10, h.live, Mxu.row, Mxu.staged]
    simp [Mxu.deposit, h.reg0]
    simp [Mxu.Staged.pass, kq]
  funext i
  exact (e (i 0) (i 1)).trans (congrArg (kq k qt) (ix_eta (m := 256) (n := 256) i))

theorem midT_pop {U : Mxu F} {qt} (h : Started U qt) (p v k) :
    Ready ((midT U p v k).pop 0 0 256 fits_0_256) qt (pv v p) := by
  have h10 := h.reg 1 0 (by simp)
  refine ⟨?_, ?_, ?_, ?_, ?_⟩
  · intro q r
    by_cases hq : q = 0
    · by_cases hr : r = 0
      · subst hq hr; simp [midT, Mxu.pop, Mxu.accBy, Mxu.accLhs, Mxu.pushed, h10]
      · have := h.reg q r (.inr hr)
        simp [midT, Mxu.pop, Mxu.accBy, Mxu.accLhs, Mxu.pushed, h10, this, hq, hr]
        subst hq; exact this
    · have := h.reg q r (.inl hq)
      simp only [midT, Mxu.pop, Mxu.accBy, Mxu.accLhs, Mxu.pushed, h10, this]
      split_ifs <;> simp_all
  · simp [midT, Mxu.pop, Mxu.accBy, Mxu.accLhs, Mxu.pushed, h10, Mxu.staged, h.reg0]
  · intro R
    simp only [midT, Mxu.pop, Mxu.accBy, Mxu.accLhs, Mxu.pushed, h10, h.live]
    split_ifs <;> simp_all
  · intro R
    simp only [midT, Mxu.pop, Mxu.accBy, Mxu.accLhs, Mxu.pushed, h10, h.live]
    by_cases hR : R.val < 128 <;> simp [hR]
  · intro r C
    have hr : r.val < 128 := r.isLt
    simp only [midT, Mxu.pop, Mxu.accBy, Mxu.accLhs, Mxu.pushed, h10, h.live, Mxu.staged]
    simp [Mxu.row, hr]
    rfl

theorem ready_read {U : Mxu F} {qt O} (h : Ready U qt O) : U.read 1 0 fits_0_128 = O := by
  funext i
  exact (h.out (i 0) (i 1)).trans (congrArg O (ix_eta (m := 128) (n := 256) i))

theorem ready_drained {U : Mxu F} {qt O} (h : Ready U qt O) : (U.pop 1 0 128 fits_0_128).Drained := by
  refine ⟨fun q r => by simp [Mxu.pop, h.reg], fun q R => ?_⟩
  have : q = 0 ∨ q = 1 := by omega
  obtain rfl | rfl := this
  · simp [Mxu.pop, h.live0]
  · simp only [Mxu.pop, h.live1]
    by_cases hR : R.val < 128 <;> simp [hR]

theorem wrs_one {o : Fin 32 → Fin 2 → Nat} {h : ∀ j a, o j a + S8x256.size a ≤ S32512x256.size a} {cc : FVec F S256x256 .f32}
    {a : FVec F S8x256 .f32} {j : Fin 32} {T : S32512x256.Idx → Elt F .f32} : wrs o h cc a [j] T = wrR (r8 (o j) (h j)) T (srow cc a j) := rfl

/-- What a grid point's tiles carry: the score buffer's tensor, the sums, the maxima, the products. -/
structure St (F : FTy → Type) [FloatOps F] where
  T : S32512x256.Idx → Elt F .f32
  l : V4 F
  m : V4 F
  O : FVec F S128x256 .f32

theorem o6_inb {n : Nat} (hn : n < 127) (q : Fin 8) (a : Fin 2) : (![256 * n + 32 * q.val, 0] : Fin 2 → Nat) a + S32x256.size a ≤ S32512x256.size a := by
  have := q.isLt
  fin_cases a
  · show 256 * n + 32 * q.val + 32 ≤ 32512; omega
  · show 0 + 256 ≤ 256; omega
theorem o7_inb {n : Nat} (hn : n < 127) (a : Fin 3) : (![0, 0, 256 * n] : Fin 3 → Nat) a + S1x128x256.size a ≤ S1x128x32512.size a := by
  fin_cases a
  · show 0 + 1 ≤ 1; omega
  · show 0 + 128 ≤ 128; omega
  · show 256 * n + 256 ≤ 32512; omega
theorem o8_inb {n : Nat} (hn : n < 127) (a : Fin 3) : (![0, 256 * n, 0] : Fin 3 → Nat) a + S1x256x128.size a ≤ S1x32512x128.size a := by
  fin_cases a
  · show 0 + 1 ≤ 1; omega
  · show 256 * n + 256 ≤ 32512; omega
  · show 0 + 128 ≤ 128; omega
theorem o9_inb {n g : Nat} (hn : n < 127) (hg : g < 32) (r : Fin 2) (a : Fin 2) : (![g, 2 * n + r.val] : Fin 2 → Nat) a + S1x1.size a ≤ S32x254.size a := by
  have := r.isLt
  fin_cases a
  · show g + 1 ≤ 32; omega
  · show 2 * n + r.val + 1 ≤ 254; omega
theorem o10_inb {n : Nat} (hn : n < 127) (j : Fin 32) (a : Fin 2) : (![256 * n + 8 * j.val, 0] : Fin 2 → Nat) a + S8x256.size a ≤ S32512x256.size a := by
  have := j.isLt
  fin_cases a
  · show 256 * n + 8 * j.val + 8 ≤ 32512; omega
  · show 0 + 256 ≤ 256; omega
theorem oF_inb {n : Nat} (hn : n < 127) (a : Fin 2) : (![256 * n, 0] : Fin 2 → Nat) a + S256x256.size a ≤ S32512x256.size a := by
  fin_cases a
  · show 256 * n + 256 ≤ 32512; omega
  · show 0 + 256 ≤ 256; omega

/-- Tile `n`'s weights' codes, -/
def tp {n : Nat} (hn : n < 127) (b : FVec F S8x256 .f32) (T : S32512x256.Idx → Elt F .f32) : FVec F S256x256 .bf16 :=
  pCodes T (fun q => ![256 * n + 32 * q.val, 0]) (o6_inb hn) b
/-- its sums after, -/
def tl {n : Nat} (hn : n < 127) (b : FVec F S8x256 .f32) (T : S32512x256.Idx → Elt F .f32) (l : V4 F) : V4 F :=
  lSums T (fun q => ![256 * n + 32 * q.val, 0]) (o6_inb hn) b l
/-- its products of keys and queries, -/
def tc {n : Nat} (hn : n < 127) (T5 : S1x32512x128.Idx → Elt F .fp8e4m3) (qt : FVec F S256x256 .bf16) : FVec F S256x256 .f32 :=
  kq (rdR (rk ![0, 256 * n, 0] (o8_inb hn)) T5) qt
/-- and its products of values and weights. -/
def tpv {n : Nat} (hn : n < 127) (T6 : S1x128x32512.Idx → Elt F .fp8e4m3) (p : FVec F S256x256 .bf16) : FVec F S128x256 .f32 :=
  pv (rdR (rv ![0, 0, 256 * n] (o7_inb hn)) T6) p
/-- Its scales: the query scales times the key scale of the half. -/
def ta {n g : Nat} (hn : n < 127) (hg : g < 32) (TK : S32x254.Idx → Elt F .f32) (qa : FVec F S8x256 .f32) (r : Fin 2) : FVec F S8x256 .f32 :=
  scl qa (scaleAt TK ![g, 2 * n + r.val] (o9_inb hn hg r))
/-- Rows of tile `n` written. -/
def tw {n : Nat} (hn : n < 127) (cc : FVec F S256x256 .f32) (a : FVec F S8x256 .f32) (js : List (Fin 32)) (T : S32512x256.Idx → Elt F .f32) :
    S32512x256.Idx → Elt F .f32 := wrs (fun j => ![256 * n + 8 * j.val, 0]) (o10_inb hn) cc a js T

/-- Sixteen groups taken into the maxima. -/
def mx16 (cc : FVec F S256x256 .f32) (a : FVec F S8x256 .f32) (m : V4 F) : V4 F :=
  mx4 cc a 12 13 14 15 (mx4 cc a 8 9 10 11 (mx4 cc a 4 5 6 7 (mx4 cc a 0 1 2 3 m)))
def mx16' (cc : FVec F S256x256 .f32) (a : FVec F S8x256 .f32) (m : V4 F) : V4 F :=
  mx4 cc a 28 29 30 31 (mx4 cc a 24 25 26 27 (mx4 cc a 20 21 22 23 (mx4 cc a 16 17 18 19 m)))

/-- A tile's effect. -/
def tileF {n g : Nat} (hn : n < 127) (hg : g < 32) (TK : S32x254.Idx → Elt F .f32) (T5 : S1x32512x128.Idx → Elt F .fp8e4m3)
    (T6 : S1x128x32512.Idx → Elt F .fp8e4m3) (qt : FVec F S256x256 .bf16) (qa b : FVec F S8x256 .f32) (s : St F) : St F where
  T := tw hn (tc hn T5 qt) (ta hn hg TK qa 1) [28, 29, 30, 31]
    (tw hn (tc hn T5 qt) (ta hn hg TK qa 1) [24, 25, 26, 27]
    (tw hn (tc hn T5 qt) (ta hn hg TK qa 1) [20, 21, 22, 23]
    (tw hn (tc hn T5 qt) (ta hn hg TK qa 1) [16, 17, 18, 19]
    (tw hn (tc hn T5 qt) (ta hn hg TK qa 0) [12, 13, 14, 15]
    (tw hn (tc hn T5 qt) (ta hn hg TK qa 0) [8, 9, 10, 11]
    (tw hn (tc hn T5 qt) (ta hn hg TK qa 0) [4, 5, 6, 7]
    (tw hn (tc hn T5 qt) (ta hn hg TK qa 0) [0, 1, 2, 3] s.T)))))))
  l := tl hn b s.T s.l
  m := mx16' (tc hn T5 qt) (ta hn hg TK qa 1) (mx16 (tc hn T5 qt) (ta hn hg TK qa 0) s.m)
  O := addf s.O (tpv hn T6 (tp hn b s.T))

theorem h126 : 126 < 127 := by decide

/-- The last tile's effect. -/
def tailF {g : Nat} (hg : g < 32) (TK : S32x254.Idx → Elt F .f32) (T5 : S1x32512x128.Idx → Elt F .fp8e4m3)
    (T6 : S1x128x32512.Idx → Elt F .fp8e4m3) (κm : F .f32) (qt : FVec F S256x256 .bf16) (qa b : FVec F S8x256 .f32)
    (T : S32512x256.Idx → Elt F .f32) : St F where
  T := tw h126 (tc h126 T5 qt) (ta h126 hg TK qa 1) [17]
    (tw h126 (tc h126 T5 qt) (ta h126 hg TK qa 1) [16]
    (tw h126 (tc h126 T5 qt) (ta h126 hg TK qa 0) [12, 13, 14, 15]
    (tw h126 (tc h126 T5 qt) (ta h126 hg TK qa 0) [8, 9, 10, 11]
    (tw h126 (tc h126 T5 qt) (ta h126 hg TK qa 0) [4, 5, 6, 7]
    (tw h126 (tc h126 T5 qt) (ta h126 hg TK qa 0) [0, 1, 2, 3] T)))))
  l := tl h126 b T (v4 (Scalar.ofBits .f32 0x00000000#32 : F .f32))
  m := (maximumf (mx16 (tc h126 T5 qt) (ta h126 hg TK qa 0) (v4 κm)).1 (srow (tc h126 T5 qt) (ta h126 hg TK qa 1) 16),
    maximumf (mx16 (tc h126 T5 qt) (ta h126 hg TK qa 0) (v4 κm)).2.1 (srow (tc h126 T5 qt) (ta h126 hg TK qa 1) 17),
    (mx16 (tc h126 T5 qt) (ta h126 hg TK qa 0) (v4 κm)).2.2.1, (mx16 (tc h126 T5 qt) (ta h126 hg TK qa 0) (v4 κm)).2.2.2)
  O := tpv h126 T6 (tp h126 b T)

/-- The last tile and then the first `n`. -/
def seqF {g : Nat} (hg : g < 32) (TK : S32x254.Idx → Elt F .f32) (T5 : S1x32512x128.Idx → Elt F .fp8e4m3)
    (T6 : S1x128x32512.Idx → Elt F .fp8e4m3) (κm : F .f32) (qt : FVec F S256x256 .bf16) (qa b : FVec F S8x256 .f32)
    (T : S32512x256.Idx → Elt F .f32) : Nat → St F
  | 0 => tailF hg TK T5 T6 κm qt qa b T
  | n + 1 => if hn : n < 127 then tileF hn hg TK T5 T6 qt qa b (seqF hg TK T5 T6 κm qt qa b T n) else seqF hg TK T5 T6 κm qt qa b T n

section Rules

variable {nD : Nat} {τ : Topo} {sig : RefSig} {Λ : Labels}

local notation "𝕄" => MT nD τ sig Unit (Elt F) ℕ (UR sig nD τ) ℕ

variable (defs : Defs nD τ sig (Elt F) Λ) (𝒱 : Variants) (c : Dev nD) (bd : Option 𝒱.V)

local notation "WP" p:max Φ:max => wp frame (wpE defs 𝒱 (c : Thread nD τ) bd) Set.univ p Φ

theorem wp_push {U : Mxu F} {q r tr} {v : FVec F (Mxu.STile 256) .bf16} (h : U.PushOk q r tr) {Φ : _ → sProp 𝕄} :
    Φ (U.pushed q r tr v) ⊢ WP (U.pushRhs q r tr v) Φ := by
  unfold Mxu.pushRhs
  rw [wp_assume_of 𝒱 (c : Thread nD τ) bd Set.univ h]
  exact le_wp_ret _ _ _ _ _

theorem wp_accL {U : Mxu F} {q A t} {M : Nat} {v : FVec F (Mxu.STile M) .bf16} {hA : Mxu.Fits A M} (h : U.gmr q = some t) {Φ : _ → sProp 𝕄} :
    Φ (U.accBy q t A v hA) ⊢ WP (U.accLhsLoaded q A v hA) Φ := by
  unfold Mxu.accLhsLoaded
  have h' : (U.gmr q).isSome = true := by rw [h]; rfl
  rw [wp_assume_of 𝒱 (c : Thread nD τ) bd Set.univ h']
  have : (U.gmr q).get h' = t := by simp [h]
  rw [this]
  exact le_wp_ret _ _ _ _ _

theorem wp_exit {U : Mxu F} (h : U.Drained) {Φ : _ → sProp 𝕄} : Φ ⟨⟩ ⊢ WP (U.exit) Φ := by
  unfold Mxu.exit
  rw [wp_assume_of 𝒱 (c : Thread nD τ) bd Set.univ h]
  exact le_wp_ret _ _ _ _ _

theorem wp_tile {K : Memref sig .tc .smem S32x254 .f32} {A5 : Memref sig .tc .vmem S1x32512x128 .fp8e4m3}
    {A6 : Memref sig .tc .vmem S1x128x32512 .fp8e4m3} {M : Memref sig .tc .vmem S32512x256 .f32} {n g : Nat} (hn : n < 127) (hg : g < 32)
    {rg A hA qa b} {TK T5 T6 qt} (s : St F) {U : Mxu F} (hU : Ready U qt s.O) {Φ : _ → sProp 𝕄} :
    iprop(own c K TK ∗ own c A5 T5 ∗ own c A6 T6 ∗ own c M s.T ∗
      (∀ U', ⌜Ready U' qt (tileF hn hg TK T5 T6 qt qa b s).O⌝ -∗ own c K TK -∗ own c A5 T5 -∗ own c A6 T6 -∗ own c M (tileF hn hg TK T5 T6 qt qa b s).T -∗
        Φ ((tileF hn hg TK T5 T6 qt qa b s).l, (tileF hn hg TK T5 T6 qt qa b s).m, U')))
      ⊢ WP (tile K A5 A6 M (fun q => ![256 * n + 32 * q.val, 0]) (o6_inb hn) ![0, 0, 256 * n] (o7_inb hn) ![0, 256 * n, 0] (o8_inb hn)
          (fun r => ![g, 2 * n + r.val]) (o9_inb hn hg) (fun j => ![256 * n + 8 * j.val, 0]) (o10_inb hn) rg A hA qa b (s.l, s.m, U)) Φ := by
  unfold tile
  simp only [wp_bind]
  have hr := mid_read hU rg A hA (tp hn b s.T) (rdR (rv ![0, 0, 256 * n] (o7_inb hn)) T6) (rdR (rk ![0, 256 * n, 0] (o8_inb hn)) T5)
  have hp := mid_pop hU rg A hA (tp hn b s.T) (rdR (rv ![0, 0, 256 * n] (o7_inb hn)) T6) (rdR (rk ![0, 256 * n, 0] (o8_inb hn)) T5)
  unfold mid tp at hr hp
  have hO : (tileF hn hg TK T5 T6 qt qa b s).O = addf s.O (pv (rdR (rv ![0, 0, 256 * n] (o7_inb hn)) T6) (pCodes s.T (fun q => ![256 * n + 32 * q.val, 0]) (o6_inb hn) b)) := rfl
  rw [← hO] at hp
  generalize (tileF hn hg TK T5 T6 qt qa b s).O = O' at hp ⊢
  simp only [tileF, mx16, mx16', tw, tc, ta, tl]
  iintro ⟨HK, H5, H6, HM, HΦ⟩
  iapply (wp_lds defs 𝒱 c bd); isplitl [HM]; · iexact HM
  iintro HM
  iapply (wp_push defs 𝒱 c bd (by intro t ht; rw [hU.reg] at ht; cases ht))
  iapply (wp_ldV defs 𝒱 c bd); isplitl [H6]; · iexact H6
  iintro H6
  iapply (wp_ldK defs 𝒱 c bd); isplitl [H5]; · iexact H5
  iintro H5
  iapply (wp_accL defs 𝒱 c bd (t := ⟨.bf16, true, qt⟩) (by simp [Mxu.accLhs, Mxu.accBy, Mxu.pushed, hU.reg, hU.gmr]))
  rw [hr]
  iapply (wp_ldS defs 𝒱 c bd); isplitl [HK]; · iexact HK
  iintro HK
  iapply (wp_st4 defs 𝒱 c bd); isplitl [HM]; · iexact HM
  iintro HM
  iapply (wp_st4 defs 𝒱 c bd); isplitl [HM]; · iexact HM
  iintro HM
  iapply (wp_st4 defs 𝒱 c bd); isplitl [HM]; · iexact HM
  iintro HM
  iapply (wp_st4 defs 𝒱 c bd); isplitl [HM]; · iexact HM
  iintro HM
  iapply (wp_ldS defs 𝒱 c bd); isplitl [HK]; · iexact HK
  iintro HK
  iapply (wp_st4 defs 𝒱 c bd); isplitl [HM]; · iexact HM
  iintro HM
  iapply (wp_st4 defs 𝒱 c bd); isplitl [HM]; · iexact HM
  iintro HM
  iapply (wp_st4 defs 𝒱 c bd); isplitl [HM]; · iexact HM
  iintro HM
  iapply (wp_st4 defs 𝒱 c bd); isplitl [HM]; · iexact HM
  iintro HM
  iapply (le_wp_ret _ _ _ _ _)
  iapply HΦ $$ [] HK H5 H6 HM
  ipureintro
  exact hp

theorem wp_tail {K : Memref sig .tc .smem S32x254 .f32} {A5 : Memref sig .tc .vmem S1x32512x128 .fp8e4m3}
    {A6 : Memref sig .tc .vmem S1x128x32512 .fp8e4m3} {M : Memref sig .tc .vmem S32512x256 .f32} {g : Nat} (hg : g < 32)
    {κm qa b} {TK T5 T6 qt} {T : S32512x256.Idx → Elt F .f32} {U : Mxu F} (hU : Started U qt) {Φ : _ → sProp 𝕄} :
    iprop(own c K TK ∗ own c A5 T5 ∗ own c A6 T6 ∗ own c M T ∗
      (∀ U', ⌜Ready U' qt (tailF hg TK T5 T6 κm qt qa b T).O⌝ -∗ own c K TK -∗ own c A5 T5 -∗ own c A6 T6 -∗ own c M (tailF hg TK T5 T6 κm qt qa b T).T -∗
        Φ ((tailF hg TK T5 T6 κm qt qa b T).l, (tailF hg TK T5 T6 κm qt qa b T).m, U')))
      ⊢ WP (tail K A5 A6 M (fun q => ![256 * 126 + 32 * q.val, 0]) (o6_inb h126) ![0, 0, 256 * 126] (o7_inb h126) ![0, 256 * 126, 0] (o8_inb h126)
          ![g, 2 * 126 + (0 : Fin 2).val] (o9_inb h126 hg 0) ![g, 2 * 126 + (1 : Fin 2).val] (o9_inb h126 hg 1)
          (fun j => ![256 * 126 + 8 * j.val, 0]) (o10_inb h126) κm qa b U) Φ := by
  unfold tail
  simp only [wp_bind]
  have h10 := hU.reg 1 0 (by simp)
  have hr := midT_read hU (tp h126 b T) (rdR (rv ![0, 0, 256 * 126] (o7_inb h126)) T6) (rdR (rk ![0, 256 * 126, 0] (o8_inb h126)) T5)
  have hp := midT_pop hU (tp h126 b T) (rdR (rv ![0, 0, 256 * 126] (o7_inb h126)) T6) (rdR (rk ![0, 256 * 126, 0] (o8_inb h126)) T5)
  unfold midT tp at hr hp
  have hO : (tailF hg TK T5 T6 κm qt qa b T).O = pv (rdR (rv ![0, 0, 256 * 126] (o7_inb h126)) T6) (pCodes T (fun q => ![256 * 126 + 32 * q.val, 0]) (o6_inb h126) b) := rfl
  rw [← hO] at hp
  generalize (tailF hg TK T5 T6 κm qt qa b T).O = O' at hp ⊢
  simp only [tailF, mx16, tw, tc, ta, tl, wrs_one]
  iintro ⟨HK, H5, H6, HM, HΦ⟩
  iapply (wp_lds defs 𝒱 c bd); isplitl [HM]; · iexact HM
  iintro HM
  iapply (wp_push defs 𝒱 c bd (by intro t ht; rw [h10] at ht; cases ht))
  iapply (wp_ldV defs 𝒱 c bd); isplitl [H6]; · iexact H6
  iintro H6
  iapply (wp_ldK defs 𝒱 c bd); isplitl [H5]; · iexact H5
  iintro H5
  rw [hr]
  iapply (wp_ldS defs 𝒱 c bd); isplitl [HK]; · iexact HK
  iintro HK
  iapply (wp_st4 defs 𝒱 c bd); isplitl [HM]; · iexact HM
  iintro HM
  iapply (wp_st4 defs 𝒱 c bd); isplitl [HM]; · iexact HM
  iintro HM
  iapply (wp_st4 defs 𝒱 c bd); isplitl [HM]; · iexact HM
  iintro HM
  iapply (wp_st4 defs 𝒱 c bd); isplitl [HM]; · iexact HM
  iintro HM
  iapply (wp_ldS defs 𝒱 c bd); isplitl [HK]; · iexact HK
  iintro HK
  iapply (wp_st defs 𝒱 c bd); isplitl [HM]; · iexact HM
  iintro HM
  iapply (wp_st defs 𝒱 c bd); isplitl [HM]; · iexact HM
  iintro HM
  iapply (le_wp_ret _ _ _ _ _)
  iapply HΦ $$ [] HK H5 H6 HM
  ipureintro
  exact hp

/-- The query tile as the unit takes it. -/
theorem wp_start {Q : Memref sig .tc .smem S32x254 .f32} {A4 : Memref sig .tc .vmem S1x256x128 .fp8e4m3} {N : Memref sig .tc .vmem S8x256 .f32}
    {o2 h2 o3 h3 κl} {TQ T4 TN} {Φ : _ → sProp 𝕄} :
    iprop(own c Q TQ ∗ own c A4 T4 ∗ own c N TN ∗
      (∀ U, ⌜Started U (ktile T4)⌝ -∗ own c Q TQ -∗ own c A4 T4 -∗ own c N TN -∗
        Φ (qsc κl (scaleAt TQ o2 h2) (scaleAt TQ o3 h3), bias TN, U)))
      ⊢ WP (start Q A4 N o2 h2 o3 h3 κl) Φ := by
  unfold start
  simp only [wp_bind]
  iintro ⟨HQ, H4, HN, HΦ⟩
  iapply (wp_loadR defs 𝒱 c bd (r := rq) (k := .ret)); isplitl [H4]; · iexact H4
  iintro H4
  iapply (le_wp_ret _ _ _ _ _)
  rw [rdq]
  iapply (wp_push defs 𝒱 c bd (by intro t ht; simp [Mxu.init] at ht))
  iapply (wp_ldS defs 𝒱 c bd); isplitl [HQ]; · iexact HQ
  iintro HQ
  iapply (wp_ldS defs 𝒱 c bd); isplitl [HQ]; · iexact HQ
  iintro HQ
  iapply (wp_loadR defs 𝒱 c bd (r := rN) (k := .ret)); isplitl [HN]; · iexact HN
  iintro HN
  iapply (le_wp_ret _ _ _ _ _)
  rw [rdN]
  iapply (le_wp_ret _ _ _ _ _)
  iapply HΦ $$ [] HQ H4 HN
  ipureintro
  exact started_init _

theorem wp_fin {S : Memref sig .tc .smem S32 .f32} {A7 : Memref sig .tc .vmem S1x256x128 .bf16} {N : Memref sig .tc .vmem S8x256 .f32}
    {o11 h11 hx} {TS T7 TN} {l m : V4 F} {U : Mxu F} {qt O} (hU : Ready U qt O) {Φ : _ → sProp 𝕄} :
    iprop(own c S TS ∗ own c A7 T7 ∗ own c N TN ∗
      (own c S TS -∗ own c A7 (outv O (scaleAt1 TS o11 h11) (lfin l)) -∗ own c N (mfin m) -∗ Φ ⟨⟩))
      ⊢ WP (fin S A7 N o11 h11 hx (l, m, U)) Φ := by
  unfold fin
  simp only [wp_bind]
  rw [ready_read hU]
  iintro ⟨HS, H7, HN, HΦ⟩
  iapply (wp_stN defs 𝒱 c bd); isplitl [HN]; · iexact HN
  iintro HN
  iapply (wp_ldS1 defs 𝒱 c bd); isplitl [HS]; · iexact HS
  iintro HS
  iapply (wp_loadR defs 𝒱 c bd (r := rq) (k := .ret)); isplitl [H7]; · iexact H7
  iintro H7
  iapply (le_wp_ret _ _ _ _ _)
  iapply (wp_storeR defs 𝒱 c bd (r := rq) (k := .ret)); isplitl [H7]; · iexact H7
  rw [wrq]
  iintro H7
  iapply (le_wp_ret _ _ _ _ _)
  iapply (wp_exit defs 𝒱 c bd (ready_drained hU))
  iapply HΦ $$ HS H7 HN

/-- The score buffer's tensor with its first `256 n` rows filled. -/
def fillF (v : FVec F S256x256 .f32) (T : S32512x256.Idx → Elt F .f32) : Nat → S32512x256.Idx → Elt F .f32
  | 0 => T
  | n + 1 => if hn : n < 127 then wrR (r256 ![256 * n, 0] (oF_inb hn)) (fillF v T n) v else fillF v T n

end Rules

end Attn

end
-- ==== Proof.Point.lean ====
/- What a grid point does, as a function of the tensors its buffers hold. -/
module

public import proofs.«01_k».proof.Proof.Steps

@[expose] public section

set_option synthInstance.maxSize 4096

noncomputable section

namespace Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

theorem seqF_succ {g : Nat} (hg : g < 32) (TK : S32x254.Idx → Elt F .f32) (T5 : S1x32512x128.Idx → Elt F .fp8e4m3)
    (T6 : S1x128x32512.Idx → Elt F .fp8e4m3) (κm : F .f32) (qt : FVec F S256x256 .bf16) (qa b : FVec F S8x256 .f32)
    (T : S32512x256.Idx → Elt F .f32) {n : Nat} (hn : n < 127) :
    seqF hg TK T5 T6 κm qt qa b T (n + 1) = tileF hn hg TK T5 T6 qt qa b (seqF hg TK T5 T6 κm qt qa b T n) := by
  simp only [seqF, dif_pos hn]

theorem fillF_succ (v : FVec F S256x256 .f32) (T : S32512x256.Idx → Elt F .f32) {n : Nat} (hn : n < 127) :
    fillF v T (n + 1) = wrR (r256 ![256 * n, 0] (oF_inb hn)) (fillF v T n) v := by
  simp only [fillF, dif_pos hn]

theorem scaleAt_congr (T : S32x254.Idx → Elt F .f32) {o o' : Fin 2 → Nat} (e : o = o') (h : ∀ a, o a + S1x1.size a ≤ S32x254.size a)
    (h' : ∀ a, o' a + S1x1.size a ≤ S32x254.size a) : scaleAt T o h = scaleAt T o' h' := by subst e; rfl

theorem scaleAt1_congr (T : S32.Idx → Elt F .f32) {o o' : Fin 1 → Nat} (e : o = o') (h : ∀ a, o a + S1.size a ≤ S32.size a)
    (h' : ∀ a, o' a + S1.size a ≤ S32.size a) : scaleAt1 T o h = scaleAt1 T o' h' := by subst e; rfl

/-- The head of the block of queries of a point, -/
abbrev ghd (n : Nat) : Nat := min n 4063 / 127
/-- and its block. -/
abbrev gqb (n : Nat) : Nat := min n 4063 % 127

theorem ghd_lt (n : Nat) : ghd n < 32 := by unfold ghd; omega

theorem oq_inb (n : Nat) (r : Fin 2) (a : Fin 2) : (![ghd n, 2 * gqb n + r.val] : Fin 2 → Nat) a + S1x1.size a ≤ S32x254.size a := by
  have := r.isLt
  fin_cases a
  · show min n 4063 / 127 + 1 ≤ 32; omega
  · show 2 * (min n 4063 % 127) + r.val + 1 ≤ 254; omega

theorem ov_inb {n : Nat} (hn : n < 4065) (a : Fin 1) : (![(n - 1) / 127] : Fin 1 → Nat) a + S1.size a ≤ S32.size a := by
  fin_cases a
  show (n - 1) / 127 + 1 ≤ 32; omega

/-- The score buffer a point starts from: at the first point it is filled. -/
def startT (κm : F .f32) (n : Nat) (T : S32512x256.Idx → Elt F .f32) : S32512x256.Idx → Elt F .f32 :=
  if n = 0 then fillF (broadcast S256x256 κm) T 127 else T

/-- The maxima a point starts from. -/
def startN (n : Nat) (T : FVec F S8x256 .f32) : FVec F S8x256 .f32 :=
  if n = 0 then broadcast S8x256 (Scalar.ofBits .f32 0x00000000#32 : F .f32) else T

/-- The query scales of a point. -/
def qsF (κl : F .f32) (n : Nat) (TQ : S32x254.Idx → Elt F .f32) : FVec F S8x256 .f32 :=
  qsc κl (scaleAt TQ ![ghd n, 2 * gqb n + (0 : Fin 2).val] (oq_inb n 0)) (scaleAt TQ ![ghd n, 2 * gqb n + (1 : Fin 2).val] (oq_inb n 1))

/-- The state after a point's tiles. -/
def ptF (κm κl : F .f32) (n : Nat) (TQ TK : S32x254.Idx → Elt F .f32) (T4 : S1x256x128.Idx → Elt F .fp8e4m3)
    (T5 : S1x32512x128.Idx → Elt F .fp8e4m3) (T6 : S1x128x32512.Idx → Elt F .fp8e4m3) (T8 : S32512x256.Idx → Elt F .f32)
    (T9 : FVec F S8x256 .f32) : St F :=
  seqF (ghd_lt n) TK T5 T6 κm (ktile T4) (qsF κl n TQ) (bias (startN n T9)) (startT κm n T8) 126

/-- The block a point writes. -/
def outF {n : Nat} (hn : n < 4065) (TS : S32.Idx → Elt F .f32) (s : St F) : S1x256x128.Idx → Elt F .bf16 :=
  outv s.O (scaleAt1 TS ![(n - 1) / 127] (ov_inb hn)) (lfin s.l)

section Rules

variable {nD : Nat} {τ : Topo} {sig : RefSig} {Λ : Labels}

local notation "𝕄" => MT nD τ sig Unit (Elt F) ℕ (UR sig nD τ) ℕ

variable (defs : Defs nD τ sig (Elt F) Λ) (𝒱 : Variants) (c : Dev nD) (bd : Option 𝒱.V)

local notation "WP" p:max Φ:max => wp frame (wpE defs 𝒱 (c : Thread nD τ) bd) Set.univ p Φ

/-- A tile at offsets equal to the closed ones. -/
theorem wp_tileAt {K : Memref sig .tc .smem S32x254 .f32} {A5 : Memref sig .tc .vmem S1x32512x128 .fp8e4m3}
    {A6 : Memref sig .tc .vmem S1x128x32512 .fp8e4m3} {M : Memref sig .tc .vmem S32512x256 .f32} (n : Nat) {g : Nat} (hn : n < 127) (hg : g < 32)
    {o6 h6 o7 h7 o8 h8 o9 h9 o10 h10} (e6 : o6 = fun q => ![256 * n + 32 * q.val, 0]) (e7 : o7 = ![0, 0, 256 * n]) (e8 : o8 = ![0, 256 * n, 0])
    (e9 : o9 = fun r => ![g, 2 * n + r.val]) (e10 : o10 = fun j => ![256 * n + 8 * j.val, 0])
    {rg A hA qa b} {TK T5 T6 κm qt T} {U : Mxu F} (hU : Ready U qt (seqF hg TK T5 T6 κm qt qa b T n).O) {Φ : _ → sProp 𝕄} :
    iprop(own c K TK ∗ own c A5 T5 ∗ own c A6 T6 ∗ own c M (seqF hg TK T5 T6 κm qt qa b T n).T ∗
      (∀ U', ⌜Ready U' qt (seqF hg TK T5 T6 κm qt qa b T (n + 1)).O⌝ -∗ own c K TK -∗ own c A5 T5 -∗ own c A6 T6 -∗
        own c M (seqF hg TK T5 T6 κm qt qa b T (n + 1)).T -∗
        Φ ((seqF hg TK T5 T6 κm qt qa b T (n + 1)).l, (seqF hg TK T5 T6 κm qt qa b T (n + 1)).m, U')))
      ⊢ WP (tile K A5 A6 M o6 h6 o7 h7 o8 h8 o9 h9 o10 h10 rg A hA qa b
          ((seqF hg TK T5 T6 κm qt qa b T n).l, (seqF hg TK T5 T6 κm qt qa b T n).m, U)) Φ := by
  subst e6 e7 e8 e9 e10
  rw [seqF_succ hg TK T5 T6 κm qt qa b T hn]
  exact wp_tile defs 𝒱 c bd hn hg _ hU

/-- The last tile at offsets equal to the closed ones. -/
theorem wp_tailAt {K : Memref sig .tc .smem S32x254 .f32} {A5 : Memref sig .tc .vmem S1x32512x128 .fp8e4m3}
    {A6 : Memref sig .tc .vmem S1x128x32512 .fp8e4m3} {M : Memref sig .tc .vmem S32512x256 .f32} {g : Nat} (hg : g < 32)
    {o6 h6 o7 h7 o8 h8 o4 h4 o5 h5 o10 h10} (e6 : o6 = fun q => ![256 * 126 + 32 * q.val, 0]) (e7 : o7 = ![0, 0, 256 * 126]) (e8 : o8 = ![0, 256 * 126, 0])
    (e4 : o4 = ![g, 2 * 126 + (0 : Fin 2).val]) (e5 : o5 = ![g, 2 * 126 + (1 : Fin 2).val]) (e10 : o10 = fun j => ![256 * 126 + 8 * j.val, 0])
    {κm qa b} {TK T5 T6 qt} {T : S32512x256.Idx → Elt F .f32} {U : Mxu F} (hU : Started U qt) {Φ : _ → sProp 𝕄} :
    iprop(own c K TK ∗ own c A5 T5 ∗ own c A6 T6 ∗ own c M T ∗
      (∀ U', ⌜Ready U' qt (seqF hg TK T5 T6 κm qt qa b T 0).O⌝ -∗ own c K TK -∗ own c A5 T5 -∗ own c A6 T6 -∗ own c M (seqF hg TK T5 T6 κm qt qa b T 0).T -∗
        Φ ((seqF hg TK T5 T6 κm qt qa b T 0).l, (seqF hg TK T5 T6 κm qt qa b T 0).m, U')))
      ⊢ WP (tail K A5 A6 M o6 h6 o7 h7 o8 h8 o4 h4 o5 h5 o10 h10 κm qa b U) Φ := by
  subst e6 e7 e8 e4 e5 e10
  exact wp_tail defs 𝒱 c bd hg hU

/-- The filling of 256 rows at an offset equal to the closed one. -/
theorem wp_fillAt {M : Memref sig .tc .vmem S32512x256 .f32} (n : Nat) (hn : n < 127) {o h} (e : o = ![256 * n, 0])
    {v : FVec F S256x256 .f32} {T : S32512x256.Idx → Elt F .f32} {Φ : _ → sProp 𝕄} :
    iprop(own c M (fillF v T n) ∗ (own c M (fillF v T (n + 1)) -∗ Φ ⟨⟩)) ⊢ WP (stF M o h v) Φ := by
  subst e
  rw [fillF_succ v T hn]
  exact wp_stF defs 𝒱 c bd

end Rules

end Attn

end
-- ==== Proof.BodyKernel.lean ====
/- The rule of the printed body: what it does to the buffers' tensors is `Attn.ptF` and `Attn.outF`. -/
module

public import proofs.«01_k».proof.Proof.OffKernel
public import proofs.«01_k».proof.Proof.Point

@[expose] public section

set_option synthInstance.maxSize 4096

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Attn

variable {F : FTy → Type} [FloatOps F] [Facts₀] [Facts]
open Facts₀ Facts

local notation "𝕄" => MT nD τ sig Unit (Elt F) ℕ (UR sig nD τ) ℕ

variable (𝒱 : Variants) (c : Dev nD) (bd : Option 𝒱.V)

local notation "WP" p:max Φ:max => wp frame (wpE (defs₀ (F := F)) 𝒱 (c : Thread nD τ) bd) Set.univ p Φ

/-- The mask, -/
abbrev kM : F .f32 := Scalar.ofBits .f32 0xF149F2CA#32
/-- and the factor of the query scales. -/
abbrev kL : F .f32 := Scalar.ofBits .f32 0x3E0293EE#32

section

variable {i : grid0.Coords} {arg2 : Memref sig .tc .smem S32x254 .f32} {arg5 : Memref sig .tc .vmem S1x32512x128 .fp8e4m3}
  {arg6 : Memref sig .tc .vmem S1x128x32512 .fp8e4m3} {arg8 : Memref sig .tc .vmem S32512x256 .f32}

theorem trips2 : k0_t2_loop.trips = 18 := by decide
theorem trips1 : k0_t1_loop.trips = 127 := by decide

theorem wp_til (k : Fin k0_t2_loop.trips) (g : Fin 7) (n : Nat) (hn : n = 7 * k.val + g.val) {rg A hA qa b}
    {TK T5 T6} {κm : F .f32} {qt T} {U : Mxu F}
    (hU : Ready U qt (seqF (ghd_lt (i 0).val) TK T5 T6 κm qt qa b T n).O) {Φ : _ → sProp 𝕄} :
    iprop(own c arg2 TK ∗ own c arg5 T5 ∗ own c arg6 T6 ∗ own c arg8 (seqF (ghd_lt (i 0).val) TK T5 T6 κm qt qa b T n).T ∗
      (∀ U', ⌜Ready U' qt (seqF (ghd_lt (i 0).val) TK T5 T6 κm qt qa b T (n + 1)).O⌝ -∗ own c arg2 TK -∗ own c arg5 T5 -∗ own c arg6 T6 -∗
        own c arg8 (seqF (ghd_lt (i 0).val) TK T5 T6 κm qt qa b T (n + 1)).T -∗
        Φ ((seqF (ghd_lt (i 0).val) TK T5 T6 κm qt qa b T (n + 1)).l, (seqF (ghd_lt (i 0).val) TK T5 T6 κm qt qa b T (n + 1)).m, U')))
      ⊢ WP (til i arg2 arg5 arg6 arg8 k g rg A hA qa b
          ((seqF (ghd_lt (i 0).val) TK T5 T6 κm qt qa b T n).l, (seqF (ghd_lt (i 0).val) TK T5 T6 κm qt qa b T n).m, U)) Φ := by
  have hk : k.val < 18 := trips2 ▸ k.isLt
  have hg := g.isLt
  subst hn
  exact wp_tileAt (defs₀ (F := F)) 𝒱 c bd _ (by omega) _ (funext fun q => off6_eq k g q) (off7_eq k g) (off8_eq k g)
    (funext fun r => off9_eq i k g r) (funext fun j => off10_eq k g j) hU

/-- What holds before trip `k` of the loop over the tiles. -/
def inv (arg2 : Memref sig .tc .smem S32x254 .f32) (arg5 : Memref sig .tc .vmem S1x32512x128 .fp8e4m3)
    (arg6 : Memref sig .tc .vmem S1x128x32512 .fp8e4m3) (arg8 : Memref sig .tc .vmem S32512x256 .f32)
    (TK : S32x254.Idx → Elt F .f32) (T5 : S1x32512x128.Idx → Elt F .fp8e4m3) (T6 : S1x128x32512.Idx → Elt F .fp8e4m3)
    (qt : FVec F S256x256 .bf16) (sq : Nat → St F) (k : Nat) (acc : V9 F) : sProp 𝕄 :=
  iprop(∃ U, ⌜Ready U qt (sq (7 * k)).O ∧ acc = to9 ((sq (7 * k)).l, (sq (7 * k)).m, U)⌝ ∗
    own c arg2 TK ∗ own c arg5 T5 ∗ own c arg6 T6 ∗ own c arg8 (sq (7 * k)).T)

theorem wp_trip {TK T5 T6} {κm : F .f32} {qt qa b T} (k : Fin k0_t2_loop.trips) (acc : V9 F) :
    inv c arg2 arg5 arg6 arg8 TK T5 T6 qt (seqF (ghd_lt (i 0).val) TK T5 T6 κm qt qa b T) k.val acc
      ⊢ WP (trip i arg2 arg5 arg6 arg8 qa b k (of9 acc))
          (inv c arg2 arg5 arg6 arg8 TK T5 T6 qt (seqF (ghd_lt (i 0).val) TK T5 T6 κm qt qa b T) (k.val + 1)) := by
  unfold trip inv
  simp only [wp_bind]
  iintro ⟨%U, %h, H2, H5, H6, H8⟩
  obtain ⟨hU, rfl⟩ := h
  iapply (wp_til 𝒱 c bd k 0 (7 * k.val) rfl hU)
  isplitl [H2]; · iexact H2
  isplitl [H5]; · iexact H5
  isplitl [H6]; · iexact H6
  isplitl [H8]; · iexact H8
  iintro %U0 %hU0 H2 H5 H6 H8
  iapply (wp_til 𝒱 c bd k 1 (7 * k.val + 1) rfl hU0)
  isplitl [H2]; · iexact H2
  isplitl [H5]; · iexact H5
  isplitl [H6]; · iexact H6
  isplitl [H8]; · iexact H8
  iintro %U1 %hU1 H2 H5 H6 H8
  iapply (wp_til 𝒱 c bd k 2 (7 * k.val + 1 + 1) rfl hU1)
  isplitl [H2]; · iexact H2
  isplitl [H5]; · iexact H5
  isplitl [H6]; · iexact H6
  isplitl [H8]; · iexact H8
  iintro %U2 %hU2 H2 H5 H6 H8
  iapply (wp_til 𝒱 c bd k 3 (7 * k.val + 1 + 1 + 1) rfl hU2)
  isplitl [H2]; · iexact H2
  isplitl [H5]; · iexact H5
  isplitl [H6]; · iexact H6
  isplitl [H8]; · iexact H8
  iintro %U3 %hU3 H2 H5 H6 H8
  iapply (wp_til 𝒱 c bd k 4 (7 * k.val + 1 + 1 + 1 + 1) rfl hU3)
  isplitl [H2]; · iexact H2
  isplitl [H5]; · iexact H5
  isplitl [H6]; · iexact H6
  isplitl [H8]; · iexact H8
  iintro %U4 %hU4 H2 H5 H6 H8
  iapply (wp_til 𝒱 c bd k 5 (7 * k.val + 1 + 1 + 1 + 1 + 1) rfl hU4)
  isplitl [H2]; · iexact H2
  isplitl [H5]; · iexact H5
  isplitl [H6]; · iexact H6
  isplitl [H8]; · iexact H8
  iintro %U5 %hU5 H2 H5 H6 H8
  iapply (wp_til 𝒱 c bd k 6 (7 * k.val + 1 + 1 + 1 + 1 + 1 + 1) rfl hU5)
  isplitl [H2]; · iexact H2
  isplitl [H5]; · iexact H5
  isplitl [H6]; · iexact H6
  isplitl [H8]; · iexact H8
  iintro %U6 %hU6 H2 H5 H6 H8
  iapply (le_wp_ret _ _ _ _ _)
  have e : 7 * (k.val + 1) = 7 * k.val + 1 + 1 + 1 + 1 + 1 + 1 + 1 := by omega
  rw [e]
  iexists U6
  isplitl []
  · ipureintro; exact ⟨hU6, rfl⟩
  isplitl [H2]; · iexact H2
  isplitl [H5]; · iexact H5
  isplitl [H6]; · iexact H6
  iexact H8

set_option maxRecDepth 65536 in
theorem wp_tiles {TK T5 T6} {κm : F .f32} {qt qa b T} {U : Mxu F}
    (hU : Ready U qt (seqF (ghd_lt (i 0).val) TK T5 T6 κm qt qa b T 0).O) {Φ : _ → sProp 𝕄} :
    iprop(own c arg2 TK ∗ own c arg5 T5 ∗ own c arg6 T6 ∗ own c arg8 (seqF (ghd_lt (i 0).val) TK T5 T6 κm qt qa b T 0).T ∗
      (∀ U', ⌜Ready U' qt (seqF (ghd_lt (i 0).val) TK T5 T6 κm qt qa b T 126).O⌝ -∗ own c arg2 TK -∗ own c arg5 T5 -∗ own c arg6 T6 -∗
        own c arg8 (seqF (ghd_lt (i 0).val) TK T5 T6 κm qt qa b T 126).T -∗
        Φ (to9 ((seqF (ghd_lt (i 0).val) TK T5 T6 κm qt qa b T 126).l, (seqF (ghd_lt (i 0).val) TK T5 T6 κm qt qa b T 126).m, U'))))
      ⊢ WP (Scf.Loop.for k0_t2_loop k0_t2_ok
          (to9 ((seqF (ghd_lt (i 0).val) TK T5 T6 κm qt qa b T 0).l, (seqF (ghd_lt (i 0).val) TK T5 T6 κm qt qa b T 0).m, U))
          fun k r => trip i arg2 arg5 arg6 arg8 qa b k (of9 r)) Φ := by
  have step : ∀ (k : Fin k0_t2_loop.trips) (acc : V9 F),
      inv c arg2 arg5 arg6 arg8 TK T5 T6 qt (seqF (ghd_lt (i 0).val) TK T5 T6 κm qt qa b T) k.val acc
        ⊢ WP (trip i arg2 arg5 arg6 arg8 qa b k (of9 acc))
          (inv c arg2 arg5 arg6 arg8 TK T5 T6 qt (seqF (ghd_lt (i 0).val) TK T5 T6 κm qt qa b T) (k.val + 1)) :=
    fun k acc => wp_trip 𝒱 c bd k acc
  iintro ⟨H2, H5, H6, H8, HΦ⟩
  iapply (Scf.wp_for _ _ _ k0_t2_loop.lb k0_t2_loop.ub k0_t2_loop.st _ _ _
    (fun k acc => inv c arg2 arg5 arg6 arg8 TK T5 T6 qt (seqF (ghd_lt (i 0).val) TK T5 T6 κm qt qa b T) k acc) step)
  rw [show Scf.trips k0_t2_loop.lb k0_t2_loop.ub k0_t2_loop.st = 18 from trips2]
  unfold inv
  isplitl [H2 H5 H6 H8]
  · iexists U
    isplitl []
    · ipureintro; exact ⟨hU, rfl⟩
    isplitl [H2]; · iexact H2
    isplitl [H5]; · iexact H5
    isplitl [H6]; · iexact H6
    iexact H8
  iintro %acc ⟨%U, %h, H2, H5, H6, H8⟩
  obtain ⟨hU, rfl⟩ := h
  iapply HΦ $$ %U %hU H2 H5 H6 H8

end

/-- The point of a grid coordinate. -/
theorem pt_lt (i : grid0.Coords) : (i 0).val < 4065 := (i 0).isLt

/-- Filling at the first point. -/
theorem wp_first {i : grid0.Coords} {arg8 : Memref sig .tc .vmem S32512x256 .f32} {arg9 : Memref sig .tc .vmem S8x256 .f32} {T8 T9} {Φ : PUnit → sProp 𝕄} :
    iprop(own c arg8 T8 ∗ own c arg9 T9 ∗ (own c arg8 (startT kM (i 0).val T8) -∗ own c arg9 (startN (i 0).val T9) -∗ Φ ⟨⟩))
      ⊢ WP (if k0_h1 : k0_cond1 i = 1#1 then (do
        Scf.Loop.for k0_t1_loop (k0_t1_ok i k0_h1) ⟨⟩ fun k0_t1 _ =>
          stF arg8 (k0_off1 k0_t1) (k0_off1_inb i k0_t1 k0_h1) (broadcast S256x256 (kM : F .f32))
        stN arg9 (broadcast S8x256 (Scalar.ofBits .f32 0x00000000#32 : F .f32))) else pure ⟨⟩) Φ := by
  have hc : k0_cond1 i = 1#1 ↔ (i 0).val = 0 := by
    have : ∀ n : Fin 4065, k0_cond1 (mkc n) = 1#1 ↔ n.val = 0 := by decide +kernel
    have h := this (i 0)
    rwa [mkc_eta] at h
  by_cases h : k0_cond1 i = 1#1
  · rw [dif_pos h]
    have h0 := hc.1 h
    simp only [wp_bind, startT, startN, if_pos h0]
    have step : ∀ (k : Fin k0_t1_loop.trips) (acc : PUnit.{1}), own c arg8 (fillF (broadcast S256x256 (kM : F .f32)) T8 k.val)
        ⊢ (WP (stF arg8 (k0_off1 k) (k0_off1_inb i k h) (broadcast S256x256 (kM : F .f32)))
            (fun _ => own c arg8 (fillF (broadcast S256x256 (kM : F .f32)) T8 (k.val + 1))) : sProp 𝕄) := by
      intro k acc
      have hk : k.val < 127 := trips1 ▸ k.isLt
      iintro H
      iapply (wp_fillAt (defs₀ (F := F)) 𝒱 c bd k.val hk (off1_eq k))
      isplitl [H]; · iexact H
      iintro H; iexact H
    iintro ⟨H8, H9, HΦ⟩
    iapply (Scf.wp_for _ _ _ k0_t1_loop.lb k0_t1_loop.ub k0_t1_loop.st _ _ _
      (fun k _ => own c arg8 (fillF (broadcast S256x256 (kM : F .f32)) T8 k)) step)
    · isplitl [H8]; · iexact H8
      iintro %acc H8
      iapply (wp_stN (defs₀ (F := F)) 𝒱 c bd); isplitl [H9]; · iexact H9
      iintro H9
      iapply HΦ $$ [H8] H9
      rw [show Scf.trips k0_t1_loop.lb k0_t1_loop.ub k0_t1_loop.st = 127 from trips1]
      iexact H8
  · rw [dif_neg h]
    have h0 : ¬ (i 0).val = 0 := fun e => h (hc.2 e)
    simp only [startT, startN, if_neg h0]
    iintro ⟨H8, H9, HΦ⟩
    iapply (le_wp_ret _ _ _ _ _)
    iapply HΦ $$ H8 H9

theorem wp_close {i : grid0.Coords} {arg3 : Memref sig .tc .smem S32 .f32} {arg7 : Memref sig .tc .vmem S1x256x128 .bf16}
    {arg9 : Memref sig .tc .vmem S8x256 .f32} {TQ TK TS T4 T5 T6 T7 T8 T9} {U : Mxu F} {h11 hx}
    (hU : Ready U (ktile T4) (ptF kM kL (i 0).val TQ TK T4 T5 T6 T8 T9).O) {Φ : PUnit → sProp 𝕄} :
    iprop(own c arg3 TS ∗ own c arg7 T7 ∗ own c arg9 (startN (i 0).val T9) ∗
      (own c arg3 TS -∗ own c arg7 (outF (pt_lt i) TS (ptF kM kL (i 0).val TQ TK T4 T5 T6 T8 T9)) -∗
        own c arg9 (mfin (ptF kM kL (i 0).val TQ TK T4 T5 T6 T8 T9).m) -∗ Φ ⟨⟩))
      ⊢ WP (fin arg3 arg7 arg9 (k0_off11 i) h11 hx
          (of9 (to9 ((ptF kM kL (i 0).val TQ TK T4 T5 T6 T8 T9).l, (ptF kM kL (i 0).val TQ TK T4 T5 T6 T8 T9).m, U)))) Φ := by
  have h := wp_fin (defs₀ (F := F)) 𝒱 c bd (S := arg3) (A7 := arg7) (N := arg9) (o11 := k0_off11 i) (h11 := h11) (hx := hx)
    (TS := TS) (T7 := T7) (TN := startN (i 0).val T9) (l := (ptF kM kL (i 0).val TQ TK T4 T5 T6 T8 T9).l)
    (m := (ptF kM kL (i 0).val TQ TK T4 T5 T6 T8 T9).m) hU (Φ := Φ)
  rw [scaleAt1_congr _ (off11_eq i) _ (ov_inb (pt_lt i))] at h
  exact h

theorem wp_body {i : grid0.Coords} (arg1 : Memref sig .tc .smem S32x254 .f32) (harg1 : arg1.IsWhole) (arg2 : Memref sig .tc .smem S32x254 .f32) (harg2 : arg2.IsWhole) (arg3 : Memref sig .tc .smem S32 .f32) (harg3 : arg3.IsWhole) (arg4 : Memref sig .tc .vmem S1x256x128 .fp8e4m3) (harg4 : arg4.IsWhole) (arg5 : Memref sig .tc .vmem S1x32512x128 .fp8e4m3) (harg5 : arg5.IsWhole) (arg6 : Memref sig .tc .vmem S1x128x32512 .fp8e4m3) (harg6 : arg6.IsWhole) (arg7 : Memref sig .tc .vmem S1x256x128 .bf16) (harg7 : arg7.IsWhole) (arg8 : Memref sig .tc .vmem S32512x256 .f32) (harg8 : arg8.IsWhole) (arg9 : Memref sig .tc .vmem S8x256 .f32) (harg9 : arg9.IsWhole)
    {TQ TK TS T4 T5 T6 T7 T8 T9} {Φ : PUnit → sProp 𝕄} :
    iprop(own c arg1 TQ ∗ own c arg2 TK ∗ own c arg3 TS ∗ own c arg4 T4 ∗ own c arg5 T5 ∗ own c arg6 T6 ∗ own c arg7 T7 ∗ own c arg8 T8 ∗ own c arg9 T9 ∗
      (own c arg1 TQ -∗ own c arg2 TK -∗ own c arg3 TS -∗ own c arg4 T4 -∗ own c arg5 T5 -∗ own c arg6 T6 -∗
        own c arg7 (outF (pt_lt i) TS (ptF kM kL (i 0).val TQ TK T4 T5 T6 T8 T9)) -∗
        own c arg8 (ptF kM kL (i 0).val TQ TK T4 T5 T6 T8 T9).T -∗ own c arg9 (mfin (ptF kM kL (i 0).val TQ TK T4 T5 T6 T8 T9).m) -∗ Φ ⟨⟩))
      ⊢ WP (cc0_attention (F := F) i arg1 harg1 arg2 harg2 arg3 harg3 arg4 harg4 arg5 harg5 arg6 harg6 arg7 harg7 arg8 harg8 arg9 harg9) Φ := by
  rw [body_eq]
  simp only [wp_bind]
  have e23 : ∀ h h', qsc (kL : F .f32) (scaleAt TQ (k0_off2 i) h) (scaleAt TQ (k0_off3 i) h') = qsF kL (i 0).val TQ := fun h h' => by
    rw [scaleAt_congr _ (off2_eq i) h (oq_inb _ 0), scaleAt_congr _ (off3_eq i) h' (oq_inb _ 1)]
    rfl
  unfold ptF
  iintro ⟨H1, H2, H3, H4, H5, H6, H7, H8, H9, HΦ⟩
  iapply (wp_first 𝒱 c bd)
  isplitl [H8]; · iexact H8
  isplitl [H9]; · iexact H9
  iintro H8 H9
  iapply (wp_start (defs₀ (F := F)) 𝒱 c bd)
  isplitl [H1]; · iexact H1
  isplitl [H4]; · iexact H4
  isplitl [H9]; · iexact H9
  iintro %U0 %hU0 H1 H4 H9
  rw [e23]
  iapply (wp_tailAt (defs₀ (F := F)) 𝒱 c bd (ghd_lt (i 0).val) rfl rfl rfl (off4_eq i) (off5_eq i) rfl hU0)
  isplitl [H2]; · iexact H2
  isplitl [H5]; · iexact H5
  isplitl [H6]; · iexact H6
  isplitl [H8]; · iexact H8
  iintro %U1 %hU1 H2 H5 H6 H8
  iapply (wp_tiles 𝒱 c bd hU1)
  isplitl [H2]; · iexact H2
  isplitl [H5]; · iexact H5
  isplitl [H6]; · iexact H6
  isplitl [H8]; · iexact H8
  iintro %U %hU H2 H5 H6 H8
  have hc := fun hx Φ => wp_close 𝒱 c bd (i := i) (arg3 := arg3) (arg7 := arg7) (arg9 := arg9) (TS := TS) (T7 := T7) (h11 := k0_off11_inb i)
    (hx := hx) (TQ := TQ) (TK := TK) (T4 := T4) (T5 := T5) (T6 := T6) (T8 := T8) (T9 := T9) hU (Φ := Φ)
  unfold ptF at hc
  iapply (hc _ _)
  isplitl [H3]; · iexact H3
  isplitl [H7]; · iexact H7
  isplitl [H9]; · iexact H9
  iintro H3 H7 H9
  iapply HΦ $$ H1 H2 H3 H4 H5 H6 H7 H8 H9

end Cert.Kernel

end
-- ==== Proof.Fill.lean ====
/- What the filling of the score buffer leaves. -/
module

public import proofs.«01_k».proof.Proof.Point

@[expose] public section

noncomputable section

namespace Attn

open Idealize.ShloMosaic

variable {F : FTy → Type} [FloatOps F]

/-- Filling `n` blocks of 256 rows with one value. -/
theorem fillF_apply (κm : F .f32) (T : S32512x256.Idx → Elt F .f32) : ∀ (n : Nat), n ≤ 127 → ∀ y : S32512x256.Idx,
    fillF (broadcast S256x256 κm) T n y = if (y 0).val < 256 * n then κm else T y
  | 0, _, y => by simp [fillF]
  | n + 1, hn, y => by
    have hk : n < 127 := by omega
    rw [fillF_succ _ T hk]
    have ih := fillF_apply κm T n (by omega) y
    by_cases h : ∃ i, (r256 ![256 * n, 0] (oF_inb hk)).emb i = y
    · obtain ⟨i, rfl⟩ := h
      rw [wrR_emb]
      have h0 : (((r256 ![256 * n, 0] (oF_inb hk)).emb i) 0).val = 256 * n + 1 * (i 0).val := rfl
      have hi : (i 0).val < 256 := (i 0).isLt
      rw [if_pos (by rw [h0]; omega)]
      rfl
    · have hw := wrR_of_not (r256 ![256 * n, 0] (oF_inb hk)) (fillF (broadcast S256x256 κm) T n) (broadcast S256x256 κm) y (fun i hi => h ⟨i, hi⟩)
      rw [hw, ih]
      by_cases h1 : (y 0).val < 256 * n
      · rw [if_pos h1, if_pos (by omega)]
      · have h2 : ¬ (y 0).val < 256 * (n + 1) := fun hlt => h ⟨fun a => match a with
            | ⟨0, _⟩ => ⟨(y 0).val - 256 * n, by show (y 0).val - 256 * n < 256; omega⟩
            | ⟨1, _⟩ => ⟨(y 1).val, (y 1).isLt⟩, by
            funext a
            match a with
            | ⟨0, _⟩ => exact Fin.ext (show 256 * n + 1 * ((y 0).val - 256 * n) = (y 0).val by omega)
            | ⟨1, _⟩ => exact Fin.ext (show 0 + 1 * (y 1).val = (y 1).val by omega)⟩
        rw [if_neg h1, if_neg h2]

/-- Filled throughout, nothing is left of what was there. -/
theorem fillF_all (κm : F .f32) (T : S32512x256.Idx → Elt F .f32) : fillF (broadcast S256x256 κm) T 127 = fun _ => κm := by
  funext y
  have h : (y 0).val < 32512 := (y 0).isLt
  rw [fillF_apply κm T 127 (le_refl _) y, if_pos (by omega)]

end Attn

end
-- ==== Proof.RunKernel.lean ====
/- The run: the proof data of the pipeline, the obligation of its body, and the frame. -/
module

public import proofs.«01_k».proof.Proof.BodyKernel
public import proofs.«01_k».proof.Proof.Fill
public import proofs.«01_k».proof.Proof.Gen.Kernel.Frame
public import Idealize.ShloMosaic.Lib.Claim

@[expose] public section

set_option synthInstance.maxSize 4096

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)
open Attn Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

theorem coord0 (t : Fin grid0.N) : (grid0.coords t 0).val = t.val := by
  have h : t.val < 4065 := N_0 ▸ t.isLt
  have : ∀ n : Fin 4065, (grid0.coords (n.cast N_0.symm) 0).val = n.val := by decide +kernel
  exact this ⟨t.val, h⟩

/-- The windows' blocks at a point. -/
def bQ (t : Fin cfg0.N) : S32x254.Idx → Elt F .f32 := iblk m c 0 t
def bK (t : Fin cfg0.N) : S32x254.Idx → Elt F .f32 := iblk m c 1 t
def bV (t : Fin cfg0.N) : S32.Idx → Elt F .f32 := iblk m c 2 t
def b4 (t : Fin cfg0.N) : S1x256x128.Idx → Elt F .fp8e4m3 := iblk m c 3 t
def b5 (t : Fin cfg0.N) : S1x32512x128.Idx → Elt F .fp8e4m3 := iblk m c 4 t
def b6 (t : Fin cfg0.N) : S1x128x32512.Idx → Elt F .fp8e4m3 := iblk m c 5 t

/-- The state after the tiles of a point that finds the scratch at `s`. -/
def pst (t : Fin cfg0.N) (s : (S32512x256.Idx → Elt F .f32) × (S8x256.Idx → Elt F .f32)) : St F :=
  ptF kM kL (grid0.coords t 0).val (bQ m c t) (bK m c t) (b4 m c t) (b5 m c t) (b6 m c t) s.1 s.2

/-- The scratch before a point: the score buffer and the maxima. -/
def scr : Nat → (S32512x256.Idx → Elt F .f32) × (S8x256.Idx → Elt F .f32)
  | 0 => (fun _ => kM, fun _ => kM)
  | n + 1 => if h : n < cfg0.N then ((pst m c ⟨n, h⟩ (scr n)).T, mfin (pst m c ⟨n, h⟩ (scr n)).m) else scr n

/-- The block a point leaves in the result's staging buffer. -/
def outb (t : Fin cfg0.N) : S1x256x128.Idx → Elt F .bf16 :=
  outF (pt_lt (grid0.coords t)) (bV m c t) (pst m c t (scr m c t.val))

/-- What holds between the points. -/
def PhiS (n : Nat) (_ : n ≤ cfg0.N) : sProp 𝕄 :=
  iprop(∃ T8 T9, ⌜n ≠ 0 → T8 = (scr m c n).1 ∧ T9 = (scr m c n).2⌝ ∗
    Attn.own c (Memref.whole cc0_scratch0) T8 ∗ Attn.own c (Memref.whole cc0_scratch1) T9 ∗ ∃ r, prngReg c r)

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outb m c t
  Φ t := PhiS m c t.val (Nat.le_of_lt_succ t.isLt)
  q _ := fullShare
  owed _ := 0

/-- A whole buffer held at a tensor. -/
theorem own_owns {sp : Space} {S : Shape} {e : EltTy} {M : Memref sig .tc sp S e} (h : M.IsWhole) (T : S.Idx → Elt F e) :
    (owns (c : Thread nD τ) M fullShare T : sProp 𝕄) = Attn.own c M T := by
  obtain ⟨b, rfl, rfl, rfl, hM⟩ := h
  obtain rfl := eq_of_heq hM
  unfold owns Attn.own
  rw [show (Memref.whole b : Memref sig .tc _ _ _).view.set = Finset.univ from View.set_whole _]
  have h₁ : iprop(∃ f, ⌜(Memref.whole b).view.read (Elt F) f = T⌝ ∗ ((Memref.whole b).view.loc (c : Thread nD τ) ↦{fullShare} f))
      ⊢ (iprop(∃ f, ((Memref.whole b).view.loc (c : Thread nD τ) ↦{fullShare} f) ∗ ⌜(Memref.whole b).view.read (Elt F) f = T⌝) : sProp 𝕄) := by
    iintro ⟨%f, %hf, H⟩
    iexists f
    isplitl [H]; · iexact H
    ipureintro; exact hf
  have h₂ : iprop(∃ f, ((Memref.whole b).view.loc (c : Thread nD τ) ↦{fullShare} f) ∗ ⌜(Memref.whole b).view.read (Elt F) f = T⌝)
      ⊢ (iprop(∃ f, ⌜(Memref.whole b).view.read (Elt F) f = T⌝ ∗ ((Memref.whole b).view.loc (c : Thread nD τ) ↦{fullShare} f)) : sProp 𝕄) := by
    iintro ⟨%f, H, %hf⟩
    iexists f
    isplitl []; · ipureintro; exact hf
    iexact H
  exact BI.equiv_iff.mp ⟨h₁, h₂⟩

/-- A point's state does not depend on the scratch the first point finds. -/
theorem pst_congr (t : Fin cfg0.N) {T8 T9} (h : t.val ≠ 0 → T8 = (scr m c t.val).1 ∧ T9 = (scr m c t.val).2) :
    pst m c t (T8, T9) = pst m c t (scr m c t.val) := by
  by_cases h0 : t.val = 0
  · unfold pst ptF
    rw [coord0, h0]
    simp only [startT, startN, if_pos, fillF_all]
  · obtain ⟨rfl, rfl⟩ := h h0
    rfl

theorem scr_succ (t : Fin cfg0.N) :
    scr m c (t.val + 1) = ((pst m c t (scr m c t.val)).T, mfin (pst m c t (scr m c t.val)).m) := by
  rw [scr, dif_pos t.isLt]

/-- The body at a point, on what the windows and the scratch hold. -/
theorem wp_at (t : Fin cfg0.N) {T7 T8 T9} (h : t.val ≠ 0 → T8 = (scr m c t.val).1 ∧ T9 = (scr m c t.val).2) {Φ : PUnit → sProp 𝕄} :
    iprop(owns (c : Thread nD τ) (st0_0 t) fullShare (iblk m c 0 t) ∗ owns (c : Thread nD τ) (st0_1 t) fullShare (iblk m c 1 t) ∗
      owns (c : Thread nD τ) (st0_2 t) fullShare (iblk m c 2 t) ∗ owns (c : Thread nD τ) (st0_3 t) fullShare (iblk m c 3 t) ∗
      owns (c : Thread nD τ) (st0_4 t) fullShare (iblk m c 4 t) ∗ owns (c : Thread nD τ) (st0_5 t) fullShare (iblk m c 5 t) ∗
      owns (c : Thread nD τ) (st0_6 t) fullShare T7 ∗
      Attn.own c (Memref.whole cc0_scratch0) T8 ∗ Attn.own c (Memref.whole cc0_scratch1) T9 ∗
      (owns (c : Thread nD τ) (st0_0 t) fullShare (iblk m c 0 t) -∗ owns (c : Thread nD τ) (st0_1 t) fullShare (iblk m c 1 t) -∗
        owns (c : Thread nD τ) (st0_2 t) fullShare (iblk m c 2 t) -∗ owns (c : Thread nD τ) (st0_3 t) fullShare (iblk m c 3 t) -∗
        owns (c : Thread nD τ) (st0_4 t) fullShare (iblk m c 4 t) -∗ owns (c : Thread nD τ) (st0_5 t) fullShare (iblk m c 5 t) -∗
        owns (c : Thread nD τ) (st0_6 t) fullShare (outb m c t) -∗
        Attn.own c (Memref.whole cc0_scratch0) (scr m c (t.val + 1)).1 -∗ Attn.own c (Memref.whole cc0_scratch1) (scr m c (t.val + 1)).2 -∗ Φ ⟨⟩))
      ⊢ wp frame (wpE (defs₀ (F := F)) Variants.none (c : Thread nD τ) none) Set.univ (bodyAt0 t) Φ := by
  rw [scr_succ]
  have hb := wp_body Variants.none c none (i := grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (Memref.whole cc0_scratch0) (Memref.isWhole_whole _) (Memref.whole cc0_scratch1) (Memref.isWhole_whole _)
    (TQ := bQ m c t) (TK := bK m c t) (TS := bV m c t) (T4 := b4 m c t) (T5 := b5 m c t) (T6 := b6 m c t) (T7 := T7) (T8 := T8) (T9 := T9) (Φ := Φ)
  have hp : ptF kM kL (grid0.coords t 0).val (bQ m c t) (bK m c t) (b4 m c t) (b5 m c t) (b6 m c t) T8 T9 = pst m c t (scr m c t.val) :=
    pst_congr m c t h
  rw [hp, ← own_owns c (M := win0_0.stage (cfg0.slots t 0)) (hstage0_0 ((cfg0.slots t 0).cast nbuf0_0)), ← own_owns c (M := win0_1.stage (cfg0.slots t 1)) (hstage0_1 ((cfg0.slots t 1).cast nbuf0_1)), ← own_owns c (M := win0_2.stage (cfg0.slots t 2)) (hstage0_2 ((cfg0.slots t 2).cast nbuf0_2)), ← own_owns c (M := win0_3.stage (cfg0.slots t 3)) (hstage0_3 ((cfg0.slots t 3).cast nbuf0_3)), ← own_owns c (M := win0_4.stage (cfg0.slots t 4)) (hstage0_4 ((cfg0.slots t 4).cast nbuf0_4)), ← own_owns c (M := win0_5.stage (cfg0.slots t 5)) (hstage0_5 ((cfg0.slots t 5).cast nbuf0_5)), ← own_owns c (M := win0_6.stage (cfg0.slots t 6)) (hstage0_6 ((cfg0.slots t 6).cast nbuf0_6)),
    ← own_owns c (M := win0_6.stage (cfg0.slots t 6)) (hstage0_6 ((cfg0.slots t 6).cast nbuf0_6))] at hb
  exact hb

set_option maxRecDepth 65536 in
theorem body_obligation : BodyObligationLoose (dats m 0 c) (defs₀ (F := F)) Variants.none () Set.univ := fun t => by
  rw [bigSep_W0, bigSep_W0]
  simp only
  rw [show (dats m 0 c).owesAt () t.succ = (dats m 0 c).owesAt () t.castSucc from rfl,
    show (dats m 0 c).Φ t.castSucc = PhiS m c t.val (Nat.le_of_lt t.isLt) from rfl,
    show (dats m 0 c).Φ t.succ = PhiS m c (t.val + 1) t.isLt from rfl]
  unfold PhiS
  iintro ⟨⟨%T8, %T9, %h, H8, H9, Hr⟩, Ho, ⟨%d0, H0⟩, ⟨%d1, H1⟩, ⟨%d2, H2⟩, ⟨%d3, H3⟩, ⟨%d4, H4⟩, ⟨%d5, H5⟩, ⟨%d6, H6⟩⟩
  rw [before0_0_of m (dats m 0 c) rfl (fun _ => rfl) t d0, before0_1_of m (dats m 0 c) rfl (fun _ => rfl) t d1,
    before0_2_of m (dats m 0 c) rfl (fun _ => rfl) t d2, before0_3_of m (dats m 0 c) rfl (fun _ => rfl) t d3,
    before0_4_of m (dats m 0 c) rfl (fun _ => rfl) t d4, before0_5_of m (dats m 0 c) rfl (fun _ => rfl) t d5]
  rw [show (defs₀ (F := F)) .tc cfg0.body (cfg0.bodyArgs t (cfg0.slots t)) = bodyAt0 t from rfl]
  iapply (wp_at m c t h)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H9]; · iexact H9
  iintro H0 H1 H2 H3 H4 H5 H6 H8 H9
  isplitl [H8 H9 Hr]
  · iexists _
    iexists _
    isplitl []
    · ipureintro; exact fun _ => ⟨rfl, rfl⟩
    isplitl [H8]; · iexact H8
    isplitl [H9]; · iexact H9
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists (outb m c t)
  have e : (cfg0.win 6).fill (cfg0.grid.coords t) (outb m c t) ((cfg0.win 6).cut (cfg0.grid.coords t) ((dats m 0 c).after 6 t)) = outb m c t :=
    Window.fill_cut _ _ _
  rw [e]
  iexact H6

theorem hin : (Pipeline.ΦA spec0 c : sProp 𝕄) ⊢ (dats m 0 c).Φ 0 := by
  rw [show (dats m 0 c).Φ 0 = PhiS m c 0 (Nat.zero_le _) from rfl]
  unfold Pipeline.ΦA PhiS Attn.own
  rw [scopedRest0_eq]
  iintro ⟨⟨⟨%f0, H0⟩, ⟨%f1, H1⟩⟩, Hr⟩
  iexists f0
  iexists f1
  isplitl []
  · ipureintro; exact fun h => absurd rfl h
  isplitl [H0]
  · iexists f0; isplitl [H0]; · iexact H0
    ipureintro; rfl
  isplitl [H1]
  · iexists f1; isplitl [H1]; · iexact H1
    ipureintro; rfl
  iexact Hr

theorem hout : (dats m 0 c).Φ (Fin.last cfg0.N) ⊢ (Pipeline.ΦA spec0 c : sProp 𝕄) := by
  rw [show (dats m 0 c).Φ (Fin.last cfg0.N) = PhiS m c cfg0.N (le_refl _) from rfl]
  unfold Pipeline.ΦA PhiS Attn.own
  rw [scopedRest0_eq]
  iintro ⟨%T8, %T9, -, ⟨%f0, H0, -⟩, ⟨%f1, H1, -⟩, Hr⟩
  isplitl [H0 H1]
  · isplitl [H0]
    · iexists f0; iexact H0
    · iexists f1; iexact H1
  iexact Hr

set_option backward.isDefEq.respectTransparency.types false in
/-- The run ends with every array at what the proof data say, and with every semaphore counter at zero. -/
theorem run : θ_run (defs (F := F)) (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := body_obligation m) (hshare := fun c => (dats m 0 c).share_full fun _ => rfl) (howed := fun _ _ => rfl)
    (V := V m) (hmain := hmain m Variants.none) (hA := fun _ _ => rfl) (hin := hin m) (hout := hout m)

/-- The run leaves the six arguments as they were and every semaphore counter at zero. -/
theorem frame_run : θ_run (defs (F := F)) (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (fun _ _ => rfl) ((θ_run _ _ _).mono (fun _ h => h.1) (run m ρ)))
    ((θ_run _ _ _).mono (fun _ h => h.2) (run m ρ))

end Cert.Kernel

end
-- ==== Proof.EqKernelIdeal.lean ====
/- The printed body of the attention kernel is the composition of pieces of Tile.lean. -/
module

public import proofs.«01_k».proof.KernelIdeal
public import proofs.«01_k».proof.Proof.Gen.KernelIdeal.Skeleton
public import proofs.«01_k».proof.Proof.Tile

@[expose] public section

set_option synthInstance.maxSize 4096

noncomputable section

namespace Cert.KernelIdeal

open Idealize.ShloMosaic Idealize.SL.Sem Attn

variable {F : FTy → Type} [FloatOps F] [Named F] [Facts₀] [Facts]
open Facts₀ Facts

/-- Tile `7 k + g` of the loop, at the printed offsets. -/
abbrev til (i : grid0.Coords) (arg2 : Memref sig .tc .smem S32x254 .f32) (arg5 : Memref sig .tc .vmem S1x32512x128 .fp8e4m3)
    (arg6 : Memref sig .tc .vmem S1x128x32512 .fp8e4m3) (arg8 : Memref sig .tc .vmem S32512x256 .f32) (k : Fin k0_t2_loop.trips) (g : Fin 7)
    (rg : Fin 2) (A : Nat) (hA : Mxu.Fits A 256) (qa b : FVec F S8x256 .f32) (lm : V4 F × V4 F × Mxu F) :
    Prog (TpuEff nD τ sig (Elt F) Λ₀ .tc) (V4 F × V4 F × Mxu F) :=
  Attn.tile arg2 arg5 arg6 arg8 (fun q => k0_off6 k (BitVec.ofNat 32 g.val) (BitVec.ofNat 32 (32 * q.val))) (fun q => k0_off6_inb k g q)
    (k0_off7 k (BitVec.ofNat 32 g.val)) (k0_off7_inb k g) (k0_off8 k (BitVec.ofNat 32 g.val)) (k0_off8_inb k g)
    (fun r => k0_off9 i k (BitVec.ofNat 32 g.val) (BitVec.ofNat 32 r.val)) (fun r => k0_off9_inb i k g r)
    (fun j => k0_off10 k (BitVec.ofNat 32 g.val) (BitVec.ofNat 32 (8 * j.val))) (fun j => k0_off10_inb k g j) rg A hA qa b lm

/-- One trip of the loop: seven tiles. -/
def trip (i : grid0.Coords) (arg2 : Memref sig .tc .smem S32x254 .f32) (arg5 : Memref sig .tc .vmem S1x32512x128 .fp8e4m3)
    (arg6 : Memref sig .tc .vmem S1x128x32512 .fp8e4m3) (arg8 : Memref sig .tc .vmem S32512x256 .f32) (qa b : FVec F S8x256 .f32)
    (k : Fin k0_t2_loop.trips) (s : V4 F × V4 F × Mxu F) : Prog (TpuEff nD τ sig (Elt F) Λ₀ .tc) (V9 F) := do
  let s0 ← til i arg2 arg5 arg6 arg8 k 0 0 0 Attn.fits_0_256 qa b s
  let s1 ← til i arg2 arg5 arg6 arg8 k 1 1 64 fits_64_256 qa b s0
  let s2 ← til i arg2 arg5 arg6 arg8 k 2 0 128 fits_128_256 qa b s1
  let s3 ← til i arg2 arg5 arg6 arg8 k 3 1 0 Attn.fits_0_256 qa b s2
  let s4 ← til i arg2 arg5 arg6 arg8 k 4 0 64 fits_64_256 qa b s3
  let s5 ← til i arg2 arg5 arg6 arg8 k 5 1 128 fits_128_256 qa b s4
  let s6 ← til i arg2 arg5 arg6 arg8 k 6 0 0 Attn.fits_0_256 qa b s5
  pure (to9 s6)

theorem inb_t6 (q : Fin 8) (a : Fin 2) : (![32256 + 32 * q.val, 0] : Fin 2 → Nat) a + S32x256.size a ≤ S32512x256.size a := by
  revert q a; decide
theorem inb_t7 (a : Fin 3) : (![0, 0, 32256] : Fin 3 → Nat) a + S1x128x256.size a ≤ S1x128x32512.size a := by revert a; decide
theorem inb_t8 (a : Fin 3) : (![0, 32256, 0] : Fin 3 → Nat) a + S1x256x128.size a ≤ S1x32512x128.size a := by revert a; decide
theorem inb_t10 (j : Fin 32) (a : Fin 2) : (![32256 + 8 * j.val, 0] : Fin 2 → Nat) a + S8x256.size a ≤ S32512x256.size a := by
  revert j a; decide

set_option maxHeartbeats 4000000 in
/-- The printed trip is seven tiles. -/
theorem trip_eq (i : grid0.Coords) (arg1 : Memref sig .tc .smem S32x254 .f32) (harg1 : arg1.IsWhole) (arg2 : Memref sig .tc .smem S32x254 .f32) (harg2 : arg2.IsWhole) (arg3 : Memref sig .tc .smem S32 .f32) (harg3 : arg3.IsWhole) (arg4 : Memref sig .tc .vmem S1x256x128 .fp8e4m3) (harg4 : arg4.IsWhole) (arg5 : Memref sig .tc .vmem S1x32512x128 .fp8e4m3) (harg5 : arg5.IsWhole) (arg6 : Memref sig .tc .vmem S1x128x32512 .fp8e4m3) (harg6 : arg6.IsWhole) (arg7 : Memref sig .tc .vmem S1x256x128 .bf16) (harg7 : arg7.IsWhole) (arg8 : Memref sig .tc .vmem S32512x256 .f32) (harg8 : arg8.IsWhole) (arg9 : Memref sig .tc .vmem S8x256 .f32) (harg9 : arg9.IsWhole) (v19 : BitVec 32) (qa b : FVec F S8x256 .f32) (k : Fin k0_t2_loop.trips) (s : V9 F) :
    Gen.k0_t2_body (F := F) i arg1 harg1 arg2 harg2 arg3 harg3 arg4 harg4 arg5 harg5 arg6 harg6 arg7 harg7 arg8 harg8 arg9 harg9 v19 qa b k s = trip i arg2 arg5 arg6 arg8 qa b k (of9 s) := by
  obtain ⟨l0, l1, l2, l3, m0, m1, m2, m3, U⟩ := s
  rfl

/-- Two programs in sequence agree when their parts do. -/
theorem bindc.{v} {E : Type → Type v} {α β : Type} {p q : Prog E α} {f g : α → Prog E β} (h : p = q) (h' : ∀ a, f a = g a) :
    p >>= f = q >>= g := by rw [h, funext h']

set_option maxHeartbeats 4000000 in
/-- The printed body: at the first point the score buffer and the maxima are filled; then the start, the last tile, the loop
    over the others, the finish. -/
theorem body_eq (i : grid0.Coords) (arg1 : Memref sig .tc .smem S32x254 .f32) (harg1 : arg1.IsWhole) (arg2 : Memref sig .tc .smem S32x254 .f32) (harg2 : arg2.IsWhole) (arg3 : Memref sig .tc .smem S32 .f32) (harg3 : arg3.IsWhole) (arg4 : Memref sig .tc .vmem S1x256x128 .fp8e4m3) (harg4 : arg4.IsWhole) (arg5 : Memref sig .tc .vmem S1x32512x128 .fp8e4m3) (harg5 : arg5.IsWhole) (arg6 : Memref sig .tc .vmem S1x128x32512 .fp8e4m3) (harg6 : arg6.IsWhole) (arg7 : Memref sig .tc .vmem S1x256x128 .bf16) (harg7 : arg7.IsWhole) (arg8 : Memref sig .tc .vmem S32512x256 .f32) (harg8 : arg8.IsWhole) (arg9 : Memref sig .tc .vmem S8x256 .f32) (harg9 : arg9.IsWhole) :
    cc0_attention (F := F) i arg1 harg1 arg2 harg2 arg3 harg3 arg4 harg4 arg5 harg5 arg6 harg6 arg7 harg7 arg8 harg8 arg9 harg9 = (do
      (if k0_h1 : k0_cond1 i = 1#1 then (do
        Scf.Loop.for k0_t1_loop (k0_t1_ok i k0_h1) ⟨⟩ fun k0_t1 _ =>
          stF arg8 (k0_off1 k0_t1) (k0_off1_inb i k0_t1 k0_h1) (broadcast S256x256 (Named.named κ "mask" 0xF149F2CA#32 : F .f32))
        stN arg9 (broadcast S8x256 (Scalar.ofBits .f32 0x00000000#32 : F .f32))) else pure ⟨⟩)
      let s ← start arg1 arg4 arg9 (k0_off2 i) (k0_off2_inb i) (k0_off3 i) (k0_off3_inb i) (Named.named κ "log2e_over_sqrt_d" 0x3E0293EE#32 : F .f32)
      let t ← tail arg2 arg5 arg6 arg8 (fun q => ![32256 + 32 * q.val, 0]) inb_t6 ![0, 0, 32256] inb_t7 ![0, 32256, 0] inb_t8
        (k0_off4 i) (k0_off4_inb i) (k0_off5 i) (k0_off5_inb i) (fun j => ![32256 + 8 * j.val, 0]) inb_t10 (Named.named κ "mask" 0xF149F2CA#32 : F .f32) s.1 s.2.1 s.2.2
      let r ← Scf.Loop.for k0_t2_loop k0_t2_ok (to9 t) (fun k r => trip i arg2 arg5 arg6 arg8 s.1 s.2.1 k (of9 r))
      fin arg3 arg7 arg9 (k0_off11 i) (k0_off11_inb i) (View.stores_vmem Attn.h_S1x256x128
        (harg7.storeExact_slice rfl _ packedbf16_S1x256x128_S1x256x128_0_0_0) (fun _ => rfl)) (of9 r)) := by
  unfold cc0_attention k0_part73 k0_part74
  by_cases h : k0_cond1 i = 1#1
  · simp only [dif_pos h, bind_assoc, pure_bind]
    refine bindc ?_ fun _ => ?_
    · rfl
    · rfl
  · simp only [dif_neg h, bind_assoc, pure_bind]
    rfl

end Cert.KernelIdeal

end
-- ==== Proof.OffKernelIdeal.lean ====
/- The printed offsets in closed form: tile `7 k + g` of the loop, and the head and query block of a grid point. -/
module

public import proofs.«01_k».proof.Proof.EqKernelIdeal

@[expose] public section

set_option synthInstance.maxSize 4096

noncomputable section

namespace Cert.KernelIdeal

open Idealize.ShloMosaic Idealize.SL.Sem

/-- The grid point of a number. -/
def mkc (n : Fin 4065) : grid0.Coords := Fin.cons n finZeroElim

theorem mkc_eta (i : grid0.Coords) : mkc (i 0) = i := by
  funext a; fin_cases a; rfl

theorem off1_eq (k : Fin k0_t1_loop.trips) : k0_off1 k = ![256 * k.val, 0] := by revert k; decide +kernel

theorem off2_0 (n : Fin 4065) : k0_off2 (mkc n) 0 = min n.val 4063 / 127 := by revert n; decide +kernel
theorem off2_1 (n : Fin 4065) : k0_off2 (mkc n) 1 = 2 * (min n.val 4063 % 127) := by revert n; decide +kernel
theorem off3_1 (n : Fin 4065) : k0_off3 (mkc n) 1 = 2 * (min n.val 4063 % 127) + 1 := by revert n; decide +kernel
theorem off11_0 (n : Fin 4065) : k0_off11 (mkc n) 0 = (n.val - 1) / 127 := by revert n; decide +kernel

theorem off9_1 (k : Fin k0_t2_loop.trips) (g : Fin 7) (r : Fin 2) :
    k0_off9 (mkc 0) k (BitVec.ofNat 32 g.val) (BitVec.ofNat 32 r.val) 1 = 2 * (7 * k.val + g.val) + r.val := by
  revert k g r; decide +kernel

theorem off2_eq (i : grid0.Coords) : k0_off2 i = ![min (i 0).val 4063 / 127, 2 * (min (i 0).val 4063 % 127)] := by
  have h0 := off2_0 (i 0)
  have h1 := off2_1 (i 0)
  rw [mkc_eta] at h0 h1
  funext a; fin_cases a
  · exact h0
  · exact h1

theorem off3_eq (i : grid0.Coords) : k0_off3 i = ![min (i 0).val 4063 / 127, 2 * (min (i 0).val 4063 % 127) + 1] := by
  have h0 := off2_0 (i 0)
  have h1 := off3_1 (i 0)
  rw [mkc_eta] at h0 h1
  funext a; fin_cases a
  · exact h0
  · exact h1

theorem off4_eq (i : grid0.Coords) : k0_off4 i = ![min (i 0).val 4063 / 127, 252] := by
  have h0 := off2_0 (i 0)
  rw [mkc_eta] at h0
  funext a; fin_cases a
  · exact h0
  · rfl

theorem off5_eq (i : grid0.Coords) : k0_off5 i = ![min (i 0).val 4063 / 127, 253] := by
  have h0 := off2_0 (i 0)
  rw [mkc_eta] at h0
  funext a; fin_cases a
  · exact h0
  · rfl

theorem off9_eq (i : grid0.Coords) (k : Fin k0_t2_loop.trips) (g : Fin 7) (r : Fin 2) :
    k0_off9 i k (BitVec.ofNat 32 g.val) (BitVec.ofNat 32 r.val) = ![min (i 0).val 4063 / 127, 2 * (7 * k.val + g.val) + r.val] := by
  have h0 := off2_0 (i 0)
  have h1 := off9_1 k g r
  rw [mkc_eta] at h0
  funext a; fin_cases a
  · exact h0
  · exact h1

theorem off11_eq (i : grid0.Coords) : k0_off11 i = ![((i 0).val - 1) / 127] := by
  have h0 := off11_0 (i 0)
  rw [mkc_eta] at h0
  funext a; fin_cases a
  exact h0

theorem off6_eq (k : Fin k0_t2_loop.trips) (g : Fin 7) (q : Fin 8) :
    k0_off6 k (BitVec.ofNat 32 g.val) (BitVec.ofNat 32 (32 * q.val)) = ![256 * (7 * k.val + g.val) + 32 * q.val, 0] := by
  revert k g q; decide +kernel
theorem off7_eq (k : Fin k0_t2_loop.trips) (g : Fin 7) : k0_off7 k (BitVec.ofNat 32 g.val) = ![0, 0, 256 * (7 * k.val + g.val)] := by
  revert k g; decide +kernel
theorem off8_eq (k : Fin k0_t2_loop.trips) (g : Fin 7) : k0_off8 k (BitVec.ofNat 32 g.val) = ![0, 256 * (7 * k.val + g.val), 0] := by
  revert k g; decide +kernel
theorem off10_eq (k : Fin k0_t2_loop.trips) (g : Fin 7) (j : Fin 32) :
    k0_off10 k (BitVec.ofNat 32 g.val) (BitVec.ofNat 32 (8 * j.val)) = ![256 * (7 * k.val + g.val) + 8 * j.val, 0] := by
  revert k g j; decide +kernel

end Cert.KernelIdeal

end
-- ==== Proof.BodyKernelIdeal.lean ====
/- The rule of the printed body: what it does to the buffers' tensors is `Attn.ptF` and `Attn.outF`. -/
module

public import proofs.«01_k».proof.Proof.OffKernelIdeal
public import proofs.«01_k».proof.Proof.Point

@[expose] public section

set_option synthInstance.maxSize 4096

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Attn

variable {F : FTy → Type} [FloatOps F] [Named F] [Facts₀] [Facts]
open Facts₀ Facts

local notation "𝕄" => MT nD τ sig Unit (Elt F) ℕ (UR sig nD τ) ℕ

variable (𝒱 : Variants) (c : Dev nD) (bd : Option 𝒱.V)

local notation "WP" p:max Φ:max => wp frame (wpE (defs₀ (F := F)) 𝒱 (c : Thread nD τ) bd) Set.univ p Φ

/-- The mask, -/
abbrev kM : F .f32 := Named.named κ "mask" 0xF149F2CA#32
/-- and the factor of the query scales. -/
abbrev kL : F .f32 := Named.named κ "log2e_over_sqrt_d" 0x3E0293EE#32

section

variable {i : grid0.Coords} {arg2 : Memref sig .tc .smem S32x254 .f32} {arg5 : Memref sig .tc .vmem S1x32512x128 .fp8e4m3}
  {arg6 : Memref sig .tc .vmem S1x128x32512 .fp8e4m3} {arg8 : Memref sig .tc .vmem S32512x256 .f32}

theorem trips2 : k0_t2_loop.trips = 18 := by decide
theorem trips1 : k0_t1_loop.trips = 127 := by decide

theorem wp_til (k : Fin k0_t2_loop.trips) (g : Fin 7) (n : Nat) (hn : n = 7 * k.val + g.val) {rg A hA qa b}
    {TK T5 T6} {κm : F .f32} {qt T} {U : Mxu F}
    (hU : Ready U qt (seqF (ghd_lt (i 0).val) TK T5 T6 κm qt qa b T n).O) {Φ : _ → sProp 𝕄} :
    iprop(own c arg2 TK ∗ own c arg5 T5 ∗ own c arg6 T6 ∗ own c arg8 (seqF (ghd_lt (i 0).val) TK T5 T6 κm qt qa b T n).T ∗
      (∀ U', ⌜Ready U' qt (seqF (ghd_lt (i 0).val) TK T5 T6 κm qt qa b T (n + 1)).O⌝ -∗ own c arg2 TK -∗ own c arg5 T5 -∗ own c arg6 T6 -∗
        own c arg8 (seqF (ghd_lt (i 0).val) TK T5 T6 κm qt qa b T (n + 1)).T -∗
        Φ ((seqF (ghd_lt (i 0).val) TK T5 T6 κm qt qa b T (n + 1)).l, (seqF (ghd_lt (i 0).val) TK T5 T6 κm qt qa b T (n + 1)).m, U')))
      ⊢ WP (til i arg2 arg5 arg6 arg8 k g rg A hA qa b
          ((seqF (ghd_lt (i 0).val) TK T5 T6 κm qt qa b T n).l, (seqF (ghd_lt (i 0).val) TK T5 T6 κm qt qa b T n).m, U)) Φ := by
  have hk : k.val < 18 := trips2 ▸ k.isLt
  have hg := g.isLt
  subst hn
  exact wp_tileAt (defs₀ (F := F)) 𝒱 c bd _ (by omega) _ (funext fun q => off6_eq k g q) (off7_eq k g) (off8_eq k g)
    (funext fun r => off9_eq i k g r) (funext fun j => off10_eq k g j) hU

/-- What holds before trip `k` of the loop over the tiles. -/
def inv (arg2 : Memref sig .tc .smem S32x254 .f32) (arg5 : Memref sig .tc .vmem S1x32512x128 .fp8e4m3)
    (arg6 : Memref sig .tc .vmem S1x128x32512 .fp8e4m3) (arg8 : Memref sig .tc .vmem S32512x256 .f32)
    (TK : S32x254.Idx → Elt F .f32) (T5 : S1x32512x128.Idx → Elt F .fp8e4m3) (T6 : S1x128x32512.Idx → Elt F .fp8e4m3)
    (qt : FVec F S256x256 .bf16) (sq : Nat → St F) (k : Nat) (acc : V9 F) : sProp 𝕄 :=
  iprop(∃ U, ⌜Ready U qt (sq (7 * k)).O ∧ acc = to9 ((sq (7 * k)).l, (sq (7 * k)).m, U)⌝ ∗
    own c arg2 TK ∗ own c arg5 T5 ∗ own c arg6 T6 ∗ own c arg8 (sq (7 * k)).T)

theorem wp_trip {TK T5 T6} {κm : F .f32} {qt qa b T} (k : Fin k0_t2_loop.trips) (acc : V9 F) :
    inv c arg2 arg5 arg6 arg8 TK T5 T6 qt (seqF (ghd_lt (i 0).val) TK T5 T6 κm qt qa b T) k.val acc
      ⊢ WP (trip i arg2 arg5 arg6 arg8 qa b k (of9 acc))
          (inv c arg2 arg5 arg6 arg8 TK T5 T6 qt (seqF (ghd_lt (i 0).val) TK T5 T6 κm qt qa b T) (k.val + 1)) := by
  unfold trip inv
  simp only [wp_bind]
  iintro ⟨%U, %h, H2, H5, H6, H8⟩
  obtain ⟨hU, rfl⟩ := h
  iapply (wp_til 𝒱 c bd k 0 (7 * k.val) rfl hU)
  isplitl [H2]; · iexact H2
  isplitl [H5]; · iexact H5
  isplitl [H6]; · iexact H6
  isplitl [H8]; · iexact H8
  iintro %U0 %hU0 H2 H5 H6 H8
  iapply (wp_til 𝒱 c bd k 1 (7 * k.val + 1) rfl hU0)
  isplitl [H2]; · iexact H2
  isplitl [H5]; · iexact H5
  isplitl [H6]; · iexact H6
  isplitl [H8]; · iexact H8
  iintro %U1 %hU1 H2 H5 H6 H8
  iapply (wp_til 𝒱 c bd k 2 (7 * k.val + 1 + 1) rfl hU1)
  isplitl [H2]; · iexact H2
  isplitl [H5]; · iexact H5
  isplitl [H6]; · iexact H6
  isplitl [H8]; · iexact H8
  iintro %U2 %hU2 H2 H5 H6 H8
  iapply (wp_til 𝒱 c bd k 3 (7 * k.val + 1 + 1 + 1) rfl hU2)
  isplitl [H2]; · iexact H2
  isplitl [H5]; · iexact H5
  isplitl [H6]; · iexact H6
  isplitl [H8]; · iexact H8
  iintro %U3 %hU3 H2 H5 H6 H8
  iapply (wp_til 𝒱 c bd k 4 (7 * k.val + 1 + 1 + 1 + 1) rfl hU3)
  isplitl [H2]; · iexact H2
  isplitl [H5]; · iexact H5
  isplitl [H6]; · iexact H6
  isplitl [H8]; · iexact H8
  iintro %U4 %hU4 H2 H5 H6 H8
  iapply (wp_til 𝒱 c bd k 5 (7 * k.val + 1 + 1 + 1 + 1 + 1) rfl hU4)
  isplitl [H2]; · iexact H2
  isplitl [H5]; · iexact H5
  isplitl [H6]; · iexact H6
  isplitl [H8]; · iexact H8
  iintro %U5 %hU5 H2 H5 H6 H8
  iapply (wp_til 𝒱 c bd k 6 (7 * k.val + 1 + 1 + 1 + 1 + 1 + 1) rfl hU5)
  isplitl [H2]; · iexact H2
  isplitl [H5]; · iexact H5
  isplitl [H6]; · iexact H6
  isplitl [H8]; · iexact H8
  iintro %U6 %hU6 H2 H5 H6 H8
  iapply (le_wp_ret _ _ _ _ _)
  have e : 7 * (k.val + 1) = 7 * k.val + 1 + 1 + 1 + 1 + 1 + 1 + 1 := by omega
  rw [e]
  iexists U6
  isplitl []
  · ipureintro; exact ⟨hU6, rfl⟩
  isplitl [H2]; · iexact H2
  isplitl [H5]; · iexact H5
  isplitl [H6]; · iexact H6
  iexact H8

set_option maxRecDepth 65536 in
theorem wp_tiles {TK T5 T6} {κm : F .f32} {qt qa b T} {U : Mxu F}
    (hU : Ready U qt (seqF (ghd_lt (i 0).val) TK T5 T6 κm qt qa b T 0).O) {Φ : _ → sProp 𝕄} :
    iprop(own c arg2 TK ∗ own c arg5 T5 ∗ own c arg6 T6 ∗ own c arg8 (seqF (ghd_lt (i 0).val) TK T5 T6 κm qt qa b T 0).T ∗
      (∀ U', ⌜Ready U' qt (seqF (ghd_lt (i 0).val) TK T5 T6 κm qt qa b T 126).O⌝ -∗ own c arg2 TK -∗ own c arg5 T5 -∗ own c arg6 T6 -∗
        own c arg8 (seqF (ghd_lt (i 0).val) TK T5 T6 κm qt qa b T 126).T -∗
        Φ (to9 ((seqF (ghd_lt (i 0).val) TK T5 T6 κm qt qa b T 126).l, (seqF (ghd_lt (i 0).val) TK T5 T6 κm qt qa b T 126).m, U'))))
      ⊢ WP (Scf.Loop.for k0_t2_loop k0_t2_ok
          (to9 ((seqF (ghd_lt (i 0).val) TK T5 T6 κm qt qa b T 0).l, (seqF (ghd_lt (i 0).val) TK T5 T6 κm qt qa b T 0).m, U))
          fun k r => trip i arg2 arg5 arg6 arg8 qa b k (of9 r)) Φ := by
  have step : ∀ (k : Fin k0_t2_loop.trips) (acc : V9 F),
      inv c arg2 arg5 arg6 arg8 TK T5 T6 qt (seqF (ghd_lt (i 0).val) TK T5 T6 κm qt qa b T) k.val acc
        ⊢ WP (trip i arg2 arg5 arg6 arg8 qa b k (of9 acc))
          (inv c arg2 arg5 arg6 arg8 TK T5 T6 qt (seqF (ghd_lt (i 0).val) TK T5 T6 κm qt qa b T) (k.val + 1)) :=
    fun k acc => wp_trip 𝒱 c bd k acc
  iintro ⟨H2, H5, H6, H8, HΦ⟩
  iapply (Scf.wp_for _ _ _ k0_t2_loop.lb k0_t2_loop.ub k0_t2_loop.st _ _ _
    (fun k acc => inv c arg2 arg5 arg6 arg8 TK T5 T6 qt (seqF (ghd_lt (i 0).val) TK T5 T6 κm qt qa b T) k acc) step)
  rw [show Scf.trips k0_t2_loop.lb k0_t2_loop.ub k0_t2_loop.st = 18 from trips2]
  unfold inv
  isplitl [H2 H5 H6 H8]
  · iexists U
    isplitl []
    · ipureintro; exact ⟨hU, rfl⟩
    isplitl [H2]; · iexact H2
    isplitl [H5]; · iexact H5
    isplitl [H6]; · iexact H6
    iexact H8
  iintro %acc ⟨%U, %h, H2, H5, H6, H8⟩
  obtain ⟨hU, rfl⟩ := h
  iapply HΦ $$ %U %hU H2 H5 H6 H8

end

/-- The point of a grid coordinate. -/
theorem pt_lt (i : grid0.Coords) : (i 0).val < 4065 := (i 0).isLt

/-- Filling at the first point. -/
theorem wp_first {i : grid0.Coords} {arg8 : Memref sig .tc .vmem S32512x256 .f32} {arg9 : Memref sig .tc .vmem S8x256 .f32} {T8 T9} {Φ : PUnit → sProp 𝕄} :
    iprop(own c arg8 T8 ∗ own c arg9 T9 ∗ (own c arg8 (startT kM (i 0).val T8) -∗ own c arg9 (startN (i 0).val T9) -∗ Φ ⟨⟩))
      ⊢ WP (if k0_h1 : k0_cond1 i = 1#1 then (do
        Scf.Loop.for k0_t1_loop (k0_t1_ok i k0_h1) ⟨⟩ fun k0_t1 _ =>
          stF arg8 (k0_off1 k0_t1) (k0_off1_inb i k0_t1 k0_h1) (broadcast S256x256 (kM : F .f32))
        stN arg9 (broadcast S8x256 (Scalar.ofBits .f32 0x00000000#32 : F .f32))) else pure ⟨⟩) Φ := by
  have hc : k0_cond1 i = 1#1 ↔ (i 0).val = 0 := by
    have : ∀ n : Fin 4065, k0_cond1 (mkc n) = 1#1 ↔ n.val = 0 := by decide +kernel
    have h := this (i 0)
    rwa [mkc_eta] at h
  by_cases h : k0_cond1 i = 1#1
  · rw [dif_pos h]
    have h0 := hc.1 h
    simp only [wp_bind, startT, startN, if_pos h0]
    have step : ∀ (k : Fin k0_t1_loop.trips) (acc : PUnit.{1}), own c arg8 (fillF (broadcast S256x256 (kM : F .f32)) T8 k.val)
        ⊢ (WP (stF arg8 (k0_off1 k) (k0_off1_inb i k h) (broadcast S256x256 (kM : F .f32)))
            (fun _ => own c arg8 (fillF (broadcast S256x256 (kM : F .f32)) T8 (k.val + 1))) : sProp 𝕄) := by
      intro k acc
      have hk : k.val < 127 := trips1 ▸ k.isLt
      iintro H
      iapply (wp_fillAt (defs₀ (F := F)) 𝒱 c bd k.val hk (off1_eq k))
      isplitl [H]; · iexact H
      iintro H; iexact H
    iintro ⟨H8, H9, HΦ⟩
    iapply (Scf.wp_for _ _ _ k0_t1_loop.lb k0_t1_loop.ub k0_t1_loop.st _ _ _
      (fun k _ => own c arg8 (fillF (broadcast S256x256 (kM : F .f32)) T8 k)) step)
    · isplitl [H8]; · iexact H8
      iintro %acc H8
      iapply (wp_stN (defs₀ (F := F)) 𝒱 c bd); isplitl [H9]; · iexact H9
      iintro H9
      iapply HΦ $$ [H8] H9
      rw [show Scf.trips k0_t1_loop.lb k0_t1_loop.ub k0_t1_loop.st = 127 from trips1]
      iexact H8
  · rw [dif_neg h]
    have h0 : ¬ (i 0).val = 0 := fun e => h (hc.2 e)
    simp only [startT, startN, if_neg h0]
    iintro ⟨H8, H9, HΦ⟩
    iapply (le_wp_ret _ _ _ _ _)
    iapply HΦ $$ H8 H9

theorem wp_close {i : grid0.Coords} {arg3 : Memref sig .tc .smem S32 .f32} {arg7 : Memref sig .tc .vmem S1x256x128 .bf16}
    {arg9 : Memref sig .tc .vmem S8x256 .f32} {TQ TK TS T4 T5 T6 T7 T8 T9} {U : Mxu F} {h11 hx}
    (hU : Ready U (ktile T4) (ptF kM kL (i 0).val TQ TK T4 T5 T6 T8 T9).O) {Φ : PUnit → sProp 𝕄} :
    iprop(own c arg3 TS ∗ own c arg7 T7 ∗ own c arg9 (startN (i 0).val T9) ∗
      (own c arg3 TS -∗ own c arg7 (outF (pt_lt i) TS (ptF kM kL (i 0).val TQ TK T4 T5 T6 T8 T9)) -∗
        own c arg9 (mfin (ptF kM kL (i 0).val TQ TK T4 T5 T6 T8 T9).m) -∗ Φ ⟨⟩))
      ⊢ WP (fin arg3 arg7 arg9 (k0_off11 i) h11 hx
          (of9 (to9 ((ptF kM kL (i 0).val TQ TK T4 T5 T6 T8 T9).l, (ptF kM kL (i 0).val TQ TK T4 T5 T6 T8 T9).m, U)))) Φ := by
  have h := wp_fin (defs₀ (F := F)) 𝒱 c bd (S := arg3) (A7 := arg7) (N := arg9) (o11 := k0_off11 i) (h11 := h11) (hx := hx)
    (TS := TS) (T7 := T7) (TN := startN (i 0).val T9) (l := (ptF kM kL (i 0).val TQ TK T4 T5 T6 T8 T9).l)
    (m := (ptF kM kL (i 0).val TQ TK T4 T5 T6 T8 T9).m) hU (Φ := Φ)
  rw [scaleAt1_congr _ (off11_eq i) _ (ov_inb (pt_lt i))] at h
  exact h

theorem wp_body {i : grid0.Coords} (arg1 : Memref sig .tc .smem S32x254 .f32) (harg1 : arg1.IsWhole) (arg2 : Memref sig .tc .smem S32x254 .f32) (harg2 : arg2.IsWhole) (arg3 : Memref sig .tc .smem S32 .f32) (harg3 : arg3.IsWhole) (arg4 : Memref sig .tc .vmem S1x256x128 .fp8e4m3) (harg4 : arg4.IsWhole) (arg5 : Memref sig .tc .vmem S1x32512x128 .fp8e4m3) (harg5 : arg5.IsWhole) (arg6 : Memref sig .tc .vmem S1x128x32512 .fp8e4m3) (harg6 : arg6.IsWhole) (arg7 : Memref sig .tc .vmem S1x256x128 .bf16) (harg7 : arg7.IsWhole) (arg8 : Memref sig .tc .vmem S32512x256 .f32) (harg8 : arg8.IsWhole) (arg9 : Memref sig .tc .vmem S8x256 .f32) (harg9 : arg9.IsWhole)
    {TQ TK TS T4 T5 T6 T7 T8 T9} {Φ : PUnit → sProp 𝕄} :
    iprop(own c arg1 TQ ∗ own c arg2 TK ∗ own c arg3 TS ∗ own c arg4 T4 ∗ own c arg5 T5 ∗ own c arg6 T6 ∗ own c arg7 T7 ∗ own c arg8 T8 ∗ own c arg9 T9 ∗
      (own c arg1 TQ -∗ own c arg2 TK -∗ own c arg3 TS -∗ own c arg4 T4 -∗ own c arg5 T5 -∗ own c arg6 T6 -∗
        own c arg7 (outF (pt_lt i) TS (ptF kM kL (i 0).val TQ TK T4 T5 T6 T8 T9)) -∗
        own c arg8 (ptF kM kL (i 0).val TQ TK T4 T5 T6 T8 T9).T -∗ own c arg9 (mfin (ptF kM kL (i 0).val TQ TK T4 T5 T6 T8 T9).m) -∗ Φ ⟨⟩))
      ⊢ WP (cc0_attention (F := F) i arg1 harg1 arg2 harg2 arg3 harg3 arg4 harg4 arg5 harg5 arg6 harg6 arg7 harg7 arg8 harg8 arg9 harg9) Φ := by
  rw [body_eq]
  simp only [wp_bind]
  have e23 : ∀ h h', qsc (kL : F .f32) (scaleAt TQ (k0_off2 i) h) (scaleAt TQ (k0_off3 i) h') = qsF kL (i 0).val TQ := fun h h' => by
    rw [scaleAt_congr _ (off2_eq i) h (oq_inb _ 0), scaleAt_congr _ (off3_eq i) h' (oq_inb _ 1)]
    rfl
  unfold ptF
  iintro ⟨H1, H2, H3, H4, H5, H6, H7, H8, H9, HΦ⟩
  iapply (wp_first 𝒱 c bd)
  isplitl [H8]; · iexact H8
  isplitl [H9]; · iexact H9
  iintro H8 H9
  iapply (wp_start (defs₀ (F := F)) 𝒱 c bd)
  isplitl [H1]; · iexact H1
  isplitl [H4]; · iexact H4
  isplitl [H9]; · iexact H9
  iintro %U0 %hU0 H1 H4 H9
  rw [e23]
  iapply (wp_tailAt (defs₀ (F := F)) 𝒱 c bd (ghd_lt (i 0).val) rfl rfl rfl (off4_eq i) (off5_eq i) rfl hU0)
  isplitl [H2]; · iexact H2
  isplitl [H5]; · iexact H5
  isplitl [H6]; · iexact H6
  isplitl [H8]; · iexact H8
  iintro %U1 %hU1 H2 H5 H6 H8
  iapply (wp_tiles 𝒱 c bd hU1)
  isplitl [H2]; · iexact H2
  isplitl [H5]; · iexact H5
  isplitl [H6]; · iexact H6
  isplitl [H8]; · iexact H8
  iintro %U %hU H2 H5 H6 H8
  have hc := fun hx Φ => wp_close 𝒱 c bd (i := i) (arg3 := arg3) (arg7 := arg7) (arg9 := arg9) (TS := TS) (T7 := T7) (h11 := k0_off11_inb i)
    (hx := hx) (TQ := TQ) (TK := TK) (T4 := T4) (T5 := T5) (T6 := T6) (T8 := T8) (T9 := T9) hU (Φ := Φ)
  unfold ptF at hc
  iapply (hc _ _)
  isplitl [H3]; · iexact H3
  isplitl [H7]; · iexact H7
  isplitl [H9]; · iexact H9
  iintro H3 H7 H9
  iapply HΦ $$ H1 H2 H3 H4 H5 H6 H7 H8 H9

end Cert.KernelIdeal

end
-- ==== Proof.RunKernelIdeal.lean ====
/- The run: the proof data of the pipeline, the obligation of its body, and the frame. -/
module

public import proofs.«01_k».proof.Proof.BodyKernelIdeal
public import proofs.«01_k».proof.Proof.Fill
public import proofs.«01_k».proof.Proof.Gen.KernelIdeal.Frame
public import Idealize.ShloMosaic.Lib.Claim

@[expose] public section

set_option synthInstance.maxSize 4096

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)
open Attn Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (c : Dev nD)

theorem coord0 (t : Fin grid0.N) : (grid0.coords t 0).val = t.val := by
  have h : t.val < 4065 := N_0 ▸ t.isLt
  have : ∀ n : Fin 4065, (grid0.coords (n.cast N_0.symm) 0).val = n.val := by decide +kernel
  exact this ⟨t.val, h⟩

/-- The windows' blocks at a point. -/
def bQ (t : Fin cfg0.N) : S32x254.Idx → Elt F .f32 := iblk m c 0 t
def bK (t : Fin cfg0.N) : S32x254.Idx → Elt F .f32 := iblk m c 1 t
def bV (t : Fin cfg0.N) : S32.Idx → Elt F .f32 := iblk m c 2 t
def b4 (t : Fin cfg0.N) : S1x256x128.Idx → Elt F .fp8e4m3 := iblk m c 3 t
def b5 (t : Fin cfg0.N) : S1x32512x128.Idx → Elt F .fp8e4m3 := iblk m c 4 t
def b6 (t : Fin cfg0.N) : S1x128x32512.Idx → Elt F .fp8e4m3 := iblk m c 5 t

/-- The state after the tiles of a point that finds the scratch at `s`. -/
def pst (t : Fin cfg0.N) (s : (S32512x256.Idx → Elt F .f32) × (S8x256.Idx → Elt F .f32)) : St F :=
  ptF kM kL (grid0.coords t 0).val (bQ m c t) (bK m c t) (b4 m c t) (b5 m c t) (b6 m c t) s.1 s.2

/-- The scratch before a point: the score buffer and the maxima. -/
def scr : Nat → (S32512x256.Idx → Elt F .f32) × (S8x256.Idx → Elt F .f32)
  | 0 => (fun _ => kM, fun _ => kM)
  | n + 1 => if h : n < cfg0.N then ((pst m c ⟨n, h⟩ (scr n)).T, mfin (pst m c ⟨n, h⟩ (scr n)).m) else scr n

/-- The block a point leaves in the result's staging buffer. -/
def outb (t : Fin cfg0.N) : S1x256x128.Idx → Elt F .bf16 :=
  outF (pt_lt (grid0.coords t)) (bV m c t) (pst m c t (scr m c t.val))

/-- What holds between the points. -/
def PhiS (n : Nat) (_ : n ≤ cfg0.N) : sProp 𝕄 :=
  iprop(∃ T8 T9, ⌜n ≠ 0 → T8 = (scr m c n).1 ∧ T9 = (scr m c n).2⌝ ∗
    Attn.own c (Memref.whole cc0_scratch0) T8 ∗ Attn.own c (Memref.whole cc0_scratch1) T9 ∗ ∃ r, prngReg c r)

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outb m c t
  Φ t := PhiS m c t.val (Nat.le_of_lt_succ t.isLt)
  q _ := fullShare
  owed _ := 0

/-- A whole buffer held at a tensor. -/
theorem own_owns {sp : Space} {S : Shape} {e : EltTy} {M : Memref sig .tc sp S e} (h : M.IsWhole) (T : S.Idx → Elt F e) :
    (owns (c : Thread nD τ) M fullShare T : sProp 𝕄) = Attn.own c M T := by
  obtain ⟨b, rfl, rfl, rfl, hM⟩ := h
  obtain rfl := eq_of_heq hM
  unfold owns Attn.own
  rw [show (Memref.whole b : Memref sig .tc _ _ _).view.set = Finset.univ from View.set_whole _]
  have h₁ : iprop(∃ f, ⌜(Memref.whole b).view.read (Elt F) f = T⌝ ∗ ((Memref.whole b).view.loc (c : Thread nD τ) ↦{fullShare} f))
      ⊢ (iprop(∃ f, ((Memref.whole b).view.loc (c : Thread nD τ) ↦{fullShare} f) ∗ ⌜(Memref.whole b).view.read (Elt F) f = T⌝) : sProp 𝕄) := by
    iintro ⟨%f, %hf, H⟩
    iexists f
    isplitl [H]; · iexact H
    ipureintro; exact hf
  have h₂ : iprop(∃ f, ((Memref.whole b).view.loc (c : Thread nD τ) ↦{fullShare} f) ∗ ⌜(Memref.whole b).view.read (Elt F) f = T⌝)
      ⊢ (iprop(∃ f, ⌜(Memref.whole b).view.read (Elt F) f = T⌝ ∗ ((Memref.whole b).view.loc (c : Thread nD τ) ↦{fullShare} f)) : sProp 𝕄) := by
    iintro ⟨%f, H, %hf⟩
    iexists f
    isplitl []; · ipureintro; exact hf
    iexact H
  exact BI.equiv_iff.mp ⟨h₁, h₂⟩

/-- A point's state does not depend on the scratch the first point finds. -/
theorem pst_congr (t : Fin cfg0.N) {T8 T9} (h : t.val ≠ 0 → T8 = (scr m c t.val).1 ∧ T9 = (scr m c t.val).2) :
    pst m c t (T8, T9) = pst m c t (scr m c t.val) := by
  by_cases h0 : t.val = 0
  · unfold pst ptF
    rw [coord0, h0]
    simp only [startT, startN, if_pos, fillF_all]
  · obtain ⟨rfl, rfl⟩ := h h0
    rfl

theorem scr_succ (t : Fin cfg0.N) :
    scr m c (t.val + 1) = ((pst m c t (scr m c t.val)).T, mfin (pst m c t (scr m c t.val)).m) := by
  rw [scr, dif_pos t.isLt]

/-- The body at a point, on what the windows and the scratch hold. -/
theorem wp_at (t : Fin cfg0.N) {T7 T8 T9} (h : t.val ≠ 0 → T8 = (scr m c t.val).1 ∧ T9 = (scr m c t.val).2) {Φ : PUnit → sProp 𝕄} :
    iprop(owns (c : Thread nD τ) (st0_0 t) fullShare (iblk m c 0 t) ∗ owns (c : Thread nD τ) (st0_1 t) fullShare (iblk m c 1 t) ∗
      owns (c : Thread nD τ) (st0_2 t) fullShare (iblk m c 2 t) ∗ owns (c : Thread nD τ) (st0_3 t) fullShare (iblk m c 3 t) ∗
      owns (c : Thread nD τ) (st0_4 t) fullShare (iblk m c 4 t) ∗ owns (c : Thread nD τ) (st0_5 t) fullShare (iblk m c 5 t) ∗
      owns (c : Thread nD τ) (st0_6 t) fullShare T7 ∗
      Attn.own c (Memref.whole cc0_scratch0) T8 ∗ Attn.own c (Memref.whole cc0_scratch1) T9 ∗
      (owns (c : Thread nD τ) (st0_0 t) fullShare (iblk m c 0 t) -∗ owns (c : Thread nD τ) (st0_1 t) fullShare (iblk m c 1 t) -∗
        owns (c : Thread nD τ) (st0_2 t) fullShare (iblk m c 2 t) -∗ owns (c : Thread nD τ) (st0_3 t) fullShare (iblk m c 3 t) -∗
        owns (c : Thread nD τ) (st0_4 t) fullShare (iblk m c 4 t) -∗ owns (c : Thread nD τ) (st0_5 t) fullShare (iblk m c 5 t) -∗
        owns (c : Thread nD τ) (st0_6 t) fullShare (outb m c t) -∗
        Attn.own c (Memref.whole cc0_scratch0) (scr m c (t.val + 1)).1 -∗ Attn.own c (Memref.whole cc0_scratch1) (scr m c (t.val + 1)).2 -∗ Φ ⟨⟩))
      ⊢ wp frame (wpE (defs₀ (F := F)) Variants.none (c : Thread nD τ) none) Set.univ (bodyAt0 t) Φ := by
  rw [scr_succ]
  have hb := wp_body Variants.none c none (i := grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (Memref.whole cc0_scratch0) (Memref.isWhole_whole _) (Memref.whole cc0_scratch1) (Memref.isWhole_whole _)
    (TQ := bQ m c t) (TK := bK m c t) (TS := bV m c t) (T4 := b4 m c t) (T5 := b5 m c t) (T6 := b6 m c t) (T7 := T7) (T8 := T8) (T9 := T9) (Φ := Φ)
  have hp : ptF kM kL (grid0.coords t 0).val (bQ m c t) (bK m c t) (b4 m c t) (b5 m c t) (b6 m c t) T8 T9 = pst m c t (scr m c t.val) :=
    pst_congr m c t h
  rw [hp, ← own_owns c (M := win0_0.stage (cfg0.slots t 0)) (hstage0_0 ((cfg0.slots t 0).cast nbuf0_0)), ← own_owns c (M := win0_1.stage (cfg0.slots t 1)) (hstage0_1 ((cfg0.slots t 1).cast nbuf0_1)), ← own_owns c (M := win0_2.stage (cfg0.slots t 2)) (hstage0_2 ((cfg0.slots t 2).cast nbuf0_2)), ← own_owns c (M := win0_3.stage (cfg0.slots t 3)) (hstage0_3 ((cfg0.slots t 3).cast nbuf0_3)), ← own_owns c (M := win0_4.stage (cfg0.slots t 4)) (hstage0_4 ((cfg0.slots t 4).cast nbuf0_4)), ← own_owns c (M := win0_5.stage (cfg0.slots t 5)) (hstage0_5 ((cfg0.slots t 5).cast nbuf0_5)), ← own_owns c (M := win0_6.stage (cfg0.slots t 6)) (hstage0_6 ((cfg0.slots t 6).cast nbuf0_6)),
    ← own_owns c (M := win0_6.stage (cfg0.slots t 6)) (hstage0_6 ((cfg0.slots t 6).cast nbuf0_6))] at hb
  exact hb

set_option maxRecDepth 65536 in
theorem body_obligation : BodyObligationLoose (dats m 0 c) (defs₀ (F := F)) Variants.none () Set.univ := fun t => by
  rw [bigSep_W0, bigSep_W0]
  simp only
  rw [show (dats m 0 c).owesAt () t.succ = (dats m 0 c).owesAt () t.castSucc from rfl,
    show (dats m 0 c).Φ t.castSucc = PhiS m c t.val (Nat.le_of_lt t.isLt) from rfl,
    show (dats m 0 c).Φ t.succ = PhiS m c (t.val + 1) t.isLt from rfl]
  unfold PhiS
  iintro ⟨⟨%T8, %T9, %h, H8, H9, Hr⟩, Ho, ⟨%d0, H0⟩, ⟨%d1, H1⟩, ⟨%d2, H2⟩, ⟨%d3, H3⟩, ⟨%d4, H4⟩, ⟨%d5, H5⟩, ⟨%d6, H6⟩⟩
  rw [before0_0_of m (dats m 0 c) rfl (fun _ => rfl) t d0, before0_1_of m (dats m 0 c) rfl (fun _ => rfl) t d1,
    before0_2_of m (dats m 0 c) rfl (fun _ => rfl) t d2, before0_3_of m (dats m 0 c) rfl (fun _ => rfl) t d3,
    before0_4_of m (dats m 0 c) rfl (fun _ => rfl) t d4, before0_5_of m (dats m 0 c) rfl (fun _ => rfl) t d5]
  rw [show (defs₀ (F := F)) .tc cfg0.body (cfg0.bodyArgs t (cfg0.slots t)) = bodyAt0 t from rfl]
  iapply (wp_at m c t h)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H9]; · iexact H9
  iintro H0 H1 H2 H3 H4 H5 H6 H8 H9
  isplitl [H8 H9 Hr]
  · iexists _
    iexists _
    isplitl []
    · ipureintro; exact fun _ => ⟨rfl, rfl⟩
    isplitl [H8]; · iexact H8
    isplitl [H9]; · iexact H9
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists (outb m c t)
  have e : (cfg0.win 6).fill (cfg0.grid.coords t) (outb m c t) ((cfg0.win 6).cut (cfg0.grid.coords t) ((dats m 0 c).after 6 t)) = outb m c t :=
    Window.fill_cut _ _ _
  rw [e]
  iexact H6

theorem hin : (Pipeline.ΦA spec0 c : sProp 𝕄) ⊢ (dats m 0 c).Φ 0 := by
  rw [show (dats m 0 c).Φ 0 = PhiS m c 0 (Nat.zero_le _) from rfl]
  unfold Pipeline.ΦA PhiS Attn.own
  rw [scopedRest0_eq]
  iintro ⟨⟨⟨%f0, H0⟩, ⟨%f1, H1⟩⟩, Hr⟩
  iexists f0
  iexists f1
  isplitl []
  · ipureintro; exact fun h => absurd rfl h
  isplitl [H0]
  · iexists f0; isplitl [H0]; · iexact H0
    ipureintro; rfl
  isplitl [H1]
  · iexists f1; isplitl [H1]; · iexact H1
    ipureintro; rfl
  iexact Hr

theorem hout : (dats m 0 c).Φ (Fin.last cfg0.N) ⊢ (Pipeline.ΦA spec0 c : sProp 𝕄) := by
  rw [show (dats m 0 c).Φ (Fin.last cfg0.N) = PhiS m c cfg0.N (le_refl _) from rfl]
  unfold Pipeline.ΦA PhiS Attn.own
  rw [scopedRest0_eq]
  iintro ⟨%T8, %T9, -, ⟨%f0, H0, -⟩, ⟨%f1, H1, -⟩, Hr⟩
  isplitl [H0 H1]
  · isplitl [H0]
    · iexists f0; iexact H0
    · iexists f1; iexact H1
  iexact Hr

set_option backward.isDefEq.respectTransparency.types false in
/-- The run ends with every array at what the proof data say, and with every semaphore counter at zero. -/
theorem run : θ_run (defs (F := F)) (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := body_obligation m) (hshare := fun c => (dats m 0 c).share_full fun _ => rfl) (howed := fun _ _ => rfl)
    (V := V m) (hmain := hmain m Variants.none) (hA := fun _ _ => rfl) (hin := hin m) (hout := hout m)

/-- The run leaves the six arguments as they were and every semaphore counter at zero. -/
theorem frame_run : θ_run (defs (F := F)) (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (fun _ _ => rfl) ((θ_run _ _ _).mono (fun _ h => h.1) (run m ρ)))
    ((θ_run _ _ _).mono (fun _ h => h.2) (run m ρ))

end Cert.KernelIdeal

end
-- ==== Proof.ValAt.lean ====
/- The pieces of the attention kernel's body read at an index, over the extended reals. -/
module

public import proofs.«01_k».proof.Proof.Point
public import Idealize.ShloMosaic.Lib.Pointwise

@[expose] public section

set_option synthInstance.maxSize 4096

noncomputable section

namespace Attn

open Idealize.ShloMosaic Idealize.SL.Sem

theorem c448 : Ideal.ofBits .f32 0x43E00000#32 = ((448 : ℝ) : EReal) := by
  simp [Ideal.ofBits, Ideal.ieee, -EReal.coe_mul]; norm_num
theorem c8 : Ideal.ofBits .f32 0x41000000#32 = ((8 : ℝ) : EReal) := by
  simp [Ideal.ofBits, Ideal.ieee, -EReal.coe_mul]; norm_num
theorem c256 : Ideal.ofBits .f32 0x43800000#32 = ((256 : ℝ) : EReal) := by
  simp [Ideal.ofBits, Ideal.ieee, -EReal.coe_mul]; norm_num
theorem c128 : Ideal.ofBits .f32 0x43000000#32 = ((128 : ℝ) : EReal) := by
  simp [Ideal.ofBits, Ideal.ieee, -EReal.coe_mul]; norm_num
theorem c256inv : Ideal.ofBits .f32 0x3B800000#32 = ((1 / 256 : ℝ) : EReal) := by
  simp [Ideal.ofBits, Ideal.ieee, -EReal.coe_mul]; norm_num
theorem cninf : Ideal.ofBits .f32 0xFF800000#32 = ⊥ := by
  simp [Ideal.ofBits, Ideal.ieee]
theorem c0fp8 : Ideal.ofBits .fp8e4m3 0x00#8 = 0 := Ideal.ofBits_zero .fp8e4m3

theorem pexp_at (x : Vec Ideal S32x256 .f32) (b : FVec Ideal S8x256 .f32) (t : Fin 4) (r : Fin 8) (c : Fin 256) :
    pexp x b (ix3 t r c) = Ideal.exp2 (x (ix2 ⟨8 * t.val + r.val, by omega⟩ c) - b (ix2 r c)) := by
  have e : (⟨8 * t.val + r.val, by omega⟩ : Fin 32) = ⟨t.val * 8 + r.val, by omega⟩ := Fin.ext (by simp; omega)
  rw [e]
  pointwise [pexp]
  rfl

theorem lAdd_at (l : FVec Ideal S8x256 .f32) (p : FVec Ideal S4x8x256 .f32) (t : Fin 4) (r : Fin 8) (c : Fin 256) :
    lAdd l p t (ix2 r c) = l (ix2 r c) + p (ix3 t r c) := by
  pointwise [lAdd]

theorem pcode_at (p : FVec Ideal S4x8x256 .f32) (i : Fin 32) (c : Fin 256) :
    pcode p (ix2 i c) = min (p (ix3 ⟨i.val / 8, by omega⟩ ⟨i.val % 8, by omega⟩ c)) ((448 : ℝ) : EReal) := by
  pointwise [pcode]
  rw [c448]

theorem vtile_at (x : Vec Ideal S1x128x256 .fp8e4m3) (d : Fin 128) (i : Fin 256) : vtile x (ix2 d i) = x (ix3 0 d i) := by
  pointwise [vtile]

theorem ktile_at (x : Vec Ideal S1x256x128 .fp8e4m3) (r d : Fin 256) :
    ktile x (ix2 r d) = if h : d.val < 128 then x (ix3 0 r ⟨d.val, h⟩) else 0 := by
  pointwise [ktile]
  rw [c0fp8]

theorem srow_at (cc : FVec Ideal S256x256 .f32) (a : FVec Ideal S8x256 .f32) (j : Fin 32) (r : Fin 8) (c : Fin 256) :
    srow cc a j (ix2 r c) = cc (ix2 ⟨8 * j.val + r.val, by omega⟩ c) * a (ix2 r c) := by
  pointwise [srow]

theorem scl_at (a : FVec Ideal S8x256 .f32) (k : EReal) (r : Fin 8) (c : Fin 256) :
    scl (F := Ideal) a k (ix2 r c) = a (ix2 r c) * k := by
  pointwise [scl]

theorem bias_at (n : FVec Ideal S8x256 .f32) (r : Fin 8) (c : Fin 256) : bias n (ix2 r c) = n (ix2 r c) - ((8 : ℝ) : EReal) := by
  pointwise [bias]
  rw [c8]

theorem half_at (r : Fin 8) (c : Fin 256) : half (ix2 r c) = if c.val < 128 then 1#1 else 0#1 := by
  have h : ∀ (r : Fin 8) (c : Fin 256), half (ix2 r c) = if c.val < 128 then 1#1 else 0#1 := by decide +kernel
  exact h r c

theorem qsc_at (κ q0 q1 : EReal) (r : Fin 8) (c : Fin 256) :
    qsc (F := Ideal) κ q0 q1 (ix2 r c) = (if c.val < 128 then q0 else q1) * κ := by
  pointwise [qsc]
  rw [half_at]
  split_ifs <;> rfl

theorem mfin_at (m : V4 Ideal) (r : Fin 8) (c : Fin 256) : mfin m (ix2 r c) = Finset.fold max ⊥
    (fun x : Fin 8 => max (max (m.1 (ix2 x c)) (m.2.1 (ix2 x c))) (max (m.2.2.1 (ix2 x c)) (m.2.2.2 (ix2 x c)))) Finset.univ := by
  pointwise [mfin]
  rw [cninf]

theorem lfin_at (l : V4 Ideal) (c : Fin 256) : lfin l (ix2 0 c) =
    ∑ x : Fin 8, (l.1 (ix2 x c) + l.2.1 (ix2 x c) + (l.2.2.1 (ix2 x c) + l.2.2.2 (ix2 x c))) := by
  pointwise [lfin]

theorem outv_at (o : FVec Ideal S128x256 .f32) (s : EReal) (l : FVec Ideal S1x256 .f32) (c : Fin 256) (d : Fin 128) :
    outv (F := Ideal) o s l (ix3 0 c d) = Ideal.div (o (ix2 d c) * s) (l (ix2 0 c)) := by
  pointwise [outv]

theorem kq_at (k : Vec Ideal S1x256x128 .fp8e4m3) (qt : FVec Ideal S256x256 .bf16) (r c : Fin 256) :
    kq k qt (ix2 r c) = ∑ d : Fin 256, ktile k (ix2 r d) * qt (ix2 c d) := by
  have h : kq k qt (ix2 r c) = Ideal.matmul (DotDims.transposedRhs 256 256 256) (ktile k) qt (fun _ => 0) (ix2 r c) := by
    unfold kq
    rw [Ideal.mxuPass_def]
    simp only [Ideal.matmul, Ideal.mxuPass, zero_add]
  rw [h]
  pointwise

theorem pv_at (v : Vec Ideal S1x128x256 .fp8e4m3) (p : FVec Ideal S256x256 .bf16) (d : Fin 128) (c : Fin 256) :
    pv v p (ix2 d c) = ∑ i : Fin 256, v (ix3 0 d i) * p (ix2 i c) := by
  have h : pv v p (ix2 d c) = Ideal.matmul (DotDims.plain 128 256 256) (vtile v) p (fun _ => 0) (ix2 d c) := by
    unfold pv
    rw [Ideal.mxuPass_def]
    simp only [Ideal.matmul, Ideal.mxuPass, zero_add]
  rw [h]
  pointwise
  simp only [vtile_at]

/-- A chain of eight choices, at the one that holds. -/
theorem chain8 {α : Type} (f : Fin 8 → Nat → α) (q : Fin 8) (i : Nat) (hi : i < 32) :
    (if 32 * q.val + i < 32 then f 0 (32 * q.val + i) else
      if 32 * q.val + i - 32 < 32 then f 1 (32 * q.val + i - 32) else
      if 32 * q.val + i - 32 - 32 < 32 then f 2 (32 * q.val + i - 32 - 32) else
      if 32 * q.val + i - 32 - 32 - 32 < 32 then f 3 (32 * q.val + i - 32 - 32 - 32) else
      if 32 * q.val + i - 32 - 32 - 32 - 32 < 32 then f 4 (32 * q.val + i - 32 - 32 - 32 - 32) else
      if 32 * q.val + i - 32 - 32 - 32 - 32 - 32 < 32 then f 5 (32 * q.val + i - 32 - 32 - 32 - 32 - 32) else
      if 32 * q.val + i - 32 - 32 - 32 - 32 - 32 - 32 < 32 then f 6 (32 * q.val + i - 32 - 32 - 32 - 32 - 32 - 32) else
      f 7 (32 * q.val + i - 32 - 32 - 32 - 32 - 32 - 32 - 32)) = f q i := by
  match q with
  | 0 => rw [if_pos (by simp; omega)]; exact congrArg (f 0) (by simp)
  | 1 => rw [if_neg (by simp), if_pos (by simp; omega)]; exact congrArg (f 1) (by simp)
  | 2 => rw [if_neg (by simp; omega), if_neg (by simp; omega), if_pos (by simp; omega)]; exact congrArg (f 2) (by simp; omega)
  | 3 => rw [if_neg (by simp; omega), if_neg (by simp; omega), if_neg (by simp; omega), if_pos (by simp; omega)]; exact congrArg (f 3) (by simp; omega)
  | 4 => rw [if_neg (by simp; omega), if_neg (by simp; omega), if_neg (by simp; omega), if_neg (by simp; omega), if_pos (by simp; omega)]; exact congrArg (f 4) (by simp; omega)
  | 5 => rw [if_neg (by simp; omega), if_neg (by simp; omega), if_neg (by simp; omega), if_neg (by simp; omega), if_neg (by simp; omega), if_pos (by simp; omega)]; exact congrArg (f 5) (by simp; omega)
  | 6 => rw [if_neg (by simp; omega), if_neg (by simp; omega), if_neg (by simp; omega), if_neg (by simp; omega), if_neg (by simp; omega), if_neg (by simp; omega), if_pos (by simp; omega)]; exact congrArg (f 6) (by simp; omega)
  | 7 => rw [if_neg (by simp; omega), if_neg (by simp; omega), if_neg (by simp; omega), if_neg (by simp; omega), if_neg (by simp; omega), if_neg (by simp; omega), if_neg (by simp; omega)]; exact congrArg (f 7) (by simp; omega)

theorem dite_at {α : Type} [Inhabited α] {a : Nat} {g : Fin 32 → α} {e : α} :
    (if h : a < 32 then g ⟨a, h⟩ else e) = if a < 32 then (if h : a < 32 then g ⟨a, h⟩ else default) else e := by
  split_ifs <;> rfl

set_option maxHeartbeats 1000000 in
theorem codes_at (p : Fin 8 → FVec Ideal S4x8x256 .f32) (q : Fin 8) (i : Fin 32) (c : Fin 256) :
    codes (p 0) (p 1) (p 2) (p 3) (p 4) (p 5) (p 6) (p 7) (ix2 ⟨32 * q.val + i.val, by omega⟩ c) = pcode (p q) (ix2 i c) := by
  have hi := i.isLt
  have hq := q.isLt
  have h := chain8 (fun j m => if h : m < 32 then (pcode (p j) (ix2 ⟨m, h⟩ c) : EReal) else 0) q i.val hi
  simp only [dif_pos hi] at h
  have hm : 32 * q.val + i.val - 32 - 32 - 32 - 32 - 32 - 32 - 32 < 32 := by omega
  simp only [dif_pos hm] at h
  refine Eq.trans ?_ h
  pointwise [codes]
  split_ifs <;> first | rfl | (exfalso; omega)

theorem rd32_at (T : S32512x256.Idx → EReal) (o : Nat) (h : ∀ a, (![o, 0] : Fin 2 → Nat) a + S32x256.size a ≤ S32512x256.size a) (i : Fin 32) (c : Fin 256) :
    rdR (F := Ideal) (e := .f32) (r32 ![o, 0] h) T (ix2 i c) = T (ix2 ⟨o + i.val, by have := h 0; simp at this; omega⟩ c) := by
  unfold rdR
  refine congrArg T (funext fun a => Fin.ext ?_)
  fin_cases a
  · show o + 1 * i.val = o + i.val; omega
  · show 0 + 1 * c.val = c.val; omega

theorem rdk_at (T : S1x32512x128.Idx → EReal) (o : Nat) (h : ∀ a, (![0, o, 0] : Fin 3 → Nat) a + S1x256x128.size a ≤ S1x32512x128.size a) (i : Fin 256) (d : Fin 128) :
    rdR (F := Ideal) (e := .fp8e4m3) (rk ![0, o, 0] h) T (ix3 0 i d) = T (ix3 0 ⟨o + i.val, by have := h 1; simp at this; omega⟩ d) := by
  unfold rdR
  refine congrArg T (funext fun a => Fin.ext ?_)
  fin_cases a
  · rfl
  · show o + 1 * i.val = o + i.val; omega
  · show 0 + 1 * d.val = d.val; omega

theorem rdv_at (T : S1x128x32512.Idx → EReal) (o : Nat) (h : ∀ a, (![0, 0, o] : Fin 3 → Nat) a + S1x128x256.size a ≤ S1x128x32512.size a) (d : Fin 128) (i : Fin 256) :
    rdR (F := Ideal) (e := .fp8e4m3) (rv ![0, 0, o] h) T (ix3 0 d i) = T (ix3 0 d ⟨o + i.val, by have := h 2; simp at this; omega⟩) := by
  unfold rdR
  refine congrArg T (funext fun a => Fin.ext ?_)
  fin_cases a
  · rfl
  · show 0 + 1 * d.val = d.val; omega
  · show o + 1 * i.val = o + i.val; omega

theorem scaleAt_at (T : S32x254.Idx → EReal) (g n : Nat) (h : ∀ a, (![g, n] : Fin 2 → Nat) a + S1x1.size a ≤ S32x254.size a) :
    scaleAt (F := Ideal) T ![g, n] h = T (ix2 ⟨g, by have := h 0; simp at this; omega⟩ ⟨n, by have := h 1; simp at this; omega⟩) := by
  unfold scaleAt rdR
  refine congrArg T (funext fun a => Fin.ext ?_)
  fin_cases a <;> rfl

theorem scaleAt1_at (T : S32.Idx → EReal) (g : Nat) (h : ∀ a, (![g] : Fin 1 → Nat) a + S1.size a ≤ S32.size a) :
    scaleAt1 (F := Ideal) T ![g] h = T (ix1 ⟨g, by have := h 0; simp at this; omega⟩) := by
  unfold scaleAt1 rdR
  refine congrArg T (funext fun a => Fin.ext ?_)
  fin_cases a
  rfl

end Attn

end
-- ==== Proof.KBlk.lean ====
/- The blocks a grid point reads, as elements of the arguments. -/
module

public import proofs.«01_k».proof.Proof.RunKernelIdeal
public import proofs.«01_k».proof.Proof.ValAt
public import Idealize.ShloMosaic.Lib.StableHlo.RunRead
public import Idealize.ShloMosaic.Lib.Pointwise
public import Idealize.ShloMosaic.Lib.Pipeline.ValueKit

@[expose] public section

set_option synthInstance.maxSize 4096

noncomputable section

namespace Cert.KernelIdeal

open Idealize.ShloMosaic Idealize.ShloMosaic.TcCoe Idealize.SL.Sem
open Attn Gen

variable (m : (ℓ : Loc nD τ sig) → Buf (Elt Ideal) ℓ) (c : Dev nD)

/-! ## The arrays the region finds -/

theorem V_v1 : V m c main_v1 = shapeCast S32x254 (transpose S2x16x254 [0, 2, 1] (m ((c.tc : Thread nD τ).loc main_arg0) : FVec Ideal S2x254x16 .f32)
    transposes_S2x254x16_S2x16x254_0_2_1 : FVec Ideal S2x16x254 .f32) shapeCasts_S2x16x254_S32x254 := by
  show StableHlo.after hostOps0 (fun b => m (c, b)) (Proc.devRef .tc main_v1) = _
  after_reads_simp
  rfl

theorem V_v3 : V m c main_v3 = shapeCast S32x254 (transpose S2x16x254 [0, 2, 1] (m ((c.tc : Thread nD τ).loc main_arg1) : FVec Ideal S2x254x16 .f32)
    transposes_S2x254x16_S2x16x254_0_2_1 : FVec Ideal S2x16x254 .f32) shapeCasts_S2x16x254_S32x254 := by
  show StableHlo.after hostOps0 (fun b => m (c, b)) (Proc.devRef .tc main_v3) = _
  after_reads_simp
  rfl

theorem V_v4 : V m c main_v4 = shapeCast S32 (m ((c.tc : Thread nD τ).loc main_arg2) : FVec Ideal S2x16 .f32) shapeCasts_S2x16_S32 := by
  show StableHlo.after hostOps0 (fun b => m (c, b)) (Proc.devRef .tc main_v4) = _
  after_reads_simp
  rfl

theorem scl_read (a : FVec Ideal S2x254x16 .f32) (g : Fin 32) (n : Fin 254) :
    shapeCast S32x254 (transpose S2x16x254 [0, 2, 1] a transposes_S2x254x16_S2x16x254_0_2_1 : FVec Ideal S2x16x254 .f32) shapeCasts_S2x16x254_S32x254 (ix2 g n)
      = a (ix3 ⟨g.val / 16, by omega⟩ n ⟨g.val % 16, by omega⟩) := by
  pointwise []

theorem scl1_read (a : FVec Ideal S2x16 .f32) (g : Fin 32) :
    shapeCast S32 a shapeCasts_S2x16_S32 (ix1 g) = a (ix2 ⟨g.val / 16, by omega⟩ ⟨g.val % 16, by omega⟩) := by
  pointwise []

/-! ## The blocks' places -/

theorem e0 : ∀ t : Fin cfg0.N, win0_0.index t = ![0, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0] := (by decide +kernel : ∀ t : Fin grid0.N, _)
theorem e3 : ∀ t : Fin cfg0.N, win0_3.index t = ![ghd t.val / 16, gqb t.val, ghd t.val % 16] := (by decide +kernel : ∀ t : Fin grid0.N, _)
theorem e4 : ∀ t : Fin cfg0.N, win0_4.index t = ![ghd t.val / 16, 0, ghd t.val % 16] := (by decide +kernel : ∀ t : Fin grid0.N, _)
theorem e5 : ∀ t : Fin cfg0.N, win0_5.index t = ![ghd (t.val - 1) / 16, ghd (t.val - 1) % 16, 0] := (by decide +kernel : ∀ t : Fin grid0.N, _)
theorem e6 : ∀ t : Fin cfg0.N, win0_6.index t = ![ghd (t.val - 1) / 16, gqb (t.val - 1), ghd (t.val - 1) % 16] := (by decide +kernel : ∀ t : Fin grid0.N, _)

theorem bQ_at (t : Fin cfg0.N) (g : Fin 32) (n : Fin 254) :
    bQ m c t (ix2 g n) = m ((c.tc : Thread nD τ).loc main_arg0) (ix3 ⟨g.val / 16, by omega⟩ n ⟨g.val % 16, by omega⟩) := by
  refine Eq.trans ?_ ((congrFun (V_v1 m c) (ix2 g n)).trans (scl_read _ g n))
  unfold bQ
  blk_simp [iblk]
  refine congrArg (V m c main_v1) ?_
  blk_ext [e0]

theorem bK_at (t : Fin cfg0.N) (g : Fin 32) (n : Fin 254) :
    bK m c t (ix2 g n) = m ((c.tc : Thread nD τ).loc main_arg1) (ix3 ⟨g.val / 16, by omega⟩ n ⟨g.val % 16, by omega⟩) := by
  refine Eq.trans ?_ ((congrFun (V_v3 m c) (ix2 g n)).trans (scl_read _ g n))
  unfold bK
  blk_simp [iblk]
  refine congrArg (V m c main_v3) ?_
  blk_ext [e1]

theorem bV_at (t : Fin cfg0.N) (g : Fin 32) :
    bV m c t (ix1 g) = m ((c.tc : Thread nD τ).loc main_arg2) (ix2 ⟨g.val / 16, by omega⟩ ⟨g.val % 16, by omega⟩) := by
  refine Eq.trans ?_ ((congrFun (V_v4 m c) (ix1 g)).trans (scl1_read _ g))
  unfold bV
  blk_simp [iblk]
  refine congrArg (V m c main_v4) ?_
  blk_ext [e2]

theorem b4_at (t : Fin cfg0.N) (x : Fin 256) (d : Fin 128) :
    b4 m c t (ix3 0 x d) = m ((c.tc : Thread nD τ).loc main_arg3)
      (ix3 ⟨ghd t.val / 16, by have := ghd_lt t.val; omega⟩ ⟨gqb t.val * 256 + x.val, by unfold gqb; omega⟩ ⟨ghd t.val % 16 * 128 + d.val, by omega⟩) := by
  unfold b4
  blk_simp [iblk]
  refine (congrFun (V_main_arg3 m c) _).trans ?_
  refine congrArg (m ((c.tc : Thread nD τ).loc main_arg3)) ?_
  blk_ext [e3]

theorem b5_at (t : Fin cfg0.N) (x : Fin 32512) (d : Fin 128) :
    b5 m c t (ix3 0 x d) = m ((c.tc : Thread nD τ).loc main_arg4)
      (ix3 ⟨ghd t.val / 16, by have := ghd_lt t.val; omega⟩ x ⟨ghd t.val % 16 * 128 + d.val, by omega⟩) := by
  unfold b5
  blk_simp [iblk]
  refine (congrFun (V_main_arg4 m c) _).trans ?_
  refine congrArg (m ((c.tc : Thread nD τ).loc main_arg4)) ?_
  blk_ext [e4]

theorem b6_at (t : Fin cfg0.N) (d : Fin 128) (x : Fin 32512) :
    b6 m c t (ix3 0 d x) = m ((c.tc : Thread nD τ).loc main_arg5)
      (ix3 ⟨ghd (t.val - 1) / 16, by have := ghd_lt (t.val - 1); omega⟩ ⟨ghd (t.val - 1) % 16 * 128 + d.val, by omega⟩ x) := by
  unfold b6
  blk_simp [iblk]
  refine (congrFun (V_main_arg5 m c) _).trans ?_
  refine congrArg (m ((c.tc : Thread nD τ).loc main_arg5)) ?_
  blk_ext [e5]

end Cert.KernelIdeal

end
-- ==== Proof.Val.lean ====
/- What the tiles of one grid point leave, over the extended reals: the scores in the buffer, the sums of the weights, the
   products with the values, the maxima. -/
module

public import proofs.«01_k».proof.Proof.ValAt

@[expose] public section

set_option synthInstance.maxSize 4096

noncomputable section

namespace Attn

open Idealize.ShloMosaic Idealize.SL.Sem

/-- A sum over a range, by blocks. -/
theorem sum_blocks (a : Nat) (g : Nat → EReal) : ∀ N : Nat,
    ∑ i ∈ Finset.range (a * N), g i = ∑ n ∈ Finset.range N, ∑ i ∈ Finset.range a, g (a * n + i)
  | 0 => by simp
  | N + 1 => by
    rw [Nat.mul_succ, Finset.sum_range_add, sum_blocks a g N, Finset.sum_range_succ]

/-- Column `c` of a score buffer, by row. -/
def rowT (T : S32512x256.Idx → EReal) (c : Fin 256) (ρ : Nat) : EReal := if h : ρ < 32512 then T (ix2 ⟨ρ, h⟩ c) else ⊥

theorem rowT_of (T : S32512x256.Idx → EReal) (c : Fin 256) {ρ : Nat} (h : ρ < 32512) : rowT T c ρ = T (ix2 ⟨ρ, h⟩ c) := dif_pos h

/-- Row `d` of a value block, by key. -/
def rowV (T : S1x128x32512.Idx → EReal) (d : Fin 128) (ρ : Nat) : EReal := if h : ρ < 32512 then T (ix3 0 d ⟨ρ, h⟩) else 0

/-- The weight of a row. -/
def wgt (β : Fin 256 → EReal) (T : S32512x256.Idx → EReal) (c : Fin 256) (ρ : Nat) : EReal := Ideal.exp2 (rowT T c ρ - β c)

/-- The total of the four vectors of sums. -/
def Lsum (l : V4 Ideal) (c : Fin 256) : EReal := ∑ x : Fin 8, (l.1 (ix2 x c) + l.2.1 (ix2 x c) + (l.2.2.1 (ix2 x c) + l.2.2.2 (ix2 x c)))

/-- The four vectors of maxima are at most `x`. -/
def Mle (m : V4 Ideal) (c : Fin 256) (x : EReal) : Prop :=
  ∀ r : Fin 8, (m.1 (ix2 r c) ≤ x ∧ m.2.1 (ix2 r c) ≤ x) ∧ (m.2.2.1 (ix2 r c) ≤ x ∧ m.2.2.2 (ix2 r c) ≤ x)

section Tile

variable {b : FVec Ideal S8x256 .f32} {β : Fin 256 → EReal} (hb : ∀ r c, b (ix2 r c) = β c)
include hb

theorem grp_at {n : Nat} (hn : n < 127) (T : S32512x256.Idx → EReal) (q : Fin 8) (t : Fin 4) (r : Fin 8) (c : Fin 256) :
    pexp (F := Ideal) (rdR (e := .f32) (r32 ![256 * n + 32 * q.val, 0] (o6_inb hn q)) T) b (ix3 t r c) = wgt β T c (256 * n + (32 * q.val + (8 * t.val + r.val))) := by
  have hq := q.isLt
  have ht := t.isLt
  have hr := r.isLt
  rw [pexp_at, rd32_at, hb, wgt, rowT_of T c (by omega)]
  refine congrArg (fun k => Ideal.exp2 (T (ix2 k c) - β c)) (Fin.ext ?_)
  show 256 * n + 32 * q.val + (8 * t.val + r.val) = 256 * n + (32 * q.val + (8 * t.val + r.val))
  omega

theorem lAdd8_at {n : Nat} (hn : n < 127) (T : S32512x256.Idx → EReal) (t : Fin 4) (l : FVec Ideal S8x256 .f32) (r : Fin 8) (c : Fin 256) :
    lAdd8 T (fun q => ![256 * n + 32 * q.val, 0]) (o6_inb hn) b t l (ix2 r c)
      = l (ix2 r c) + ∑ q : Fin 8, wgt β T c (256 * n + (32 * q.val + (8 * t.val + r.val))) := by
  unfold lAdd8
  simp only [lAdd_at]
  rw [Fin.sum_univ_eight, ← grp_at hb hn T 0, ← grp_at hb hn T 1, ← grp_at hb hn T 2, ← grp_at hb hn T 3, ← grp_at hb hn T 4,
    ← grp_at hb hn T 5, ← grp_at hb hn T 6, ← grp_at hb hn T 7]
  simp only [add_assoc]

theorem tl_at {n : Nat} (hn : n < 127) (T : S32512x256.Idx → EReal) (l : V4 Ideal) (c : Fin 256) :
    Lsum (tl hn b T l) c = Lsum l c + ∑ i ∈ Finset.range 256, wgt β T c (256 * n + i) := by
  have h : ∑ i ∈ Finset.range 256, wgt β T c (256 * n + i)
      = ∑ q : Fin 8, ∑ t : Fin 4, ∑ r : Fin 8, wgt β T c (256 * n + (32 * q.val + (8 * t.val + r.val))) := by
    rw [show 256 = 32 * 8 from rfl, sum_blocks 32 (fun i => wgt β T c (32 * 8 * n + i)) 8, Finset.sum_range]
    refine Finset.sum_congr rfl fun q _ => ?_
    have h2 := sum_blocks 8 (fun i => wgt β T c (32 * 8 * n + (32 * q.val + i))) 4
    rw [show 8 * 4 = 32 from rfl] at h2
    rw [h2, Finset.sum_range]
    refine Finset.sum_congr rfl fun t _ => ?_
    rw [Finset.sum_range]
  rw [h]
  unfold Lsum tl lSums
  simp only [lAdd8_at hb hn, Fin.sum_univ_four, Finset.sum_add_distrib]
  have hc : ∀ t : Fin 4, ∑ q : Fin 8, ∑ r : Fin 8, wgt β T c (256 * n + (32 * q.val + (8 * t.val + r.val)))
      = ∑ r : Fin 8, ∑ q : Fin 8, wgt β T c (256 * n + (32 * q.val + (8 * t.val + r.val))) := fun t => Finset.sum_comm
  rw [hc 0, hc 1, hc 2, hc 3]
  abel

theorem tp_at {n : Nat} (hn : n < 127) (T : S32512x256.Idx → EReal) (i c : Fin 256) :
    tp hn b T (ix2 i c) = min (wgt β T c (256 * n + i.val)) ((448 : ℝ) : EReal) := by
  have hi := i.isLt
  have h := codes_at (fun q => pexp (F := Ideal) (rdR (e := .f32) (r32 ![256 * n + 32 * q.val, 0] (o6_inb hn q)) T) b)
    ⟨i.val / 32, by omega⟩ ⟨i.val % 32, by omega⟩ c
  have e : (⟨32 * (i.val / 32) + i.val % 32, by omega⟩ : Fin 256) = i := Fin.ext (by simp only []; omega)
  simp only [e] at h
  refine Eq.trans (by unfold tp pCodes; exact h) ?_
  rw [pcode_at]
  refine congrArg (fun k => min k ((448 : ℝ) : EReal)) ((grp_at hb hn T ⟨i.val / 32, by omega⟩ ⟨i.val % 32 / 8, by omega⟩ ⟨i.val % 32 % 8, by omega⟩ c).trans
    (congrArg (wgt β T c) ?_))
  show 256 * n + (32 * (i.val / 32) + (8 * (i.val % 32 / 8) + i.val % 32 % 8)) = 256 * n + i.val
  omega

theorem tpv_at {n : Nat} (hn : n < 127) (T : S32512x256.Idx → EReal) (T6 : S1x128x32512.Idx → EReal) (d : Fin 128) (c : Fin 256) :
    tpv hn T6 (tp hn b T) (ix2 d c)
      = ∑ i ∈ Finset.range 256, rowV T6 d (256 * n + i) * min (wgt β T c (256 * n + i)) ((448 : ℝ) : EReal) := by
  unfold tpv
  rw [pv_at, Finset.sum_range]
  refine Finset.sum_congr rfl fun i _ => ?_
  have hi := i.isLt
  rw [rdv_at, tp_at hb hn, rowV, dif_pos (by omega)]

end Tile

theorem emb_row {n : Nat} (hn : n < 127) (j : Fin 32) (i : S8x256.Idx) :
    ((r8 ![256 * n + 8 * j.val, 0] (o10_inb hn j)).emb i 0).val = 256 * n + 8 * j.val + (i 0).val
      ∧ ((r8 ![256 * n + 8 * j.val, 0] (o10_inb hn j)).emb i 1).val = (i 1).val :=
  ⟨show 256 * n + 8 * j.val + 1 * (i 0).val = _ by rw [Nat.one_mul], show 0 + 1 * (i 1).val = _ by rw [Nat.one_mul, Nat.zero_add]⟩

theorem wrR_row {n : Nat} (hn : n < 127) (j : Fin 32) (T : S32512x256.Idx → EReal) (w : S8x256.Idx → EReal) (r : Fin 8) (c : Fin 256) {ρ : Nat}
    (hρ : ρ < 32512) (h : 256 * n + 8 * j.val + r.val = ρ) :
    wrR (F := Ideal) (e := .f32) (r8 ![256 * n + 8 * j.val, 0] (o10_inb hn j)) T w (ix2 ⟨ρ, hρ⟩ c) = w (ix2 r c) := by
  have e : (r8 ![256 * n + 8 * j.val, 0] (o10_inb hn j)).emb (ix2 r c : S8x256.Idx) = (ix2 ⟨ρ, hρ⟩ c : S32512x256.Idx) := by
    have he := emb_row hn j (ix2 r c)
    funext a
    match a with
    | ⟨0, _⟩ => exact Fin.ext (he.1.trans h)
    | ⟨1, _⟩ => exact Fin.ext he.2
  exact (congrArg _ e.symm).trans (wrR_emb (F := Ideal) (e := .f32) (r8 ![256 * n + 8 * j.val, 0] (o10_inb hn j)) T w (ix2 r c : S8x256.Idx))

theorem wrR_row_not {n : Nat} (hn : n < 127) (j : Fin 32) (T : S32512x256.Idx → EReal) (w : S8x256.Idx → EReal) (c : Fin 256) {ρ : Nat}
    (hρ : ρ < 32512) (h : ∀ r : Fin 8, 256 * n + 8 * j.val + r.val ≠ ρ) :
    wrR (F := Ideal) (e := .f32) (r8 ![256 * n + 8 * j.val, 0] (o10_inb hn j)) T w (ix2 ⟨ρ, hρ⟩ c) = T (ix2 ⟨ρ, hρ⟩ c) := by
  refine wrR_of_not (F := Ideal) (e := .f32) (r8 ![256 * n + 8 * j.val, 0] (o10_inb hn j)) T w (ix2 ⟨ρ, hρ⟩ c : S32512x256.Idx) ?_
  intro i hi
  have h1 := (emb_row hn j i).1
  rw [hi] at h1
  exact h (i 0) h1.symm

section Score

/-- The scores of a block of queries: the products of codes times the scales of the query's row and the key's. -/
def score (T4 : S1x256x128.Idx → EReal) (T5 : S1x32512x128.Idx → EReal) (TK : S32x254.Idx → EReal) (g : Fin 32) (qv : Fin 256 → EReal)
    (c : Fin 256) (ρ : Nat) : EReal :=
  if h : ρ < 32512 then (∑ d : Fin 128, T5 (ix3 0 ⟨ρ, h⟩ d) * T4 (ix3 0 c d)) * (qv c * TK (ix2 g ⟨ρ / 128, by omega⟩)) else ⊥

variable {T4 : S1x256x128.Idx → EReal} {T5 : S1x32512x128.Idx → EReal} {TK : S32x254.Idx → EReal} {g : Nat} (hg : g < 32)
  {qa : FVec Ideal S8x256 .f32} {qv : Fin 256 → EReal} (hq : ∀ r c, qa (ix2 r c) = qv c)

theorem tc_at {n : Nat} (hn : n < 127) (i c : Fin 256) :
    tc (F := Ideal) hn T5 (ktile T4) (ix2 i c) = ∑ d : Fin 128, T5 (ix3 0 ⟨256 * n + i.val, by omega⟩ d) * T4 (ix3 0 c d) := by
  unfold tc
  rw [kq_at]
  refine (Fin.sum_univ_add (a := 128) (b := 128) _).trans ?_
  have h1 : ∀ d : Fin 128, (Fin.castAdd 128 d).val < 128 := fun d => d.isLt
  have h2 : ∀ d : Fin 128, ¬ (Fin.natAdd 128 d).val < 128 := fun d => by simp
  have e1 : ∀ d : Fin 128, ktile (F := Ideal) (rdR (e := .fp8e4m3) (rk ![0, 256 * n, 0] (o8_inb hn)) T5) (ix2 i (Fin.castAdd 128 d : Fin (128 + 128)))
      = T5 (ix3 0 ⟨256 * n + i.val, by omega⟩ d) := fun d => by
    rw [ktile_at, dif_pos (h1 d)]
    exact rdk_at T5 (256 * n) _ i d
  have e2 : ∀ d : Fin 128, ktile (F := Ideal) (rdR (e := .fp8e4m3) (rk ![0, 256 * n, 0] (o8_inb hn)) T5) (ix2 i (Fin.natAdd 128 d : Fin (128 + 128))) = 0 := fun d => by
    rw [ktile_at, dif_neg (h2 d)]
  have e3 : ∀ d : Fin 128, ktile (F := Ideal) T4 (ix2 c (Fin.castAdd 128 d : Fin (128 + 128))) = T4 (ix3 0 c d) := fun d => by
    rw [ktile_at, dif_pos (h1 d)]
    rfl
  simp only [e1, e2, e3, zero_mul, Finset.sum_const_zero, add_zero]

include hq in
theorem ta_at {n : Nat} (hn : n < 127) (r2 : Fin 2) (r : Fin 8) (c : Fin 256) :
    ta (F := Ideal) hn hg TK qa r2 (ix2 r c) = qv c * TK (ix2 ⟨g, hg⟩ ⟨2 * n + r2.val, by omega⟩) := by
  unfold ta
  rw [scaleAt_at, scl_at, hq]

include hq in
/-- A group of eight rows of a tile is the scores of its rows. -/
theorem srow_score {n : Nat} (hn : n < 127) (r2 : Fin 2) (j : Fin 32) (hj : j.val / 16 = r2.val) (r : Fin 8) (c : Fin 256) :
    srow (tc (F := Ideal) hn T5 (ktile T4)) (ta hn hg TK qa r2) j (ix2 r c) = score T4 T5 TK ⟨g, hg⟩ qv c (256 * n + (8 * j.val + r.val)) := by
  have h1 := j.isLt
  have h2 := r.isLt
  have hc : tc (F := Ideal) hn T5 (ktile T4) (ix2 ⟨8 * j.val + r.val, by omega⟩ c)
      = ∑ d : Fin 128, T5 (ix3 0 ⟨256 * n + (8 * j.val + r.val), by omega⟩ d) * T4 (ix3 0 c d) := tc_at (g := g) hn _ c
  have ha : ta (F := Ideal) hn hg TK qa r2 (ix2 r c) = qv c * TK (ix2 ⟨g, hg⟩ ⟨2 * n + r2.val, by omega⟩) := ta_at hg hq hn r2 r c
  rw [srow_at, hc, ha]
  unfold score
  rw [dif_pos (show 256 * n + (8 * j.val + r.val) < 32512 by omega)]
  have e1 : (⟨2 * n + r2.val, by omega⟩ : Fin 254) = ⟨(256 * n + (8 * j.val + r.val)) / 128, by omega⟩ := Fin.ext (by
    show 2 * n + r2.val = (256 * n + (8 * j.val + r.val)) / 128
    omega)
  rw [e1]

/-- One group written to the buffer, at a row. -/
theorem w1_at {n : Nat} (hn : n < 127) (cc : FVec Ideal S256x256 .f32) (a : FVec Ideal S8x256 .f32) (c : Fin 256) {ρ : Nat} (hρ : ρ < 32512)
    (j : Fin 32) (T : S32512x256.Idx → EReal) (x : EReal) (hx : ∀ r : Fin 8, 256 * n + (8 * j.val + r.val) = ρ → srow cc a j (ix2 r c) = x) :
    wrR (F := Ideal) (e := .f32) (r8 ![256 * n + 8 * j.val, 0] (o10_inb hn j)) T (srow cc a j) (ix2 ⟨ρ, hρ⟩ c)
      = if 256 * n + 8 * j.val ≤ ρ ∧ ρ < 256 * n + 8 * j.val + 8 then x else T (ix2 ⟨ρ, hρ⟩ c) := by
  by_cases hin : 256 * n + 8 * j.val ≤ ρ ∧ ρ < 256 * n + 8 * j.val + 8
  · rw [if_pos hin]
    have hr : ρ - (256 * n + 8 * j.val) < 8 := by omega
    exact (wrR_row hn j T (srow cc a j) ⟨ρ - (256 * n + 8 * j.val), hr⟩ c hρ (by show 256 * n + 8 * j.val + (ρ - (256 * n + 8 * j.val)) = ρ; omega)).trans
      (hx ⟨ρ - (256 * n + 8 * j.val), hr⟩ (by show 256 * n + (8 * j.val + (ρ - (256 * n + 8 * j.val))) = ρ; omega))
  · rw [if_neg hin]
    exact wrR_row_not hn j T (srow cc a j) c hρ (fun r h => hin (by have := r.isLt; omega))

theorem tw_nil {n : Nat} (hn : n < 127) (cc : FVec Ideal S256x256 .f32) (a : FVec Ideal S8x256 .f32) (T : S32512x256.Idx → EReal) :
    tw (F := Ideal) hn cc a [] T = T := rfl

theorem tw_cons {n : Nat} (hn : n < 127) (cc : FVec Ideal S256x256 .f32) (a : FVec Ideal S8x256 .f32) (j : Fin 32) (js : List (Fin 32))
    (T : S32512x256.Idx → EReal) : tw (F := Ideal) hn cc a (j :: js) T
      = tw (F := Ideal) hn cc a js (wrR (F := Ideal) (e := .f32) (r8 ![256 * n + 8 * j.val, 0] (o10_inb hn j)) T (srow cc a j)) := by
  unfold tw wrs
  rw [List.foldl_cons]

/-- Groups written to the buffer, at a row. -/
theorem tw_at {n : Nat} (hn : n < 127) (cc : FVec Ideal S256x256 .f32) (a : FVec Ideal S8x256 .f32) (c : Fin 256) {ρ : Nat} (hρ : ρ < 32512) (x : EReal) :
    ∀ (js : List (Fin 32)) (T : S32512x256.Idx → EReal),
      (∀ j ∈ js, ∀ r : Fin 8, 256 * n + (8 * j.val + r.val) = ρ → srow cc a j (ix2 r c) = x) →
      tw (F := Ideal) hn cc a js T (ix2 ⟨ρ, hρ⟩ c) = if ∃ j ∈ js, 256 * n + 8 * j.val ≤ ρ ∧ ρ < 256 * n + 8 * j.val + 8 then x else T (ix2 ⟨ρ, hρ⟩ c) := by
  intro js
  induction js with
  | nil => intro T _; simp [tw_nil]
  | cons j js ihj =>
    intro T hx
    have hw := w1_at hn cc a c hρ j T x (fun r => hx j List.mem_cons_self r)
    rw [tw_cons, ihj _ (fun j' hj' => hx j' (List.mem_cons_of_mem _ hj'))]
    rw [hw]
    by_cases h1 : ∃ j ∈ js, 256 * n + 8 * j.val ≤ ρ ∧ ρ < 256 * n + 8 * j.val + 8
    · obtain ⟨j', hj', h'⟩ := h1
      rw [if_pos ⟨j', hj', h'⟩, if_pos ⟨j', List.mem_cons_of_mem _ hj', h'⟩]
    · rw [if_neg h1]
      by_cases h2 : 256 * n + 8 * j.val ≤ ρ ∧ ρ < 256 * n + 8 * j.val + 8
      · rw [if_pos h2, if_pos ⟨j, List.mem_cons_self, h2⟩]
      · rw [if_neg h2, if_neg]
        rintro ⟨j', hj', h'⟩
        rcases List.mem_cons.mp hj' with rfl | hj'
        · exact h2 h'
        · exact h1 ⟨j', hj', h'⟩

theorem mx4_le (cc : FVec Ideal S256x256 .f32) (a : FVec Ideal S8x256 .f32) (j0 j1 j2 j3 : Fin 32) (m : V4 Ideal) (c : Fin 256) (x : EReal) :
    Mle (mx4 cc a j0 j1 j2 j3 m) c x ↔ Mle m c x ∧ ∀ j ∈ [j0, j1, j2, j3], ∀ r : Fin 8, srow cc a j (ix2 r c) ≤ x := by
  have hmax : ∀ (u v : FVec Ideal S8x256 .f32) (k : S8x256.Idx), maximumf u v k = max (u k) (v k) := fun _ _ _ => rfl
  simp only [Mle, mx4, hmax, max_le_iff, List.forall_mem_cons, List.not_mem_nil, false_imp_iff, forall_const, and_true]
  constructor
  · intro h
    exact ⟨fun r => ⟨⟨(h r).1.1.1, (h r).1.2.1⟩, (h r).2.1.1, (h r).2.2.1⟩, fun r => (h r).1.1.2, fun r => (h r).1.2.2, fun r => (h r).2.1.2,
      fun r => (h r).2.2.2⟩
  · rintro ⟨h, h0, h1, h2, h3⟩ r
    exact ⟨⟨⟨(h r).1.1, h0 r⟩, (h r).1.2, h1 r⟩, ⟨(h r).2.1, h2 r⟩, (h r).2.2, h3 r⟩

end Score

end Attn

end
-- ==== Proof.ValSeq.lean ====
/- The tiles of one grid point in turn, over the extended reals: what the score buffer, the sums, the maxima and the products
   with the values are after each of them. -/
module

public import proofs.«01_k».proof.Proof.Val

@[expose] public section

set_option synthInstance.maxSize 4096

noncomputable section

namespace Attn

open Idealize.ShloMosaic Idealize.SL.Sem

theorem tw_append {n : Nat} (hn : n < 127) (cc : FVec Ideal S256x256 .f32) (a : FVec Ideal S8x256 .f32) (js js' : List (Fin 32))
    (T : S32512x256.Idx → EReal) : tw (F := Ideal) hn cc a js' (tw (F := Ideal) hn cc a js T) = tw (F := Ideal) hn cc a (js ++ js') T := by
  unfold tw wrs
  rw [List.foldl_append]

/-- The groups of the first half of a tile, -/
abbrev lo16 : List (Fin 32) := [0, 1, 2, 3] ++ ([4, 5, 6, 7] ++ ([8, 9, 10, 11] ++ [12, 13, 14, 15]))
/-- of the second half, -/
abbrev hi16 : List (Fin 32) := [16, 17, 18, 19] ++ ([20, 21, 22, 23] ++ ([24, 25, 26, 27] ++ [28, 29, 30, 31]))
/-- and those of the second half that the last tile writes. -/
abbrev hi2 : List (Fin 32) := [16] ++ [17]

theorem mem_lo16 : ∀ j : Fin 32, j ∈ lo16 ↔ j.val < 16 := by decide
theorem mem_hi16 : ∀ j : Fin 32, j ∈ hi16 ↔ 16 ≤ j.val := by decide
theorem mem_hi2 : ∀ j : Fin 32, j ∈ hi2 ↔ 16 ≤ j.val ∧ j.val < 18 := by decide
theorem lo_cases : ∀ j : Fin 32, j.val < 16 → ((j ∈ [(0 : Fin 32), 1, 2, 3] ∨ j ∈ [(4 : Fin 32), 5, 6, 7]) ∨ j ∈ [(8 : Fin 32), 9, 10, 11]) ∨ j ∈ [(12 : Fin 32), 13, 14, 15] := by decide
theorem hi_cases : ∀ j : Fin 32, 16 ≤ j.val → ((j ∈ [(16 : Fin 32), 17, 18, 19] ∨ j ∈ [(20 : Fin 32), 21, 22, 23]) ∨ j ∈ [(24 : Fin 32), 25, 26, 27]) ∨ j ∈ [(28 : Fin 32), 29, 30, 31] := by decide
theorem lo_mem : ∀ j : Fin 32, (((j ∈ [(0 : Fin 32), 1, 2, 3] ∨ j ∈ [(4 : Fin 32), 5, 6, 7]) ∨ j ∈ [(8 : Fin 32), 9, 10, 11]) ∨ j ∈ [(12 : Fin 32), 13, 14, 15]) → j.val < 16 := by decide
theorem hi_mem : ∀ j : Fin 32, (((j ∈ [(16 : Fin 32), 17, 18, 19] ∨ j ∈ [(20 : Fin 32), 21, 22, 23]) ∨ j ∈ [(24 : Fin 32), 25, 26, 27]) ∨ j ∈ [(28 : Fin 32), 29, 30, 31]) → 16 ≤ j.val := by decide

theorem mx16_le (cc : FVec Ideal S256x256 .f32) (a : FVec Ideal S8x256 .f32) (m : V4 Ideal) (c : Fin 256) (x : EReal) :
    Mle (mx16 cc a m) c x ↔ Mle m c x ∧ ∀ j : Fin 32, j.val < 16 → ∀ r : Fin 8, srow cc a j (ix2 r c) ≤ x := by
  unfold mx16
  rw [mx4_le, mx4_le, mx4_le, mx4_le]
  constructor
  · rintro ⟨⟨⟨⟨h, h0⟩, h1⟩, h2⟩, h3⟩
    refine ⟨h, fun j hj => ?_⟩
    rcases lo_cases j hj with ((h' | h') | h') | h'
    · exact h0 j h'
    · exact h1 j h'
    · exact h2 j h'
    · exact h3 j h'
  · rintro ⟨h, h'⟩
    exact ⟨⟨⟨⟨h, fun j hj => h' j (lo_mem j (.inl (.inl (.inl hj))))⟩, fun j hj => h' j (lo_mem j (.inl (.inl (.inr hj))))⟩,
      fun j hj => h' j (lo_mem j (.inl (.inr hj)))⟩, fun j hj => h' j (lo_mem j (.inr hj))⟩

theorem mx16'_le (cc : FVec Ideal S256x256 .f32) (a : FVec Ideal S8x256 .f32) (m : V4 Ideal) (c : Fin 256) (x : EReal) :
    Mle (mx16' cc a m) c x ↔ Mle m c x ∧ ∀ j : Fin 32, 16 ≤ j.val → ∀ r : Fin 8, srow cc a j (ix2 r c) ≤ x := by
  unfold mx16'
  rw [mx4_le, mx4_le, mx4_le, mx4_le]
  constructor
  · rintro ⟨⟨⟨⟨h, h0⟩, h1⟩, h2⟩, h3⟩
    refine ⟨h, fun j hj => ?_⟩
    rcases hi_cases j hj with ((h' | h') | h') | h'
    · exact h0 j h'
    · exact h1 j h'
    · exact h2 j h'
    · exact h3 j h'
  · rintro ⟨h, h'⟩
    exact ⟨⟨⟨⟨h, fun j hj => h' j (hi_mem j (.inl (.inl (.inl hj))))⟩, fun j hj => h' j (hi_mem j (.inl (.inl (.inr hj))))⟩,
      fun j hj => h' j (hi_mem j (.inl (.inr hj)))⟩, fun j hj => h' j (hi_mem j (.inr hj))⟩

theorem mfin_le (m : V4 Ideal) (r : Fin 8) (c : Fin 256) (x : EReal) : mfin m (ix2 r c) ≤ x ↔ Mle m c x := by
  rw [mfin_at, Finset.fold_max_le]
  simp only [bot_le, true_and, Finset.mem_univ, true_imp_iff, max_le_iff, Mle]

section Seq

variable {T4 : S1x256x128.Idx → EReal} {T5 : S1x32512x128.Idx → EReal} {T6 : S1x128x32512.Idx → EReal} {TK : S32x254.Idx → EReal} {g : Nat}
  (hg : g < 32) {qa b : FVec Ideal S8x256 .f32} {qv β : Fin 256 → EReal} (hq : ∀ r c, qa (ix2 r c) = qv c) (hb : ∀ r c, b (ix2 r c) = β c)

include hq in
theorem tile_T {n : Nat} (hn : n < 127) (s : St Ideal) (c : Fin 256) {ρ : Nat} (hρ : ρ < 32512) :
    (tileF (F := Ideal) hn hg TK T5 T6 (ktile T4) qa b s).T (ix2 ⟨ρ, hρ⟩ c)
      = if 256 * n ≤ ρ ∧ ρ < 256 * n + 256 then score T4 T5 TK ⟨g, hg⟩ qv c ρ else s.T (ix2 ⟨ρ, hρ⟩ c) := by
  have h0 : ∀ j ∈ lo16, ∀ r : Fin 8, 256 * n + (8 * j.val + r.val) = ρ →
      srow (tc (F := Ideal) hn T5 (ktile T4)) (ta hn hg TK qa 0) j (ix2 r c) = score T4 T5 TK ⟨g, hg⟩ qv c ρ := fun j hj r hr => by
    have := (mem_lo16 j).1 hj
    rw [srow_score hg hq hn 0 j (show j.val / 16 = 0 by omega) r c, hr]
  have h1 : ∀ j ∈ hi16, ∀ r : Fin 8, 256 * n + (8 * j.val + r.val) = ρ →
      srow (tc (F := Ideal) hn T5 (ktile T4)) (ta hn hg TK qa 1) j (ix2 r c) = score T4 T5 TK ⟨g, hg⟩ qv c ρ := fun j hj r hr => by
    have := (mem_hi16 j).1 hj
    rw [srow_score hg hq hn 1 j (show j.val / 16 = 1 by omega) r c, hr]
  unfold tileF
  simp only []
  rw [tw_append, tw_append, tw_append, tw_append, tw_append, tw_append, tw_at hn _ _ c hρ _ hi16 _ h1, tw_at hn _ _ c hρ _ lo16 _ h0]
  by_cases hi : ∃ j ∈ hi16, 256 * n + 8 * j.val ≤ ρ ∧ ρ < 256 * n + 8 * j.val + 8
  · rw [if_pos hi, if_pos]
    obtain ⟨j, -, h⟩ := hi
    omega
  · rw [if_neg hi]
    by_cases hl : ∃ j ∈ lo16, 256 * n + 8 * j.val ≤ ρ ∧ ρ < 256 * n + 8 * j.val + 8
    · rw [if_pos hl, if_pos]
      obtain ⟨j, -, h⟩ := hl
      omega
    · rw [if_neg hl, if_neg]
      rintro ⟨ha, hb⟩
      have hj : (ρ - 256 * n) / 8 < 32 := by omega
      by_cases h16 : (ρ - 256 * n) / 8 < 16
      · exact hl ⟨⟨(ρ - 256 * n) / 8, hj⟩, (mem_lo16 _).2 h16, by show 256 * n + 8 * ((ρ - 256 * n) / 8) ≤ ρ; omega,
          by show ρ < 256 * n + 8 * ((ρ - 256 * n) / 8) + 8; omega⟩
      · exact hi ⟨⟨(ρ - 256 * n) / 8, hj⟩, (mem_hi16 _).2 (Nat.le_of_not_lt h16), by show 256 * n + 8 * ((ρ - 256 * n) / 8) ≤ ρ; omega,
          by show ρ < 256 * n + 8 * ((ρ - 256 * n) / 8) + 8; omega⟩

include hq in
theorem tail_T (κm : EReal) (T : S32512x256.Idx → EReal) (c : Fin 256) {ρ : Nat} (hρ : ρ < 32512) :
    (tailF (F := Ideal) hg TK T5 T6 κm (ktile T4) qa b T).T (ix2 ⟨ρ, hρ⟩ c)
      = if 32256 ≤ ρ ∧ ρ < 32400 then score T4 T5 TK ⟨g, hg⟩ qv c ρ else T (ix2 ⟨ρ, hρ⟩ c) := by
  have h0 : ∀ j ∈ lo16, ∀ r : Fin 8, 256 * 126 + (8 * j.val + r.val) = ρ →
      srow (tc (F := Ideal) h126 T5 (ktile T4)) (ta h126 hg TK qa 0) j (ix2 r c) = score T4 T5 TK ⟨g, hg⟩ qv c ρ := fun j hj r hr => by
    have := (mem_lo16 j).1 hj
    rw [srow_score hg hq h126 0 j (show j.val / 16 = 0 by omega) r c, hr]
  have h1 : ∀ j ∈ hi2, ∀ r : Fin 8, 256 * 126 + (8 * j.val + r.val) = ρ →
      srow (tc (F := Ideal) h126 T5 (ktile T4)) (ta h126 hg TK qa 1) j (ix2 r c) = score T4 T5 TK ⟨g, hg⟩ qv c ρ := fun j hj r hr => by
    have := (mem_hi2 j).1 hj
    rw [srow_score hg hq h126 1 j (show j.val / 16 = 1 by omega) r c, hr]
  unfold tailF
  simp only []
  rw [tw_append, tw_append, tw_append, tw_append, tw_at h126 _ _ c hρ _ hi2 _ h1, tw_at h126 _ _ c hρ _ lo16 _ h0]
  by_cases hi : ∃ j ∈ hi2, 256 * 126 + 8 * j.val ≤ ρ ∧ ρ < 256 * 126 + 8 * j.val + 8
  · rw [if_pos hi, if_pos]
    obtain ⟨j, hj, h⟩ := hi
    have := (mem_hi2 j).1 hj
    omega
  · rw [if_neg hi]
    by_cases hl : ∃ j ∈ lo16, 256 * 126 + 8 * j.val ≤ ρ ∧ ρ < 256 * 126 + 8 * j.val + 8
    · rw [if_pos hl, if_pos]
      obtain ⟨j, hj, h⟩ := hl
      have := (mem_lo16 j).1 hj
      omega
    · rw [if_neg hl, if_neg]
      rintro ⟨ha, hb⟩
      have hj : (ρ - 256 * 126) / 8 < 32 := by omega
      by_cases h16 : (ρ - 256 * 126) / 8 < 16
      · exact hl ⟨⟨(ρ - 256 * 126) / 8, hj⟩, (mem_lo16 _).2 h16, by show 256 * 126 + 8 * ((ρ - 256 * 126) / 8) ≤ ρ; omega,
          by show ρ < 256 * 126 + 8 * ((ρ - 256 * 126) / 8) + 8; omega⟩
      · exact hi ⟨⟨(ρ - 256 * 126) / 8, hj⟩, (mem_hi2 _).2 ⟨Nat.le_of_not_lt h16, by show (ρ - 256 * 126) / 8 < 18; omega⟩,
          by show 256 * 126 + 8 * ((ρ - 256 * 126) / 8) ≤ ρ; omega, by show ρ < 256 * 126 + 8 * ((ρ - 256 * 126) / 8) + 8; omega⟩

include hq in
theorem tile_M {n : Nat} (hn : n < 127) (s : St Ideal) (c : Fin 256) (x : EReal) :
    Mle (tileF (F := Ideal) hn hg TK T5 T6 (ktile T4) qa b s).m c x
      ↔ Mle s.m c x ∧ ∀ ρ, 256 * n ≤ ρ → ρ < 256 * n + 256 → score T4 T5 TK ⟨g, hg⟩ qv c ρ ≤ x := by
  unfold tileF
  simp only []
  rw [mx16'_le, mx16_le]
  constructor
  · rintro ⟨⟨h, h0⟩, h1⟩
    refine ⟨h, fun ρ ha hb' => ?_⟩
    have hj : (ρ - 256 * n) / 8 < 32 := by omega
    have hr : (ρ - 256 * n) % 8 < 8 := by omega
    have e : 256 * n + (8 * ((ρ - 256 * n) / 8) + (ρ - 256 * n) % 8) = ρ := by omega
    by_cases h16 : (ρ - 256 * n) / 8 < 16
    · have := h0 ⟨_, hj⟩ h16 ⟨_, hr⟩
      rw [srow_score hg hq hn 0 _ (show (ρ - 256 * n) / 8 / 16 = 0 by omega)] at this
      exact e ▸ this
    · have := h1 ⟨_, hj⟩ (Nat.le_of_not_lt h16) ⟨_, hr⟩
      rw [srow_score hg hq hn 1 _ (show (ρ - 256 * n) / 8 / 16 = 1 by omega)] at this
      exact e ▸ this
  · rintro ⟨h, h'⟩
    refine ⟨⟨h, fun j hj r => ?_⟩, fun j hj r => ?_⟩
    · rw [srow_score hg hq hn 0 j (show j.val / 16 = 0 by omega)]
      exact h' _ (by omega) (by omega)
    · rw [srow_score hg hq hn 1 j (show j.val / 16 = 1 by omega)]
      exact h' _ (by omega) (by omega)

include hq in
theorem tail_M {κm : EReal} (hκ : κm = ⊥) (T : S32512x256.Idx → EReal) (c : Fin 256) (x : EReal) :
    Mle (tailF (F := Ideal) hg TK T5 T6 κm (ktile T4) qa b T).m c x
      ↔ ∀ ρ, 32256 ≤ ρ → ρ < 32400 → score T4 T5 TK ⟨g, hg⟩ qv c ρ ≤ x := by
  have hm : Mle (tailF (F := Ideal) hg TK T5 T6 κm (ktile T4) qa b T).m c x
      ↔ Mle (mx16 (tc (F := Ideal) h126 T5 (ktile T4)) (ta h126 hg TK qa 0) (v4 (F := Ideal) κm)) c x
        ∧ ∀ j : Fin 32, 16 ≤ j.val ∧ j.val < 18 → ∀ r : Fin 8, srow (tc (F := Ideal) h126 T5 (ktile T4)) (ta h126 hg TK qa 1) j (ix2 r c) ≤ x := by
    have hmax : ∀ (u v : FVec Ideal S8x256 .f32) (k : S8x256.Idx), maximumf u v k = max (u k) (v k) := fun _ _ _ => rfl
    have h2 : ∀ j : Fin 32, 16 ≤ j.val ∧ j.val < 18 → j = 16 ∨ j = 17 := by decide
    unfold tailF Mle
    simp only [hmax, max_le_iff]
    constructor
    · intro h
      refine ⟨fun r => ⟨⟨(h r).1.1.1, (h r).1.2.1⟩, (h r).2⟩, fun j hj r => ?_⟩
      rcases h2 j hj with rfl | rfl
      · exact (h r).1.1.2
      · exact (h r).1.2.2
    · rintro ⟨h, h'⟩ r
      exact ⟨⟨⟨(h r).1.1, h' 16 (by decide) r⟩, (h r).1.2, h' 17 (by decide) r⟩, (h r).2⟩
  have hv : Mle (v4 (F := Ideal) κm) c x := by
    subst hκ
    exact fun r => ⟨⟨bot_le, bot_le⟩, bot_le, bot_le⟩
  rw [hm, mx16_le]
  constructor
  · rintro ⟨⟨-, h0⟩, h1⟩ ρ ha hb'
    have hj : (ρ - 256 * 126) / 8 < 32 := by omega
    have hr : (ρ - 256 * 126) % 8 < 8 := by omega
    have e : 256 * 126 + (8 * ((ρ - 256 * 126) / 8) + (ρ - 256 * 126) % 8) = ρ := by omega
    by_cases h16 : (ρ - 256 * 126) / 8 < 16
    · have := h0 ⟨_, hj⟩ h16 ⟨_, hr⟩
      rw [srow_score hg hq h126 0 _ (show (ρ - 256 * 126) / 8 / 16 = 0 by omega)] at this
      exact e ▸ this
    · have := h1 ⟨_, hj⟩ ⟨Nat.le_of_not_lt h16, by show (ρ - 256 * 126) / 8 < 18; omega⟩ ⟨_, hr⟩
      rw [srow_score hg hq h126 1 _ (show (ρ - 256 * 126) / 8 / 16 = 1 by omega)] at this
      exact e ▸ this
  · intro h'
    refine ⟨⟨hv, fun j hj r => ?_⟩, fun j hj r => ?_⟩
    · rw [srow_score hg hq h126 0 j (show j.val / 16 = 0 by omega)]
      exact h' _ (by omega) (by omega)
    · rw [srow_score hg hq h126 1 j (show j.val / 16 = 1 by omega)]
      exact h' _ (by omega) (by omega)

/-- The products of the weights, taken at most 448, with the values. -/
def ovt (T6 : S1x128x32512.Idx → EReal) (β : Fin 256 → EReal) (T : S32512x256.Idx → EReal) (d : Fin 128) (c : Fin 256) (ρ : Nat) : EReal :=
  rowV T6 d ρ * min (wgt β T c ρ) ((448 : ℝ) : EReal)

theorem wgt_congr {T T' : S32512x256.Idx → EReal} {c : Fin 256} {ρ : Nat} (h : ∀ hρ : ρ < 32512, T (ix2 ⟨ρ, hρ⟩ c) = T' (ix2 ⟨ρ, hρ⟩ c)) :
    wgt β T c ρ = wgt β T' c ρ := by
  unfold wgt rowT
  by_cases hρ : ρ < 32512
  · rw [dif_pos hρ, dif_pos hρ, h hρ]
  · rw [dif_neg hρ, dif_neg hρ]

include hq in
theorem seq_T (κm : EReal) (T : S32512x256.Idx → EReal) (c : Fin 256) {ρ : Nat} (hρ : ρ < 32512) : ∀ n : Nat, n ≤ 126 →
    (seqF (F := Ideal) hg TK T5 T6 κm (ktile T4) qa b T n).T (ix2 ⟨ρ, hρ⟩ c)
      = if ρ < 256 * n ∨ (32256 ≤ ρ ∧ ρ < 32400) then score T4 T5 TK ⟨g, hg⟩ qv c ρ else T (ix2 ⟨ρ, hρ⟩ c)
  | 0, _ => by
    refine (tail_T hg hq κm T c hρ).trans ?_
    refine if_congr ?_ rfl rfl
    omega
  | n + 1, h => by
    have hn : n < 127 := by omega
    rw [seqF_succ (F := Ideal) hg TK T5 T6 κm (ktile T4) qa b T hn, tile_T hg hq hn _ c hρ, seq_T κm T c hρ n (by omega)]
    by_cases h1 : 256 * n ≤ ρ ∧ ρ < 256 * n + 256
    · rw [if_pos h1, if_pos (by omega)]
    · rw [if_neg h1]
      exact if_congr (by omega) rfl rfl

include hq in
theorem seq_M {κm : EReal} (hκ : κm = ⊥) (T : S32512x256.Idx → EReal) (c : Fin 256) (x : EReal) : ∀ n : Nat, n ≤ 126 →
    (Mle (seqF (F := Ideal) hg TK T5 T6 κm (ktile T4) qa b T n).m c x
      ↔ ∀ ρ, (ρ < 256 * n ∨ (32256 ≤ ρ ∧ ρ < 32400)) → score T4 T5 TK ⟨g, hg⟩ qv c ρ ≤ x)
  | 0, _ => by
    refine (tail_M hg hq hκ T c x).trans ?_
    exact ⟨fun h ρ hρ => h ρ (by omega) (by omega), fun h ρ ha hb' => h ρ (.inr ⟨ha, hb'⟩)⟩
  | n + 1, h => by
    have hn : n < 127 := by omega
    rw [seqF_succ (F := Ideal) hg TK T5 T6 κm (ktile T4) qa b T hn, tile_M hg hq hn _ c x, seq_M hκ T c x n (by omega)]
    constructor
    · rintro ⟨h0, h1⟩ ρ hρ
      by_cases hin : 256 * n ≤ ρ ∧ ρ < 256 * n + 256
      · exact h1 ρ hin.1 hin.2
      · exact h0 ρ (by omega)
    · intro h'
      exact ⟨fun ρ hρ => h' ρ (by omega), fun ρ ha hb' => h' ρ (by omega)⟩

include hq hb in
theorem seq_L (κm : EReal) (T : S32512x256.Idx → EReal) (c : Fin 256) : ∀ n : Nat, n ≤ 126 →
    Lsum (seqF (F := Ideal) hg TK T5 T6 κm (ktile T4) qa b T n).l c
      = ∑ i ∈ Finset.range 256, wgt β T c (256 * 126 + i) + ∑ ρ ∈ Finset.range (256 * n), wgt β T c ρ
  | 0, _ => by
    refine (tl_at hb h126 T _ c).trans ?_
    have h0 : Lsum (v4 (F := Ideal) (Scalar.ofBits .f32 0x00000000#32 : Ideal .f32)) c = 0 := by
      have hz : (Scalar.ofBits .f32 0x00000000#32 : Ideal .f32) = (0 : EReal) := Ideal.ofBits_zero .f32
      rw [hz]
      unfold Lsum v4 broadcast
      simp
    rw [h0, Nat.mul_zero, Finset.sum_range_zero, zero_add, add_zero]
  | n + 1, h => by
    have hn : n < 127 := by omega
    rw [seqF_succ (F := Ideal) hg TK T5 T6 κm (ktile T4) qa b T hn]
    refine (tl_at hb hn _ _ c).trans ?_
    rw [seq_L κm T c n (by omega), add_assoc, show 256 * (n + 1) = 256 * n + 256 from rfl, Finset.sum_range_add _ (256 * n) 256]
    refine congrArg (fun z => _ + (_ + z)) (Finset.sum_congr rfl fun i hi => wgt_congr fun hρ => ?_)
    have := Finset.mem_range.1 hi
    rw [seq_T hg hq κm T c hρ n (by omega), if_neg (by omega)]

include hq hb in
theorem seq_O (κm : EReal) (T : S32512x256.Idx → EReal) (d : Fin 128) (c : Fin 256) : ∀ n : Nat, n ≤ 126 →
    (seqF (F := Ideal) hg TK T5 T6 κm (ktile T4) qa b T n).O (ix2 d c)
      = ∑ i ∈ Finset.range 256, ovt T6 β T d c (256 * 126 + i) + ∑ ρ ∈ Finset.range (256 * n), ovt T6 β T d c ρ
  | 0, _ => by
    refine (tpv_at hb h126 T T6 d c).trans ?_
    rw [Nat.mul_zero, Finset.sum_range_zero, add_zero]
    rfl
  | n + 1, h => by
    have hn : n < 127 := by omega
    rw [seqF_succ (F := Ideal) hg TK T5 T6 κm (ktile T4) qa b T hn]
    refine (congrArg (fun z => _ + z) (tpv_at hb hn _ T6 d c) : addf (F := Ideal) _ _ (ix2 d c) = _).trans ?_
    rw [seq_O κm T d c n (by omega), add_assoc, show 256 * (n + 1) = 256 * n + 256 from rfl, Finset.sum_range_add _ (256 * n) 256]
    refine congrArg (fun z => _ + (_ + z)) (Finset.sum_congr rfl fun i hi => ?_)
    have := Finset.mem_range.1 hi
    unfold ovt
    refine congrArg (fun z => _ * min z _) (wgt_congr fun hρ => ?_)
    rw [seq_T hg hq κm T c hρ n (by omega), if_neg (by omega)]

theorem sum_turn (f : Nat → EReal) :
    ∑ i ∈ Finset.range 256, f (256 * 126 + i) + ∑ ρ ∈ Finset.range (256 * 126), f ρ = ∑ ρ ∈ Finset.range 32512, f ρ := by
  rw [add_comm, ← Finset.sum_range_add f (256 * 126) 256]

end Seq

end Attn

end
-- ==== Proof.PtVal.lean ====
/- A grid point over the extended reals: the scores and maxima it leaves, and the block it writes. -/
module

public import proofs.«01_k».proof.Proof.ValSeq
public import proofs.«01_k».proof.Proof.Point
public import proofs.«01_k».proof.Proof.Fill

@[expose] public section

set_option synthInstance.maxSize 4096

noncomputable section

namespace Attn

open Idealize.ShloMosaic Idealize.SL.Sem

/-- The query scale of a column of a point. -/
def qvF (κl : EReal) (n : Nat) (TQ : S32x254.Idx → EReal) (c : Fin 256) : EReal :=
  (if c.val < 128 then TQ (ix2 ⟨ghd n, ghd_lt n⟩ ⟨2 * gqb n, by unfold gqb; omega⟩)
    else TQ (ix2 ⟨ghd n, ghd_lt n⟩ ⟨2 * gqb n + 1, by unfold gqb; omega⟩)) * κl

theorem qsF_at (κl : EReal) (n : Nat) (TQ : S32x254.Idx → EReal) (r : Fin 8) (c : Fin 256) :
    qsF (F := Ideal) κl n TQ (ix2 r c) = qvF κl n TQ c := by
  unfold qsF qvF
  rw [qsc_at, scaleAt_at, scaleAt_at]
  rfl

/-- The score of a key (rows) and a query (columns) of a point. -/
def ptS (κl : EReal) (n : Nat) (TQ TK : S32x254.Idx → EReal) (T4 : S1x256x128.Idx → EReal) (T5 : S1x32512x128.Idx → EReal)
    (c : Fin 256) (ρ : Nat) : EReal :=
  score T4 T5 TK ⟨ghd n, ghd_lt n⟩ (qvF κl n TQ) c ρ

section Pt

variable (κl : EReal) (n : Nat) (TQ TK : S32x254.Idx → EReal) (T4 : S1x256x128.Idx → EReal) (T5 : S1x32512x128.Idx → EReal)
  (T6 : S1x128x32512.Idx → EReal) (T8 : S32512x256.Idx → EReal) (T9 : FVec Ideal S8x256 .f32)

theorem startT_bot (h8 : ∀ (ρ : Fin 32512) (c : Fin 256), 32400 ≤ ρ.val → T8 (ix2 ρ c) = ⊥) (ρ : Fin 32512) (c : Fin 256)
    (hρ : 32400 ≤ ρ.val) : startT (F := Ideal) (⊥ : EReal) n T8 (ix2 ρ c) = ⊥ := by
  unfold startT
  split_ifs with h0
  · rw [fillF_all]
  · exact h8 ρ c hρ

/-- The scores a point leaves: beyond the last key, as before. -/
theorem ptF_T (h8 : ∀ (ρ : Fin 32512) (c : Fin 256), 32400 ≤ ρ.val → T8 (ix2 ρ c) = ⊥) (ρ : Fin 32512) (c : Fin 256) :
    (ptF (F := Ideal) (⊥ : EReal) κl n TQ TK T4 T5 T6 T8 T9).T (ix2 ρ c)
      = if ρ.val < 32400 then ptS κl n TQ TK T4 T5 c ρ.val else ⊥ := by
  have h := seq_T (T4 := T4) (T5 := T5) (T6 := T6) (TK := TK) (ghd_lt n) (qsF_at κl n TQ) (b := bias (startN n T9)) (⊥ : EReal)
    (startT (F := Ideal) (⊥ : EReal) n T8) c ρ.isLt 126 (le_refl _)
  refine h.trans ?_
  by_cases hρ : ρ.val < 32400
  · rw [if_pos hρ, if_pos (by omega)]; rfl
  · rw [if_neg hρ, if_neg (by omega)]
    exact startT_bot n T8 h8 ρ c (by omega)

/-- The maxima a point leaves. -/
theorem ptF_M (r : Fin 8) (c : Fin 256) :
    mfin (ptF (F := Ideal) (⊥ : EReal) κl n TQ TK T4 T5 T6 T8 T9).m (ix2 r c)
      = (Finset.range 32400).sup (ptS κl n TQ TK T4 T5 c) := by
  refine eq_of_forall_ge_iff fun x => ?_
  rw [mfin_le, Finset.sup_le_iff]
  refine (seq_M (T4 := T4) (T5 := T5) (T6 := T6) (TK := TK) (ghd_lt n) (qsF_at κl n TQ) (b := bias (startN n T9)) rfl
    (startT (F := Ideal) (⊥ : EReal) n T8) c x 126 (le_refl _)).trans ?_
  refine forall_congr' fun ρ => ?_
  rw [Finset.mem_range]
  constructor
  · intro h hρ; exact h (by omega)
  · intro h hρ; exact h (by omega)

theorem sum_rows (f : Nat → EReal) (hf : ∀ ρ, 32400 ≤ ρ → ρ < 32512 → f ρ = 0) :
    ∑ ρ ∈ Finset.range 32512, f ρ = ∑ ρ ∈ Finset.range 32400, f ρ := by
  symm
  refine Finset.sum_subset (Finset.range_subset_range.mpr (by omega)) fun ρ h h' => ?_
  rw [Finset.mem_range] at h h'
  exact hf ρ (by omega) h

variable {S : Fin 256 → Nat → EReal} {M : Fin 256 → EReal}

theorem wgt_row (β : Fin 256 → EReal) (hT : ∀ (ρ : Fin 32512) (c : Fin 256), T8 (ix2 ρ c) = if ρ.val < 32400 then S c ρ.val else ⊥)
    (c : Fin 256) (ρ : Nat) (hρ : ρ < 32512) : wgt β T8 c ρ = if ρ < 32400 then Ideal.exp2 (S c ρ - β c) else 0 := by
  unfold wgt
  rw [rowT_of T8 c hρ, hT]
  split_ifs
  · rfl
  · rw [EReal.bot_sub]; rfl

/-- The block a point writes. -/
theorem outF_at (hn : n < 4065) (h0 : n ≠ 0) (TS : S32.Idx → EReal)
    (hT : ∀ (ρ : Fin 32512) (c : Fin 256), T8 (ix2 ρ c) = if ρ.val < 32400 then S c ρ.val else ⊥)
    (hM : ∀ (r : Fin 8) (c : Fin 256), T9 (ix2 r c) = M c) (c : Fin 256) (d : Fin 128) :
    outF (F := Ideal) hn TS (ptF (F := Ideal) (⊥ : EReal) κl n TQ TK T4 T5 T6 T8 T9) (ix3 0 c d)
      = Ideal.div ((∑ ρ ∈ Finset.range 32400, rowV T6 d ρ * min (Ideal.exp2 (S c ρ - (M c - ((8 : ℝ) : EReal)))) ((448 : ℝ) : EReal))
          * TS (ix1 ⟨(n - 1) / 127, by omega⟩))
        (∑ ρ ∈ Finset.range 32400, Ideal.exp2 (S c ρ - (M c - ((8 : ℝ) : EReal)))) := by
  have hT8 : startT (F := Ideal) (⊥ : EReal) n T8 = T8 := if_neg h0
  have hb : ∀ (r : Fin 8) (c : Fin 256), bias (startN n T9) (ix2 r c) = (fun c => M c - ((8 : ℝ) : EReal)) c := fun r c => by
    rw [bias_at, show startN n T9 = T9 from if_neg h0, hM]
  have hw := wgt_row T8 (fun c => M c - ((8 : ℝ) : EReal)) hT c
  unfold outF ptF
  rw [outv_at, lfin_at, scaleAt1_at, hT8]
  have hL := seq_L (T4 := T4) (T5 := T5) (T6 := T6) (TK := TK) (ghd_lt n) (qsF_at κl n TQ) hb (⊥ : EReal) T8 c 126 (le_refl _)
  have hO := seq_O (T4 := T4) (T5 := T5) (T6 := T6) (TK := TK) (ghd_lt n) (qsF_at κl n TQ) hb (⊥ : EReal) T8 d c 126 (le_refl _)
  rw [sum_turn] at hL hO
  rw [sum_rows _ fun ρ h h' => by rw [hw ρ h', if_neg (by omega)]] at hL
  rw [sum_rows _ fun ρ h h' => by
    rw [ovt, hw ρ h', if_neg (by omega), min_eq_left (EReal.coe_nonneg.mpr (by norm_num)), mul_zero]] at hO
  have e1 : ∑ ρ ∈ Finset.range 32400, wgt (fun c => M c - ((8 : ℝ) : EReal)) T8 c ρ
      = ∑ ρ ∈ Finset.range 32400, Ideal.exp2 (S c ρ - (M c - ((8 : ℝ) : EReal))) :=
    Finset.sum_congr rfl fun ρ h => by
      rw [Finset.mem_range] at h
      rw [hw ρ (by omega), if_pos h]
  have e2 : ∑ ρ ∈ Finset.range 32400, ovt T6 (fun c => M c - ((8 : ℝ) : EReal)) T8 d c ρ
      = ∑ ρ ∈ Finset.range 32400, rowV T6 d ρ * min (Ideal.exp2 (S c ρ - (M c - ((8 : ℝ) : EReal)))) ((448 : ℝ) : EReal) :=
    Finset.sum_congr rfl fun ρ h => by
      rw [Finset.mem_range] at h
      rw [ovt, hw ρ (by omega), if_pos h]
  rw [e1] at hL
  rw [e2] at hO
  rw [hO]
  exact congrArg _ hL

end Pt

end Attn

end
-- ==== Proof.RefVal.lean ====
/- The reference, read: what its host operations leave in the result as a function of the decoded codes and the scales. -/
module

public import proofs.«01_k».proof.Proof.Gen.ReferenceIdeal.Frame
public import Idealize.ShloMosaic.Lib.StableHlo.RunRead
public import Idealize.ShloMosaic.Lib.Pointwise
public import Idealize.ShloMosaic.Lib.Pipeline.ValueKit
public import proofs.«01_k».proof.Proof.ValAt

@[expose] public section

set_option synthInstance.maxSize 4096

noncomputable section

namespace Cert.ReferenceIdeal

open Idealize.ShloMosaic Idealize.ShloMosaic.TcCoe Idealize.SL.Sem
open Gen

/-- The scores. -/
def rs (a0 a1 : FVec Ideal S2x254x16 .f32) (y0 y1 : FVec Ideal S2x32512x2048 .f32) : FVec Ideal S2x16x32512x32400 .f32 :=
  Host.divf (mulf (mulf (Host.dotGeneral dot_S2x32512x16x128_S2x32400x16x128_S2x16x32512x32400_3_3_1_1_02_02 none
        (shapeCast S2x32512x16x128 y0 shapeCasts_S2x32512x2048_S2x32512x16x128 : FVec Ideal S2x32512x16x128 .f32)
        (extractStridedSlice S2x32400x16x128 ![0, 0, 0, 0] (shapeCast S2x32512x16x128 y1 shapeCasts_S2x32512x2048_S2x32512x16x128 : FVec Ideal S2x32512x16x128 .f32)
          slices_S2x32512x16x128_S2x32400x16x128_0_0_0_0) : FVec Ideal S2x16x32512x32400 .f32)
      (broadcastInDim S2x16x32512x32400 ![0, 1, 2, 3] bcast_S2x16x32512x1_S2x16x32512x32400_0_1_2_3
        (broadcastInDim S2x16x32512x1 ![0, 1, 2] bcast_S2x16x32512_S2x16x32512x1_0_1_2
          (transpose S2x16x32512 [0, 2, 1] (shapeCast S2x32512x16 (broadcastInDim S2x254x128x16 ![0, 1, 2, 3] bcast_S2x254x1x16_S2x254x128x16_0_1_2_3
            (broadcastInDim S2x254x1x16 ![0, 1, 3] bcast_S2x254x16_S2x254x1x16_0_1_3 a0)) shapeCasts_S2x254x128x16_S2x32512x16) transposes_S2x32512x16_S2x16x32512_0_2_1))))
      (broadcastInDim S2x16x32512x32400 ![0, 1, 2, 3] bcast_S2x16x1x32400_S2x16x32512x32400_0_1_2_3
        (broadcastInDim S2x16x1x32400 ![0, 1, 3] bcast_S2x16x32400_S2x16x1x32400_0_1_3
          (extractStridedSlice S2x16x32400 ![0, 0, 0] (transpose S2x16x32512 [0, 2, 1] (shapeCast S2x32512x16
            (broadcastInDim S2x254x128x16 ![0, 1, 2, 3] bcast_S2x254x1x16_S2x254x128x16_0_1_2_3
            (broadcastInDim S2x254x1x16 ![0, 1, 3] bcast_S2x254x16_S2x254x1x16_0_1_3 a1)) shapeCasts_S2x254x128x16_S2x32512x16) transposes_S2x32512x16_S2x16x32512_0_2_1)
            slices_S2x16x32512_S2x16x32400_0_0_0))))
    (broadcastInDim S2x16x32512x32400 ![] bcast_S_S2x16x32512x32400 (Host.sqrt (constant S_ .f32 0x43000000#32)))

/-- The weights. -/
def rp (s : FVec Ideal S2x16x32512x32400 .f32) : FVec Ideal S2x16x32512x32400 .f32 :=
  Host.exp (subf s (broadcastInDim S2x16x32512x32400 ![0, 1, 2, 3] bcast_S2x16x32512x1_S2x16x32512x32400_0_1_2_3
    (broadcastInDim S2x16x32512x1 ![0, 1, 2] bcast_S2x16x32512_S2x16x32512x1_0_1_2
      (Host.reduce FloatOps.maximumf s (constant S_ .f32 0xFF800000#32) reducesTo_S2x16x32512x32400_S2x16x32512_d3 h_S_))))

/-- Their sums. -/
def rl (p : FVec Ideal S2x16x32512x32400 .f32) : FVec Ideal S2x16x32512 .f32 :=
  Host.reduceAdd p (constant S_ .f32 0x00000000#32) reducesTo_S2x16x32512x32400_S2x16x32512_d3 h_S_

/-- The weights times 256, clipped. -/
def rclip (p : FVec Ideal S2x16x32512x32400 .f32) : FVec Ideal S2x16x32512x32400 .f32 :=
  minimumf (broadcastInDim S2x16x32512x32400 ![] bcast_S_S2x16x32512x32400 (constant S_ .f32 0x43E00000#32))
    (maximumf (broadcastInDim S2x16x32512x32400 ![] bcast_S_S2x16x32512x32400 (constant S_ .f32 0x00000000#32))
      (mulf p (broadcastInDim S2x16x32512x32400 ![] bcast_S_S2x16x32512x32400 (constant S_ .f32 0x43800000#32))))

/-- The rounding. -/
def rr (x : FVec Ideal S2x16x32512x32400 .f32) : FVec Ideal S2x16x32512x32400 .f32 :=
  select (cmpf .olt x (broadcastInDim S2x16x32512x32400 ![] bcast_S_S2x16x32512x32400 (constant S_ .f32 0x3C800000#32)))
    (subf (addf x (broadcastInDim S2x16x32512x32400 ![] bcast_S_S2x16x32512x32400 (constant S_ .f32 0x46C00000#32)))
      (broadcastInDim S2x16x32512x32400 ![] bcast_S_S2x16x32512x32400 (constant S_ .f32 0x46C00000#32)))
    (subf (mulf x (broadcastInDim S2x16x32512x32400 ![] bcast_S_S2x16x32512x32400 (constant S_ .f32 0x49800008#32)))
      (subf (mulf x (broadcastInDim S2x16x32512x32400 ![] bcast_S_S2x16x32512x32400 (constant S_ .f32 0x49800008#32))) x))

/-- The products with the values. -/
def racc (y2 : FVec Ideal S2x2048x32512 .f32) (pc : FVec Ideal S2x16x32512x32400 .f32) : FVec Ideal S2x16x128x32512 .f32 :=
  Host.dotGeneral dot_S2x16x128x32400_S2x16x32512x32400_S2x16x128x32512_3_3_2_2_01_01 none
    (extractStridedSlice S2x16x128x32400 ![0, 0, 0, 0] (shapeCast S2x16x128x32512 y2 shapeCasts_S2x2048x32512_S2x16x128x32512 : FVec Ideal S2x16x128x32512 .f32)
      slices_S2x16x128x32512_S2x16x128x32400_0_0_0_0) pc

/-- The result. -/
def rout (a2 : FVec Ideal S2x16 .f32) (acc : FVec Ideal S2x16x128x32512 .f32) (l : FVec Ideal S2x16x32512 .f32) : FVec Ideal S2x32400x2048 .bf16 :=
  extractStridedSlice S2x32400x2048 ![0, 0, 0] (shapeCast S2x32512x2048 (truncf .bf16 (Host.divf
    (mulf (transpose S2x32512x16x128 [0, 3, 1, 2] acc transposes_S2x16x128x32512_S2x32512x16x128_0_3_1_2)
      (broadcastInDim S2x32512x16x128 ![0, 1, 2, 3] bcast_S2x1x16x1_S2x32512x16x128_0_1_2_3 (broadcastInDim S2x1x16x1 ![0, 2] bcast_S2x16_S2x1x16x1_0_2
        (mulf a2 (broadcastInDim S2x16 ![] bcast_S_S2x16 (constant S_ .f32 0x3B800000#32))))))
    (broadcastInDim S2x32512x16x128 ![0, 1, 2, 3] bcast_S2x32512x16x1_S2x32512x16x128_0_1_2_3 (broadcastInDim S2x32512x16x1 ![0, 1, 2] bcast_S2x32512x16_S2x32512x16x1_0_1_2
      (transpose S2x32512x16 [0, 2, 1] l transposes_S2x16x32512_S2x32512x16_0_2_1)))) bitsLt_bf16_f32) shapeCasts_S2x32512x16x128_S2x32512x2048)
    slices_S2x32512x2048_S2x32400x2048_0_0_0

/-- What the host operations leave in the result. -/
theorem after_v58 (W : Valuation τ sig (Elt Ideal)) :
    StableHlo.after ([hostOps1, hostOps1_1, hostOps1_2].flatten) W (Proc.devRef .tc main_v58)
      = rout (W (Proc.devRef .tc main_arg2))
          (racc (W (Proc.devRef .tc main_v0_2)) (rr (rclip (rp (rs (W (Proc.devRef .tc main_arg0)) (W (Proc.devRef .tc main_arg1)) (W (Proc.devRef .tc main_v0_0)) (W (Proc.devRef .tc main_v0_1)))))))
          (rl (rp (rs (W (Proc.devRef .tc main_arg0)) (W (Proc.devRef .tc main_arg1)) (W (Proc.devRef .tc main_v0_0)) (W (Proc.devRef .tc main_v0_1))))) := by
  simp only [List.flatten_cons, List.flatten_nil, List.append_nil]
  after_reads_simp
  rfl

section At

open Attn

theorem clow : Ideal.ofBits .f32 0x46C00000#32 = ((24576 : ℝ) : EReal) := by
  simp [Ideal.ofBits, Ideal.ieee, -EReal.coe_mul]; norm_num
theorem cspl : Ideal.ofBits .f32 0x49800008#32 = ((1048577 : ℝ) : EReal) := by
  simp [Ideal.ofBits, Ideal.ieee, -EReal.coe_mul]; norm_num

theorem rs_at (a0 a1 : FVec Ideal S2x254x16 .f32) (y0 y1 : FVec Ideal S2x32512x2048 .f32) (b : Fin 2) (h : Fin 16) (q : Fin 32512) (k : Fin 32400) :
    rs a0 a1 y0 y1 (ix4 b h q k) = Ideal.div (((∑ d : Fin 128, y0 (ix3 b q ⟨h.val * 128 + d.val, by omega⟩) * y1 (ix3 b ⟨k.val, by omega⟩ ⟨h.val * 128 + d.val, by omega⟩))
      * a0 (ix3 b ⟨q.val / 128, by omega⟩ h)) * a1 (ix3 b ⟨k.val / 128, by omega⟩ h)) ((Real.sqrt 128 : ℝ) : EReal) := by
  pointwise [rs]
  rw [c128, show Ideal.sqrt ((128 : ℝ) : EReal) = ((Real.sqrt 128 : ℝ) : EReal) from if_neg (by norm_num)]

theorem rp_at (s : FVec Ideal S2x16x32512x32400 .f32) (b : Fin 2) (h : Fin 16) (q : Fin 32512) (k : Fin 32400) :
    rp s (ix4 b h q k) = Ideal.exp (s (ix4 b h q k) - Finset.univ.sup fun k' : Fin 32400 => s (ix4 b h q k')) := by
  pointwise [rp]
  rw [cninf]
  rfl

theorem rl_at (p : FVec Ideal S2x16x32512x32400 .f32) (b : Fin 2) (h : Fin 16) (q : Fin 32512) :
    rl p (ix3 b h q) = ∑ k : Fin 32400, p (ix4 b h q k) := by
  pointwise [rl]

theorem rclip_at (p : FVec Ideal S2x16x32512x32400 .f32) (b : Fin 2) (h : Fin 16) (q : Fin 32512) (k : Fin 32400) :
    rclip p (ix4 b h q k) = min ((448 : ℝ) : EReal) (max 0 (p (ix4 b h q k) * ((256 : ℝ) : EReal))) := by
  pointwise [rclip]
  rw [c448, c256]

theorem rr_at (x : FVec Ideal S2x16x32512x32400 .f32) (b : Fin 2) (h : Fin 16) (q : Fin 32512) (k : Fin 32400) (r : ℝ) (hr : x (ix4 b h q k) = r) :
    rr x (ix4 b h q k) = x (ix4 b h q k) := by
  pointwise [rr]
  rw [hr, clow, cspl]
  norm_cast
  split
  · congr 1; ring
  · congr 1; ring

theorem racc_at (y2 : FVec Ideal S2x2048x32512 .f32) (pc : FVec Ideal S2x16x32512x32400 .f32) (b : Fin 2) (h : Fin 16) (d : Fin 128) (q : Fin 32512) :
    racc y2 pc (ix4 b h d q) = ∑ k : Fin 32400, y2 (ix3 b ⟨h.val * 128 + d.val, by omega⟩ ⟨k.val, by omega⟩) * pc (ix4 b h q k) := by
  pointwise [racc]

theorem rout_at (a2 : FVec Ideal S2x16 .f32) (acc : FVec Ideal S2x16x128x32512 .f32) (l : FVec Ideal S2x16x32512 .f32) (b : Fin 2) (q : Fin 32400) (j : Fin 2048) :
    rout a2 acc l (ix3 b q j) = Ideal.div (acc (ix4 b ⟨j.val / 128, by omega⟩ ⟨j.val % 128, by omega⟩ ⟨q.val, by omega⟩)
        * (a2 (ix2 b ⟨j.val / 128, by omega⟩) * ((1 / 256 : ℝ) : EReal))) (l (ix3 b ⟨j.val / 128, by omega⟩ ⟨q.val, by omega⟩)) := by
  pointwise [rout]
  rw [c256inv]

end At

section Run

variable (m : (ℓ : Loc nD τ sig) → Buf (Elt Ideal) ℓ)

/-! ## The decoded codes are the codes -/

theorem final_q (c : Dev nD) : (dats m 0 c).arrAt 3 cfg0.N = m ((c.tc : Thread nD τ).loc main_arg3) := by
  refine (dats m 0 c).arrAt_eq_of_covers 3 (m ((c.tc : Thread nD τ).loc main_arg3)) (by decide +kernel) fun t hf y => ?_
  have ei : ∀ t : Fin cfg0.N, win0_0.index t = ![0, 0, 0] := (by decide +kernel : ∀ t : Fin grid0.N, _)
  have eo : ∀ t : Fin cfg0.N, win0_3.index t = ![0, 0, 0] := (by decide +kernel : ∀ t : Fin grid0.N, _)
  rw [after0_3]
  frame_out
  blk_simp [iblk, k0_pay1]
  show m ((c.tc : Thread nD τ).loc main_arg3) ((win0_0.blk t).view.emb y) = _
  refine congrArg (m ((c.tc : Thread nD τ).loc main_arg3)) ?_
  blk_ext [ei, eo]

theorem final_k (c : Dev nD) : (dats m 0 c).arrAt 4 cfg0.N = m ((c.tc : Thread nD τ).loc main_arg4) := by
  refine (dats m 0 c).arrAt_eq_of_covers 4 (m ((c.tc : Thread nD τ).loc main_arg4)) (by decide +kernel) fun t hf y => ?_
  have ei : ∀ t : Fin cfg0.N, win0_1.index t = ![0, 0, 0] := (by decide +kernel : ∀ t : Fin grid0.N, _)
  have eo : ∀ t : Fin cfg0.N, win0_4.index t = ![0, 0, 0] := (by decide +kernel : ∀ t : Fin grid0.N, _)
  rw [after0_4]
  frame_out
  blk_simp [iblk, k0_pay2]
  show m ((c.tc : Thread nD τ).loc main_arg4) ((win0_1.blk t).view.emb y) = _
  refine congrArg (m ((c.tc : Thread nD τ).loc main_arg4)) ?_
  blk_ext [ei, eo]

theorem final_v (c : Dev nD) : (dats m 0 c).arrAt 5 cfg0.N = m ((c.tc : Thread nD τ).loc main_arg5) := by
  refine (dats m 0 c).arrAt_eq_of_covers 5 (m ((c.tc : Thread nD τ).loc main_arg5)) (by decide +kernel) fun t hf y => ?_
  have ei : ∀ t : Fin cfg0.N, win0_2.index t = ![0, 0, 0] := (by decide +kernel : ∀ t : Fin grid0.N, _)
  have eo : ∀ t : Fin cfg0.N, win0_5.index t = ![0, 0, 0] := (by decide +kernel : ∀ t : Fin grid0.N, _)
  rw [after0_5]
  frame_out
  blk_simp [iblk, k0_pay3]
  show m ((c.tc : Thread nD τ).loc main_arg5) ((win0_2.blk t).view.emb y) = _
  refine congrArg (m ((c.tc : Thread nD τ).loc main_arg5)) ?_
  blk_ext [ei, eo]

/-- What the reference leaves. -/
def result (a0 a1 : FVec Ideal S2x254x16 .f32) (a2 : FVec Ideal S2x16 .f32) (y0 y1 : FVec Ideal S2x32512x2048 .f32) (y2 : FVec Ideal S2x2048x32512 .f32) :
    FVec Ideal S2x32400x2048 .bf16 :=
  rout a2 (racc y2 (rr (rclip (rp (rs a0 a1 y0 y1))))) (rl (rp (rs a0 a1 y0 y1)))

theorem tail_v58 (c : Dev nD) :
    Pipeline.afterTail₀ cfgs (dats m) 0 (V0 m) [hostOps1, hostOps1_1, hostOps1_2] c main_v58
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Pipeline.afterTail₀
  rw [after_v58]
  have hinj : Function.Injective (Pipeline.arrRef spec0) := by decide
  have h3 := (Pipeline.withArrays_arr spec0 hinj c (V0 m c) (fun w => (dats m 0 c).arrAt w cfg0.N) 3).trans (final_q m c)
  have h4 := (Pipeline.withArrays_arr spec0 hinj c (V0 m c) (fun w => (dats m 0 c).arrAt w cfg0.N) 4).trans (final_k m c)
  have h5 := (Pipeline.withArrays_arr spec0 hinj c (V0 m c) (fun w => (dats m 0 c).arrAt w cfg0.N) 5).trans (final_v m c)
  have g0 := (Pipeline.withArrays_of_ne spec0 c (V0 m c) (fun w => (dats m 0 c).arrAt w cfg0.N) main_arg0 (by exact (by decide : ∀ w, Pipeline.arrRef spec0 w ≠ main_arg0)))
  have g1 := (Pipeline.withArrays_of_ne spec0 c (V0 m c) (fun w => (dats m 0 c).arrAt w cfg0.N) main_arg1 (by exact (by decide : ∀ w, Pipeline.arrRef spec0 w ≠ main_arg1)))
  have g2 := (Pipeline.withArrays_of_ne spec0 c (V0 m c) (fun w => (dats m 0 c).arrAt w cfg0.N) main_arg2 (by exact (by decide : ∀ w, Pipeline.arrRef spec0 w ≠ main_arg2)))
  unfold result
  exact congr (congr (congrArg rout g2) (congr (congrArg racc h5) (congrArg rr (congrArg rclip (congrArg rp (congr (congr (congr (congrArg rs g0) g1) h3) h4))))))
    (congrArg rl (congrArg rp (congr (congr (congr (congrArg rs g0) g1) h3) h4)))

end Run

end Cert.ReferenceIdeal

end
-- ==== Proof.RefAt.lean ====
/- The reference, read: an element of its result. -/
module

public import proofs.«01_k».proof.Proof.RefVal

@[expose] public section

set_option synthInstance.maxSize 4096

noncomputable section

namespace Cert.ReferenceIdeal

open Idealize.ShloMosaic Idealize.ShloMosaic.TcCoe Idealize.SL.Sem
open Gen Attn

theorem sum_fin {N : Nat} (g : Fin N → EReal) (f : Nat → EReal) (h : ∀ k : Fin N, g k = f k.val) :
    ∑ k : Fin N, g k = ∑ k ∈ Finset.range N, f k := by
  rw [Finset.sum_range]
  exact Finset.sum_congr rfl fun k _ => h k

theorem sup_fin {N : Nat} (g : Fin N → EReal) (f : Nat → EReal) (h : ∀ k : Fin N, g k = f k.val) :
    Finset.univ.sup g = (Finset.range N).sup f := by
  refine eq_of_forall_ge_iff fun x => ?_
  rw [Finset.sup_le_iff, Finset.sup_le_iff]
  constructor
  · intro hg k hk
    rw [Finset.mem_range] at hk
    exact (h ⟨k, hk⟩) ▸ hg ⟨k, hk⟩ (Finset.mem_univ _)
  · intro hf k _
    rw [h]
    exact hf k.val (Finset.mem_range.mpr k.isLt)

theorem clip_real (x : EReal) : ∃ r : ℝ, min ((448 : ℝ) : EReal) (max 0 x) = (r : EReal) := by
  have h0 : (0 : EReal) ≤ min ((448 : ℝ) : EReal) (max 0 x) := le_min (EReal.coe_nonneg.mpr (by norm_num)) (le_max_left _ _)
  have h1 : min ((448 : ℝ) : EReal) (max 0 x) ≤ ((448 : ℝ) : EReal) := min_le_left _ _
  refine ⟨(min ((448 : ℝ) : EReal) (max 0 x)).toReal, (EReal.coe_toReal ?_ ?_).symm⟩
  · exact ne_top_of_le_ne_top (EReal.coe_ne_top _) h1
  · exact ne_bot_of_le_ne_bot (EReal.zero_ne_bot) h0

/-- An element of the result, from the scores and the values of its row. -/
theorem result_at (a0 a1 : FVec Ideal S2x254x16 .f32) (a2 : FVec Ideal S2x16 .f32) (y0 y1 : FVec Ideal S2x32512x2048 .f32)
    (y2 : FVec Ideal S2x2048x32512 .f32) (b : Fin 2) (q : Fin 32400) (j : Fin 2048) (h : Fin 16) (d : Fin 128) (hj : j.val = h.val * 128 + d.val)
    (s v : Nat → EReal) (hs : ∀ k : Fin 32400, rs a0 a1 y0 y1 (ix4 b h ⟨q.val, by omega⟩ k) = s k.val)
    (hv : ∀ k : Fin 32400, y2 (ix3 b j ⟨k.val, by omega⟩) = v k.val) :
    result a0 a1 a2 y0 y1 y2 (ix3 b q j)
      = Ideal.div ((∑ ρ ∈ Finset.range 32400, v ρ * min ((448 : ℝ) : EReal) (max 0 (Ideal.exp (s ρ - (Finset.range 32400).sup s) * ((256 : ℝ) : EReal))))
          * (a2 (ix2 b h) * ((1 / 256 : ℝ) : EReal)))
        (∑ ρ ∈ Finset.range 32400, Ideal.exp (s ρ - (Finset.range 32400).sup s)) := by
  have eh : (⟨j.val / 128, by omega⟩ : Fin 16) = h := Fin.ext (by show j.val / 128 = h.val; omega)
  have ed : (⟨j.val % 128, by omega⟩ : Fin 128) = d := Fin.ext (by show j.val % 128 = d.val; omega)
  have ej : (⟨h.val * 128 + d.val, by omega⟩ : Fin 2048) = j := Fin.ext hj.symm
  have hp : ∀ k : Fin 32400, rp (rs a0 a1 y0 y1) (ix4 b h ⟨q.val, by omega⟩ k) = Ideal.exp (s k.val - (Finset.range 32400).sup s) := fun k => by
    rw [rp_at, sup_fin _ s hs, hs]
  unfold result
  rw [rout_at, eh, ed, rl_at, racc_at, ej, sum_fin _ (fun k => Ideal.exp (s k - (Finset.range 32400).sup s)) hp,
    sum_fin _ (fun ρ => v ρ * min ((448 : ℝ) : EReal) (max 0 (Ideal.exp (s ρ - (Finset.range 32400).sup s) * ((256 : ℝ) : EReal)))) fun k => ?_]
  obtain ⟨r, hr⟩ := clip_real (rp (rs a0 a1 y0 y1) (ix4 b h ⟨q.val, by omega⟩ k) * ((256 : ℝ) : EReal))
  rw [rr_at _ b h _ k r ((rclip_at _ b h _ k).trans hr), rclip_at, hp, hv]

end Cert.ReferenceIdeal

end
-- ==== Proof.Soft.lean ====
/- The weights to base two with a bias of eight are 256 times the exponentials, and the two ways of scaling the weighted values
   agree, over all the extended reals. -/
module

public import proofs.«01_k».proof.Proof.ValAt

@[expose] public section

noncomputable section

namespace Attn

open Idealize.ShloMosaic

/-- The factor from natural to binary logarithms. -/
abbrev lg2 : ℝ := (Real.log 2)⁻¹

theorem lg2_pos : 0 < lg2 := inv_pos.mpr (Real.log_pos (by norm_num))

theorem rpow_lg2 (x : ℝ) : Real.rpow 2 (x * lg2 + 8) = 256 * Real.exp x := by
  have h2 : Real.log 2 ≠ 0 := (Real.log_pos (by norm_num)).ne'
  show (2 : ℝ) ^ (x * lg2 + 8) = _
  rw [Real.rpow_add (by norm_num), Real.rpow_def_of_pos (by norm_num)]
  rw [show Real.log 2 * (x * lg2) = x by unfold lg2; field_simp]
  rw [show (2 : ℝ) ^ (8 : ℝ) = 256 by norm_num]
  ring

theorem coe_sum (N : Nat) (r : Nat → ℝ) : ((∑ ρ ∈ Finset.range N, r ρ : ℝ) : EReal) = ∑ ρ ∈ Finset.range N, (r ρ : EReal) := by
  induction N with
  | zero => simp
  | succ N ih => rw [Finset.sum_range_succ, Finset.sum_range_succ, EReal.coe_add, ih]

/-- A weight: between 0 and 1 as an exponential, and 256 times that to base two. -/
theorem weight (s M : EReal) (h : s ≤ M) :
    ∃ r : ℝ, 0 ≤ r ∧ r ≤ 1 ∧ Ideal.exp (s - M) = (r : EReal) ∧
      Ideal.exp2 (s * (lg2 : EReal) - (M * (lg2 : EReal) - ((8 : ℝ) : EReal))) = ((256 * r : ℝ) : EReal) := by
  have hp := lg2_pos
  induction s using EReal.rec with
  | bot =>
    refine ⟨0, le_refl _, zero_le_one, ?_, ?_⟩
    · rw [EReal.bot_sub]; simp
    · rw [EReal.bot_mul_coe_of_pos hp, EReal.bot_sub]; simp
  | top =>
    obtain rfl : M = ⊤ := top_le_iff.mp h
    refine ⟨0, le_refl _, zero_le_one, ?_, ?_⟩
    · rw [EReal.sub_top]; simp
    · rw [EReal.top_mul_coe_of_pos hp, EReal.top_sub_coe, EReal.sub_top]; simp
  | coe s =>
    induction M using EReal.rec with
    | bot => exact absurd h (not_le.mpr (EReal.bot_lt_coe s))
    | top =>
      refine ⟨0, le_refl _, zero_le_one, ?_, ?_⟩
      · rw [EReal.sub_top]; simp
      · rw [EReal.top_mul_coe_of_pos hp, EReal.top_sub_coe, EReal.sub_top]; simp
    | coe M =>
      have hle : s ≤ M := EReal.coe_le_coe_iff.mp h
      refine ⟨Real.exp (s - M), (Real.exp_pos _).le, Real.exp_le_one_iff.mpr (by linarith), ?_, ?_⟩
      · rw [← EReal.coe_sub, Ideal.exp_coe]
      · rw [← EReal.coe_mul, ← EReal.coe_mul, ← EReal.coe_sub, ← EReal.coe_sub, Ideal.exp2_coe,
          show s * lg2 - (M * lg2 - 8) = (s - M) * lg2 + 8 by ring, rpow_lg2]

/-- A least upper bound times the factor. -/
theorem sup_lg2 (N : Nat) (s : Nat → EReal) :
    (Finset.range N).sup (fun ρ => s ρ * (lg2 : EReal)) = (Finset.range N).sup s * (lg2 : EReal) := by
  have hp := lg2_pos
  have hm : Monotone fun x : EReal => x * (lg2 : EReal) := fun x y h => mul_le_mul_of_nonneg_right h (EReal.coe_nonneg.mpr hp.le)
  have hb : (⊥ : EReal) * (lg2 : EReal) = ⊥ := EReal.bot_mul_coe_of_pos hp
  exact (Finset.comp_sup_eq_sup_comp (fun x : EReal => x * (lg2 : EReal)) (fun x y => hm.map_sup x y) hb).symm

/-- The kernel's result from the scores is the reference's. -/
theorem soft (N : Nat) (s v : Nat → EReal) (vs : EReal) :
    Ideal.div ((∑ ρ ∈ Finset.range N, v ρ * min (Ideal.exp2 (s ρ * (lg2 : EReal)
        - ((Finset.range N).sup (fun ρ => s ρ * (lg2 : EReal)) - ((8 : ℝ) : EReal)))) ((448 : ℝ) : EReal)) * vs)
      (∑ ρ ∈ Finset.range N, Ideal.exp2 (s ρ * (lg2 : EReal)
        - ((Finset.range N).sup (fun ρ => s ρ * (lg2 : EReal)) - ((8 : ℝ) : EReal))))
    = Ideal.div ((∑ ρ ∈ Finset.range N, v ρ * min ((448 : ℝ) : EReal) (max 0 (Ideal.exp (s ρ - (Finset.range N).sup s) * ((256 : ℝ) : EReal))))
        * (vs * ((1 / 256 : ℝ) : EReal)))
      (∑ ρ ∈ Finset.range N, Ideal.exp (s ρ - (Finset.range N).sup s)) := by
  rw [sup_lg2]
  generalize hM : (Finset.range N).sup s = M
  have hle : ∀ ρ ∈ Finset.range N, s ρ ≤ M := fun ρ hρ => hM ▸ Finset.le_sup hρ
  have hw : ∀ ρ, ∃ r : ℝ, ρ ∈ Finset.range N → 0 ≤ r ∧ r ≤ 1 ∧ Ideal.exp (s ρ - M) = (r : EReal) ∧
      Ideal.exp2 (s ρ * (lg2 : EReal) - (M * (lg2 : EReal) - ((8 : ℝ) : EReal))) = ((256 * r : ℝ) : EReal) := fun ρ => by
    by_cases hρ : ρ ∈ Finset.range N
    · obtain ⟨r, h⟩ := weight (s ρ) M (hle ρ hρ)
      exact ⟨r, fun _ => h⟩
    · exact ⟨0, fun h => absurd h hρ⟩
  choose r hr using hw
  have e1 : ∑ ρ ∈ Finset.range N, v ρ * min (Ideal.exp2 (s ρ * (lg2 : EReal) - (M * (lg2 : EReal) - ((8 : ℝ) : EReal)))) ((448 : ℝ) : EReal)
      = ∑ ρ ∈ Finset.range N, v ρ * ((256 * r ρ : ℝ) : EReal) := Finset.sum_congr rfl fun ρ hρ => by
    obtain ⟨h0, h1, -, h⟩ := hr ρ hρ
    rw [h, min_eq_left (EReal.coe_le_coe_iff.mpr (by linarith))]
  have e2 : ∑ ρ ∈ Finset.range N, v ρ * min ((448 : ℝ) : EReal) (max 0 (Ideal.exp (s ρ - M) * ((256 : ℝ) : EReal)))
      = ∑ ρ ∈ Finset.range N, v ρ * ((256 * r ρ : ℝ) : EReal) := Finset.sum_congr rfl fun ρ hρ => by
    obtain ⟨h0, h1, h, -⟩ := hr ρ hρ
    rw [h, ← EReal.coe_mul, mul_comm (r ρ) 256, max_eq_right (EReal.coe_nonneg.mpr (by linarith)),
      min_eq_right (EReal.coe_le_coe_iff.mpr (by linarith))]
  have e3 : ∑ ρ ∈ Finset.range N, Ideal.exp2 (s ρ * (lg2 : EReal) - (M * (lg2 : EReal) - ((8 : ℝ) : EReal)))
      = ((256 * ∑ ρ ∈ Finset.range N, r ρ : ℝ) : EReal) := by
    rw [Finset.mul_sum, coe_sum]
    exact Finset.sum_congr rfl fun ρ hρ => (hr ρ hρ).2.2.2
  have e4 : ∑ ρ ∈ Finset.range N, Ideal.exp (s ρ - M) = ((∑ ρ ∈ Finset.range N, r ρ : ℝ) : EReal) := by
    rw [coe_sum]
    exact Finset.sum_congr rfl fun ρ hρ => (hr ρ hρ).2.2.1
  rw [e1, e2, e3, e4]
  by_cases hl : ∑ ρ ∈ Finset.range N, r ρ = 0
  · have hz : ∀ ρ ∈ Finset.range N, r ρ = 0 := (Finset.sum_eq_zero_iff_of_nonneg fun ρ hρ => (hr ρ hρ).1).1 hl
    have ho : ∑ ρ ∈ Finset.range N, v ρ * ((256 * r ρ : ℝ) : EReal) = 0 := Finset.sum_eq_zero fun ρ hρ => by
      rw [hz ρ hρ, mul_zero, EReal.coe_zero, mul_zero]
    rw [ho, hl, mul_zero, zero_mul, zero_mul]
  · have hl' : 256 * ∑ ρ ∈ Finset.range N, r ρ ≠ 0 := mul_ne_zero (by norm_num) hl
    rw [Ideal.div_coe hl', Ideal.div_coe hl]
    clear hl'
    generalize ∑ ρ ∈ Finset.range N, v ρ * ((256 * r ρ : ℝ) : EReal) = O
    generalize ∑ ρ ∈ Finset.range N, r ρ = l at hl ⊢
    rw [mul_assoc, mul_assoc, mul_assoc, ← EReal.coe_mul]
    refine congrArg (fun z : ℝ => O * (vs * (z : EReal))) ?_
    field_simp

end Attn

end
-- ==== Proof.KVal.lean ====
/- The kernel's result, read: it is the reference's. -/
module

public import proofs.«01_k».proof.Proof.KBlk
public import proofs.«01_k».proof.Proof.PtVal
public import proofs.«01_k».proof.Proof.RefAt
public import proofs.«01_k».proof.Proof.Soft

@[expose] public section

set_option synthInstance.maxSize 4096

noncomputable section

namespace Cert.KernelIdeal

open Idealize.ShloMosaic Idealize.ShloMosaic.TcCoe Idealize.SL.Sem
open Attn Gen

variable (m : (ℓ : Loc nD τ sig) → Buf (Elt Ideal) ℓ) (c : Dev nD)

theorem kM_eq : (kM : Ideal .f32) = (⊥ : EReal) := rfl
theorem kL_eq : (kL : Ideal .f32) = (((Real.sqrt 128)⁻¹ * (Real.log 2)⁻¹ : ℝ) : EReal) := rfl

/-! ## The scratch -/

/-- The score of a key and a query of a point. -/
def sc (t : Fin cfg0.N) (x : Fin 256) (ρ : Nat) : EReal :=
  ptS (kL : Ideal .f32) t.val (bQ m c t) (bK m c t) (b4 m c t) (b5 m c t) x ρ

theorem pst_eq (t : Fin cfg0.N) (s : (S32512x256.Idx → EReal) × (S8x256.Idx → EReal)) :
    pst m c t s = ptF (F := Ideal) (⊥ : EReal) (kL : Ideal .f32) t.val (bQ m c t) (bK m c t) (b4 m c t) (b5 m c t) (b6 m c t) s.1 s.2 := by
  unfold pst
  rw [coord0]
  rfl

theorem scr_bot : ∀ n : Nat, n ≤ cfg0.N → ∀ (ρ : Fin 32512) (x : Fin 256), 32400 ≤ ρ.val → (scr m c n).1 (ix2 ρ x) = (⊥ : EReal)
  | 0, _, _, _, _ => rfl
  | n + 1, hn, ρ, x, hρ => by
    have ih := scr_bot n (by omega)
    have h := scr_succ m c ⟨n, hn⟩
    rw [show n + 1 = (⟨n, hn⟩ : Fin cfg0.N).val + 1 from rfl, h, pst_eq]
    show (ptF (F := Ideal) _ _ _ _ _ _ _ _ _ _).T (ix2 ρ x) = _
    rw [ptF_T _ _ _ _ _ _ _ _ _ ih, if_neg (by omega)]

theorem scr_T (t : Fin cfg0.N) (ρ : Fin 32512) (x : Fin 256) :
    (scr m c (t.val + 1)).1 (ix2 ρ x) = if ρ.val < 32400 then sc m c t x ρ.val else (⊥ : EReal) := by
  rw [scr_succ, pst_eq]
  show (ptF (F := Ideal) _ _ _ _ _ _ _ _ _ _).T (ix2 ρ x) = _
  rw [ptF_T _ _ _ _ _ _ _ _ _ (scr_bot m c t.val (by have := t.isLt; omega))]
  rfl

theorem scr_M (t : Fin cfg0.N) (r : Fin 8) (x : Fin 256) :
    (scr m c (t.val + 1)).2 (ix2 r x) = (Finset.range 32400).sup (sc m c t x) := by
  rw [scr_succ, pst_eq]
  show mfin (ptF (F := Ideal) _ _ _ _ _ _ _ _ _ _).m (ix2 r x) = _
  rw [ptF_M]
  rfl

/-! ## The scores are the reference's, over log 2 -/

/-- The scores of the reference, by key. -/
def sr (b : Fin 2) (h : Fin 16) (q : Fin 32512) (k : Nat) : EReal :=
  if hk : k < 32400 then
    Cert.ReferenceIdeal.rs (m ((c.tc : Thread nD τ).loc main_arg0)) (m ((c.tc : Thread nD τ).loc main_arg1)) (m ((c.tc : Thread nD τ).loc main_arg3)) (m ((c.tc : Thread nD τ).loc main_arg4)) (ix4 b h q ⟨k, hk⟩)
  else 0

theorem scale_eq (X Y a0 a1 : EReal) (h : X = Y) :
    X * ((a0 * (((Real.sqrt 128)⁻¹ * (Real.log 2)⁻¹ : ℝ) : EReal)) * a1)
      = Ideal.div ((Y * a0) * a1) ((Real.sqrt 128 : ℝ) : EReal) * (lg2 : EReal) := by
  have h0 : Real.sqrt 128 ≠ 0 := (Real.sqrt_pos.mpr (by norm_num)).ne'
  rw [Ideal.div_coe h0, h, EReal.coe_mul, one_div, lg2]
  simp only [mul_assoc, mul_comm, mul_left_comm]

theorem sc_eq (t : Fin cfg0.N) (x : Fin 256) (ρ : Nat) (hρ : ρ < 32400) (b : Fin 2) (h : Fin 16) (q : Fin 32512)
    (hb : ghd t.val / 16 = b.val) (hh : ghd t.val % 16 = h.val) (hq : gqb t.val * 256 + x.val = q.val) :
    sc m c t x ρ = sr m c b h q ρ * (lg2 : EReal) := by
  unfold sc ptS score sr
  rw [dif_pos (by omega), dif_pos hρ, Cert.ReferenceIdeal.rs_at]
  have hx : x.val < 256 := x.isLt
  have hqv : qvF (kL : Ideal .f32) t.val (bQ m c t) x
      = (show EReal from m ((c.tc : Thread nD τ).loc main_arg0) (ix3 b ⟨q.val / 128, by omega⟩ h)) * (((Real.sqrt 128)⁻¹ * (Real.log 2)⁻¹ : ℝ) : EReal) := by
    unfold qvF
    rw [kL_eq, bQ_at, bQ_at]
    refine congrArg (· * (((Real.sqrt 128)⁻¹ * (Real.log 2)⁻¹ : ℝ) : EReal)) ?_
    split_ifs with h1
    · refine congrArg (m ((c.tc : Thread nD τ).loc main_arg0)) ?_
      congr 1 <;> apply Fin.ext
      · exact hb
      · show 2 * gqb t.val = q.val / 128; omega
      · exact hh
    · refine congrArg (m ((c.tc : Thread nD τ).loc main_arg0)) ?_
      congr 1 <;> apply Fin.ext
      · exact hb
      · show 2 * gqb t.val + 1 = q.val / 128; omega
      · exact hh
  have hkv : bK m c t (ix2 ⟨ghd t.val, ghd_lt t.val⟩ ⟨ρ / 128, by omega⟩)
      = m ((c.tc : Thread nD τ).loc main_arg1) (ix3 b ⟨ρ / 128, by omega⟩ h) := by
    rw [bK_at]
    refine congrArg (m ((c.tc : Thread nD τ).loc main_arg1)) ?_
    congr 1 <;> apply Fin.ext
    · exact hb
    · exact hh
  rw [hqv, hkv]
  refine scale_eq _ _ _ _ (Finset.sum_congr rfl fun d _ => ?_)
  rw [b4_at, b5_at, mul_comm]
  refine congr (congrArg _ (congrArg (m ((c.tc : Thread nD τ).loc main_arg3)) ?_)) (congrArg (m ((c.tc : Thread nD τ).loc main_arg4)) ?_)
  · congr 1 <;> apply Fin.ext
    · exact hb
    · exact hq
    · show ghd t.val % 16 * 128 + d.val = h.val * 128 + d.val; rw [hh]
  · congr 1 <;> apply Fin.ext
    · exact hb
    · show ghd t.val % 16 * 128 + d.val = h.val * 128 + d.val; rw [hh]

/-! ## The result -/

theorem soft_congr (N : Nat) (v S : Nat → EReal) {S' : Nat → EReal} (h : ∀ ρ, ρ < N → S ρ = S' ρ) (vs : EReal) :
    Ideal.div ((∑ ρ ∈ Finset.range N, v ρ * min (Ideal.exp2 (S ρ - ((Finset.range N).sup S - ((8 : ℝ) : EReal)))) ((448 : ℝ) : EReal)) * vs)
        (∑ ρ ∈ Finset.range N, Ideal.exp2 (S ρ - ((Finset.range N).sup S - ((8 : ℝ) : EReal))))
      = Ideal.div ((∑ ρ ∈ Finset.range N, v ρ * min (Ideal.exp2 (S' ρ - ((Finset.range N).sup (fun ρ => S' ρ) - ((8 : ℝ) : EReal)))) ((448 : ℝ) : EReal)) * vs)
        (∑ ρ ∈ Finset.range N, Ideal.exp2 (S' ρ - ((Finset.range N).sup (fun ρ => S' ρ) - ((8 : ℝ) : EReal)))) := by
  have h' : ∀ ρ ∈ Finset.range N, S ρ = S' ρ := fun ρ hρ => h ρ (Finset.mem_range.mp hρ)
  have hs : (Finset.range N).sup S = (Finset.range N).sup (fun ρ => S' ρ) := Finset.sup_congr rfl h'
  rw [hs]
  generalize (Finset.range N).sup (fun ρ => S' ρ) - ((8 : ℝ) : EReal) = β
  have e1 : ∑ ρ ∈ Finset.range N, v ρ * min (Ideal.exp2 (S ρ - β)) ((448 : ℝ) : EReal)
      = ∑ ρ ∈ Finset.range N, v ρ * min (Ideal.exp2 (S' ρ - β)) ((448 : ℝ) : EReal) := Finset.sum_congr rfl fun ρ hρ => by rw [h' ρ hρ]
  have e2 : ∑ ρ ∈ Finset.range N, Ideal.exp2 (S ρ - β) = ∑ ρ ∈ Finset.range N, Ideal.exp2 (S' ρ - β) :=
    Finset.sum_congr rfl fun ρ hρ => by rw [h' ρ hρ]
  rw [e1, e2]

/-- What the kernel leaves in its result: what the reference does. -/
abbrev res : FVec Ideal S2x32400x2048 .bf16 :=
  Cert.ReferenceIdeal.result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- A block written after the first point, at an index. -/
theorem outb_at (s t : Fin cfg0.N) (hst : t.val = s.val + 1) (x : Fin 256) (d : Fin 128) (b : Fin 2) (h : Fin 16) (q : Fin 32400) (j : Fin 2048)
    (hb : ghd s.val / 16 = b.val) (hh : ghd s.val % 16 = h.val) (hq : gqb s.val * 256 + x.val = q.val) (hj : j.val = h.val * 128 + d.val) :
    outb m c t (ix3 0 x d) = res m c (ix3 b q j) := by
  have hs : s.val < 4064 := by have := t.isLt; have : cfg0.N = 4065 := N_0; omega
  have hg : ghd s.val = s.val / 127 := by unfold ghd; omega
  have hv : ∀ k : Fin 32400, (m ((c.tc : Thread nD τ).loc main_arg5) : FVec Ideal S2x2048x32512 .f32) (ix3 b j ⟨k.val, by omega⟩) = rowV (b6 m c t) d k.val := fun k => by
    have hk : k.val < 32512 := by have := k.isLt; omega
    refine Eq.trans ?_ (dif_pos hk).symm
    refine Eq.trans ?_ (b6_at m c t d ⟨k.val, hk⟩).symm
    refine (congrArg (m ((c.tc : Thread nD τ).loc main_arg5)) ?_).symm
    congr 1 <;> apply Fin.ext
    · show ghd (t.val - 1) / 16 = b.val; rw [hst]; exact hb
    · show ghd (t.val - 1) % 16 * 128 + d.val = j.val; rw [hst, hj, ← hh]; rfl
  have hsr : ∀ k : Fin 32400, Cert.ReferenceIdeal.rs (m ((c.tc : Thread nD τ).loc main_arg0)) (m ((c.tc : Thread nD τ).loc main_arg1))
      (m ((c.tc : Thread nD τ).loc main_arg3)) (m ((c.tc : Thread nD τ).loc main_arg4)) (ix4 b h ⟨q.val, by omega⟩ k) = sr m c b h ⟨q.val, by omega⟩ k.val := fun k => by
    unfold sr
    rw [dif_pos k.isLt]
  refine Eq.trans ?_ (Cert.ReferenceIdeal.result_at _ _ _ _ _ _ b q j h d hj (sr m c b h ⟨q.val, by omega⟩) (rowV (b6 m c t) d) hsr hv).symm
  rw [← soft]
  have hT := outF_at (kL : Ideal .f32) t.val (bQ m c t) (bK m c t) (b4 m c t) (b5 m c t) (b6 m c t) (scr m c t.val).1 (scr m c t.val).2
    (S := sc m c s) (M := fun x => (Finset.range 32400).sup (sc m c s x)) (by have := t.isLt; have : cfg0.N = 4065 := N_0; omega) (by omega) (bV m c t)
    (fun ρ x => by rw [hst]; exact scr_T m c s ρ x) (fun r x => by rw [hst]; exact scr_M m c s r x) x d
  have hout : outb m c t (ix3 0 x d) = outF (F := Ideal) (n := t.val) (by have := t.isLt; have : cfg0.N = 4065 := N_0; omega) (bV m c t)
      (ptF (F := Ideal) (⊥ : EReal) (kL : Ideal .f32) t.val (bQ m c t) (bK m c t) (b4 m c t) (b5 m c t) (b6 m c t) (scr m c t.val).1 (scr m c t.val).2) (ix3 0 x d) := by
    have hc : ∀ (n : Nat) (hn : n < 4065) (hn' : t.val < 4065), n = t.val → ∀ st : St Ideal,
        outF (F := Ideal) hn (bV m c t) st = outF (F := Ideal) hn' (bV m c t) st := fun n hn hn' e st => by subst e; rfl
    unfold outb
    rw [pst_eq]
    exact congrFun (hc _ _ _ (coord0 t) _) _
  refine hout.trans (hT.trans ?_)
  have hvs : bV m c t (ix1 ⟨(t.val - 1) / 127, by omega⟩) = m ((c.tc : Thread nD τ).loc main_arg2) (ix2 b h) := by
    rw [bV_at]
    have i1 : (t.val - 1) / 127 / 16 = b.val := by rw [← hb, hg, hst]; rfl
    have i2 : (t.val - 1) / 127 % 16 = h.val := by rw [← hh, hg, hst]; rfl
    exact congrArg (m ((c.tc : Thread nD τ).loc main_arg2)) (congr (congrArg ix2 (Fin.ext i1)) (Fin.ext i2))
  rw [hvs]
  exact soft_congr _ _ _ (fun ρ hρ => sc_eq m c s x ρ hρ b h _ hb hh hq) _

theorem outb_read (t : Fin cfg0.N) (h0 : t.val ≠ 0) (i : S1x256x128.Idx) (k : S2x32400x2048.Idx) (k0 : (k 0).val = ghd (t.val - 1) / 16 * 1 + (i 0).val)
    (k1 : (k 1).val = gqb (t.val - 1) * 256 + (i 1).val) (k2 : (k 2).val = ghd (t.val - 1) % 16 * 128 + (i 2).val) :
    outb m c t i = res m c k := by
  have ei : i = ix3 0 (i 1) (i 2) := by
    funext a
    fin_cases a
    · exact Fin.ext (by have h : (i 0).val < 1 := (i 0).isLt; show (i 0).val = 0; omega)
    · rfl
    · rfl
  have ek : k = ix3 (k 0) (k 1) (k 2) := by
    funext a
    fin_cases a <;> rfl
  rw [ei, ek]
  have hs : t.val - 1 < cfg0.N := by have := t.isLt; omega
  exact outb_at m c ⟨t.val - 1, hs⟩ t (by show t.val = t.val - 1 + 1; omega) (i 1) (i 2) (k 0)
    ⟨ghd (t.val - 1) % 16, by omega⟩ (k 1) (k 2) (by have h : (i 0).val < 1 := (i 0).isLt; show ghd (t.val - 1) / 16 = (k 0).val; omega) rfl k1.symm k2

end Cert.KernelIdeal

end
-- ==== Proof.KOut.lean ====
/- The kernel's result array. -/
module

public import proofs.«01_k».proof.Proof.KVal

@[expose] public section

set_option synthInstance.maxSize 4096

noncomputable section

namespace Cert.KernelIdeal

open Idealize.ShloMosaic Idealize.ShloMosaic.TcCoe Idealize.SL.Sem
open Attn Gen

variable (m : (ℓ : Loc nD τ sig) → Buf (Elt Ideal) ℓ) (c : Dev nD)

theorem N_pos : 0 < grid0.N := by rw [N_0]; omega

theorem flush_zero : win0_6.flush ⟨0, N_pos⟩ = false := by decide +kernel

theorem flush_ne (t : Fin cfg0.N) (hf : (cfg0.win 6).flush t = true) : t.val ≠ 0 := by
  intro h0
  have e : t = ⟨0, by have : cfg0.N = 4065 := N_0; omega⟩ := Fin.ext h0
  rw [e] at hf
  exact absurd (flush_zero.symm.trans hf) (by decide)

set_option maxHeartbeats 4000000 in
theorem covers6 : win0_6.Covers := by decide +kernel

theorem final_out : (dats m 0 c).arrAt 6 cfg0.N = res m c := by
  refine (dats m 0 c).arrAt_eq_of_covers 6 (res m c) covers6 fun t hf y => ?_
  have h0 : t.val ≠ 0 := flush_ne t hf
  refine outb_read m c t h0 _ _ ?_ ?_ ?_
  · have hy : (y 0).val < 1 := ((cfg0.win 6).xinj (cfg0.grid.coords t) y 0).isLt
    blk_simp [e6]
    omega
  · blk_simp [e6]
  · blk_simp [e6]

end Cert.KernelIdeal

end
-- ==== Proof.lean ====
module

public import proofs.«01_k».proof.Defs
public import proofs.«01_k».proof.Proof.RunKernel
public import proofs.«01_k».proof.Proof.KOut

@[expose] public section

noncomputable section

namespace Cert.Proof

open Idealize.ShloMosaic Idealize.ShloMosaic.TcCoe Idealize.SL.Sem

/-- The two named constants stand for the ideal values the rewriting says. -/
theorem preserves : Cert.preserves_Kernel_KernelIdeal :=
  ⟨IdealRules.named_const.statement Cert.KernelIdeal.κ "mask" .f32 0xF149F2CA#32 ⊥ rfl,
    IdealRules.named_const.statement Cert.KernelIdeal.κ "log2e_over_sqrt_d" .f32 0x3E0293EE#32
      (((Real.sqrt 128)⁻¹ * (Real.log 2)⁻¹ : ℝ) : EReal) rfl⟩

/-- What the kernel's run leaves in its result. -/
theorem kernel_out (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v5) = Cert.KernelIdeal.res m c) :=
  (θ_run _ _ _).mono (fun _ h c => ((h.1 c).1 6).trans (Cert.KernelIdeal.final_out m c)) (Cert.KernelIdeal.run m g)

/-- What the reference's run leaves in its result. -/
theorem reference_out (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v58)
          = Cert.ReferenceIdeal.result (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg4))
              (m ((c.tc : Thread Cert.ReferenceIdeal.nD Cert.ReferenceIdeal.τ).loc Cert.ReferenceIdeal.main_arg5))) :=
  (θ_run _ _ _).mono (fun _ h c => ((h c).2 Cert.ReferenceIdeal.main_v58
    (Pipeline.mem_restRefs_of Cert.ReferenceIdeal.main_v58 (by decide) (by decide))).trans (Cert.ReferenceIdeal.tail_v58 m c))
    (Cert.ReferenceIdeal.Gen.run_main m g)

/-- The kernel and the reference leave the same result. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => Cert.KernelIdeal.res m c, ?_, ?_⟩
  · exact (θ_run _ _ _).mono (fun _ h c => ⟨h.1 c, h.2.1 c⟩) (θ_run_and (kernel_out m g) (Cert.KernelIdeal.frame_run m g))
  · refine (θ_run _ _ _).mono (fun _ h c => ⟨(h.1 c).trans ?_, h.2 c⟩) (θ_run_and (reference_out m' g') (Cert.ReferenceIdeal.Gen.unchanged m' g'))
    obtain ⟨h0, h1, h2, h3, h4, h5⟩ := hm c
    rw [h0, h1, h2, h3, h4, h5]

theorem claim : Cert.Claim := ⟨Cert.Kernel.Gen.facts, Cert.KernelIdeal.Gen.facts, Cert.ReferenceIdeal.Gen.facts,
  fun m g _ => Cert.Kernel.frame_run m g, fun m g _ => Cert.KernelIdeal.frame_run m g,
  fun m g _ => Cert.ReferenceIdeal.Gen.frame m g, preserves, algebraic⟩

end Cert.Proof

end
